-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S2x224x2x1024 Cert.KernelIdeal.S2x224x1x1024
  ∧ IdealRules.bf16_pair.Statement Cert.KernelIdeal.S32x1024 Cert.KernelIdeal.S16x1024
  ∧ IdealRules.bf16_pair.Statement Cert.KernelIdeal.S1x16x2x1024 Cert.KernelIdeal.S1x16x1x1024
  ∧ IdealRules.bf16_pair.Statement Cert.KernelIdeal.S1x1x2x128 Cert.KernelIdeal.S1x1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x7168 : Shape := ⟨2, ![128, 7168]⟩
abbrev S3584x18432 : Shape := ⟨2, ![3584, 18432]⟩
abbrev S448x18432 : Shape := ⟨2, ![448, 18432]⟩
abbrev S32256x128 : Shape := ⟨2, ![32256, 128]⟩
abbrev S16128x128 : Shape := ⟨2, ![16128, 128]⟩
abbrev S18432x128 : Shape := ⟨2, ![18432, 128]⟩
abbrev S128x18432 : Shape := ⟨2, ![128, 18432]⟩
abbrev S3584x1024 : Shape := ⟨2, ![3584, 1024]⟩
abbrev S448x1024 : Shape := ⟨2, ![448, 1024]⟩
abbrev S1792x128 : Shape := ⟨2, ![1792, 128]⟩
abbrev S896x128 : Shape := ⟨2, ![896, 128]⟩
abbrev S1024x128 : Shape := ⟨2, ![1024, 128]⟩
abbrev S128x1024 : Shape := ⟨2, ![128, 1024]⟩
abbrev S2x224x1024 : Shape := ⟨3, ![2, 224, 1024]⟩
abbrev S32x1024 : Shape := ⟨2, ![32, 1024]⟩
abbrev S16x1024 : Shape := ⟨2, ![16, 1024]⟩
abbrev S1x16x1024 : Shape := ⟨3, ![1, 16, 1024]⟩
abbrev S8x128 : Shape := ⟨2, ![8, 128]⟩
abbrev S16x128 : Shape := ⟨2, ![16, 128]⟩
abbrev S32x128 : Shape := ⟨2, ![32, 128]⟩
abbrev S128x128 : Shape := ⟨2, ![128, 128]⟩
abbrev S256x128 : Shape := ⟨2, ![256, 128]⟩
abbrev S1x1x128 : Shape := ⟨3, ![1, 1, 128]⟩
abbrev S1x128 : Shape := ⟨2, ![1, 128]⟩
abbrev S256x256 : Shape := ⟨2, ![256, 256]⟩
abbrev S128x256 : Shape := ⟨2, ![128, 256]⟩

abbrev nBuf : Space → Nat
  | .hbm => 8
  | .vmem => 17
  | .smem => 0
  | _ => 0

abbrev bufTy : (tb : Table) → Fin (tcTables nBuf tb) → BufTy
  | .hbm, ⟨0, _⟩ => ⟨S128x7168, .bf16⟩
  | .hbm, ⟨1, _⟩ => ⟨S3584x18432, .i8⟩
  | .hbm, ⟨2, _⟩ => ⟨S448x18432, .bf16⟩
  | .hbm, ⟨3, _⟩ => ⟨S448x18432, .i8⟩
  | .hbm, ⟨4, _⟩ => ⟨S32256x128, .i32⟩
  | .hbm, ⟨5, _⟩ => ⟨S16128x128, .i32⟩
  | .hbm, ⟨6, _⟩ => ⟨S18432x128, .f32⟩
  | .hbm, ⟨7, _⟩ => ⟨S128x18432, .bf16⟩
  | .local _ .vmem, ⟨0, _⟩ => ⟨S128x7168, .bf16⟩
  | .local _ .vmem, ⟨1, _⟩ => ⟨S3584x1024, .i8⟩
  | .local _ .vmem, ⟨2, _⟩ => ⟨S3584x1024, .i8⟩
  | .local _ .vmem, ⟨3, _⟩ => ⟨S448x1024, .bf16⟩
  | .local _ .vmem, ⟨4, _⟩ => ⟨S448x1024, .bf16⟩
  | .local _ .vmem, ⟨5, _⟩ => ⟨S448x1024, .i8⟩
  | .local _ .vmem, ⟨6, _⟩ => ⟨S448x1024, .i8⟩
  | .local _ .vmem, ⟨7, _⟩ => ⟨S1792x128, .i32⟩
  | .local _ .vmem, ⟨8, _⟩ => ⟨S1792x128, .i32⟩
  | .local _ .vmem, ⟨9, _⟩ => ⟨S896x128, .i32⟩
  | .local _ .vmem, ⟨10, _⟩ => ⟨S896x128, .i32⟩
  | .local _ .vmem, ⟨11, _⟩ => ⟨S1024x128, .f32⟩
  | .local _ .vmem, ⟨12, _⟩ => ⟨S1024x128, .f32⟩
  | .local _ .vmem, ⟨13, _⟩ => ⟨S128x1024, .bf16⟩
  | .local _ .vmem, ⟨14, _⟩ => ⟨S128x1024, .bf16⟩
  | .local _ .vmem, ⟨15, _⟩ => ⟨S2x224x1024, .i32⟩
  | .local _ .vmem, ⟨16, _⟩ => ⟨S2x224x1024, .i32⟩
  | _, _ => ⟨S128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨1, ![18], ![false]⟩

@[reducible] def k0_t1_loop : Scf.Loop 32 :=
  let c0_i32_0_r0 : BitVec 32 := 0#32
  let c14_i32_r0 : BitVec 32 := 14#32
  let v0_r0 : BitVec 32 := Scalar.addi c0_i32_0_r0 c14_i32_r0
  let c1_i32_r0 : BitVec 32 := 1#32
  ⟨c0_i32_0_r0, v0_r0, c1_i32_r0⟩
def k0_off1 (k0_t1 : Fin k0_t1_loop.trips) : Fin 2 → Nat :=
  let c0_i32_0_r0 : BitVec 32 := 0#32
  let c1_i32_r0 : BitVec 32 := 1#32
  let arg11_r0 : BitVec 32 := Scf.iv c0_i32_0_r0 c1_i32_r0 k0_t1
  let c32_i32_r0 : BitVec 32 := 32#32
  let v4_r0 : BitVec 32 := Scalar.muli arg11_r0 c32_i32_r0
  let v5_r0 : Index := Scalar.indexCast v4_r0
  let c0_r0 : Index := 0#32
  ![v5_r0.toNat, 0]
def k0_off2 (k0_t1 : Fin k0_t1_loop.trips) : Fin 3 → Nat :=
  let c0_9_r0 : Index := 0#32
  let c0_i32_0_r0 : BitVec 32 := 0#32
  let c1_i32_r0 : BitVec 32 := 1#32
  let arg11_r0 : BitVec 32 := Scf.iv c0_i32_0_r0 c1_i32_r0 k0_t1
  let c16_i32_8_r0 : BitVec 32 := 16#32
  let v18_r0 : BitVec 32 := Scalar.muli arg11_r0 c16_i32_8_r0
  let v19_r0 : Index := Scalar.indexCast v18_r0
  let c0_10_r0 : Index := 0#32
  ![0, v19_r0.toNat, 0]
def k0_off3 (k0_t1 : Fin k0_t1_loop.trips) : Fin 3 → Nat :=
  let c1_r0 : Index := 1#32
  let c0_i32_0_r0 : BitVec 32 := 0#32
  let c1_i32_r0 : BitVec 32 := 1#32
  let arg11_r0 : BitVec 32 := Scf.iv c0_i32_0_r0 c1_i32_r0 k0_t1
  let c16_i32_17_r0 : BitVec 32 := 16#32
  let v38_r0 : BitVec 32 := Scalar.muli arg11_r0 c16_i32_17_r0
  let v39_r0 : Index := Scalar.indexCast v38_r0
  let c0_18_r0 : Index := 0#32
  ![1, v39_r0.toNat, 0]
@[reducible] def k0_t2_loop : Scf.Loop 32 :=
  let c0_i32_3_r0 : BitVec 32 := 0#32
  let c2_i32_r0 : BitVec 32 := 2#32
  let v2_r0 : BitVec 32 := Scalar.addi c0_i32_3_r0 c2_i32_r0
  let c1_i32_4_r0 : BitVec 32 := 1#32
  ⟨c0_i32_3_r0, v2_r0, c1_i32_4_r0⟩
@[reducible] def k0_t3_loop : Scf.Loop 32 :=
  let c0_i32_9_r0 : BitVec 32 := 0#32
  let c14_i32_10_r0 : BitVec 32 := 14#32
  let v6_r0 : BitVec 32 := Scalar.addi c0_i32_9_r0 c14_i32_10_r0
  let c1_i32_11_r0 : BitVec 32 := 1#32
  ⟨c0_i32_9_r0, v6_r0, c1_i32_11_r0⟩
def k0_mult1 (k0_t2 : Fin k0_t2_loop.trips) : BitVec 32 :=
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c128_i32_r0 : BitVec 32 := 128#32
  let v35_r0 : BitVec 32 := Scalar.muli v34_r0 c128_i32_r0
  v35_r0
def k0_mult2 (k0_t2 : Fin k0_t2_loop.trips) (k0_t3 : Fin k0_t3_loop.trips) : BitVec 32 :=
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c224_i32_r0 : BitVec 32 := 224#32
  let v37_r0 : BitVec 32 := Scalar.muli v34_r0 c224_i32_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c8_i32_r0 : BitVec 32 := 8#32
  let v38_r0 : BitVec 32 := Scalar.muli v33_r0 c8_i32_r0
  let v39_r0 : BitVec 32 := Scalar.addi v37_r0 v38_r0
  v39_r0
def k0_off4 (k0_t2 : Fin k0_t2_loop.trips) (k0_t3 : Fin k0_t3_loop.trips) (c0_i32_26_r0 : BitVec 32) : Fin 2 → Nat :=
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c224_i32_r0 : BitVec 32 := 224#32
  let v37_r0 : BitVec 32 := Scalar.muli v34_r0 c224_i32_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_r0 : BitVec 32 := 8#32
  let v38_r0 : BitVec 32 := Scalar.muli v33_r0 c8_i32_r0
  let v39_r0 : BitVec 32 := Scalar.addi v37_r0 v38_r0
  let v40_r0 : BitVec 32 := v39_r0
  let v41_r0 : Index := Scalar.indexCast v40_r0
  let c0_28_r0 : Index := 0#32
  ![v41_r0.toNat, 0]
def k0_mult3 (k0_t2 : Fin k0_t2_loop.trips) (k0_t3 : Fin k0_t3_loop.trips) : BitVec 32 :=
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c112_i32_r0 : BitVec 32 := 112#32
  let v44_r0 : BitVec 32 := Scalar.muli v34_r0 c112_i32_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c0_i32_30_r0 : BitVec 32 := 0#32
  let v46_r0 : BitVec 1 := Scalar.cmpi .sgt v33_r0 c0_i32_30_r0
  let v47_r0 : BitVec 32 := Scalar.extui v46_r0
  let c0_i32_31_r0 : BitVec 32 := 0#32
  let v48_r0 : BitVec 1 := Scalar.cmpi .slt v33_r0 c0_i32_31_r0
  let v49_r0 : BitVec 32 := Scalar.extui v48_r0
  let v50_r0 : BitVec 32 := Scalar.subi v47_r0 v49_r0
  let c2_i32_29_r0 : BitVec 32 := 2#32
  let c0_i32_32_r0 : BitVec 32 := 0#32
  let v51_r0 : BitVec 1 := Scalar.cmpi .sgt c2_i32_29_r0 c0_i32_32_r0
  let v52_r0 : BitVec 32 := Scalar.extui v51_r0
  let c0_i32_33_r0 : BitVec 32 := 0#32
  let v53_r0 : BitVec 1 := Scalar.cmpi .slt c2_i32_29_r0 c0_i32_33_r0
  let v54_r0 : BitVec 32 := Scalar.extui v53_r0
  let v55_r0 : BitVec 32 := Scalar.subi v52_r0 v54_r0
  let v56_r0 : BitVec 1 := Scalar.cmpi .ne v50_r0 v55_r0
  let v57_r0 : BitVec 32 := Scalar.remsi v33_r0 c2_i32_29_r0
  let c0_i32_34_r0 : BitVec 32 := 0#32
  let v58_r0 : BitVec 1 := Scalar.cmpi .ne v57_r0 c0_i32_34_r0
  let v59_r0 : BitVec 1 := Scalar.andi v56_r0 v58_r0
  let v45_r0 : BitVec 32 := Scalar.divsi v33_r0 c2_i32_29_r0
  let c1_i32_35_r0 : BitVec 32 := 1#32
  let v60_r0 : BitVec 32 := Scalar.subi v45_r0 c1_i32_35_r0
  let v61_r0 : BitVec 32 := Scalar.select v59_r0 v60_r0 v45_r0
  let c8_i32_36_r0 : BitVec 32 := 8#32
  let v62_r0 : BitVec 32 := Scalar.muli v61_r0 c8_i32_36_r0
  let v63_r0 : BitVec 32 := Scalar.addi v44_r0 v62_r0
  v63_r0
def k0_off5 (k0_t2 : Fin k0_t2_loop.trips) (k0_t3 : Fin k0_t3_loop.trips) (c0_i32_26_r0 : BitVec 32) : Fin 2 → Nat :=
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c112_i32_r0 : BitVec 32 := 112#32
  let v44_r0 : BitVec 32 := Scalar.muli v34_r0 c112_i32_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c0_i32_30_r0 : BitVec 32 := 0#32
  let v46_r0 : BitVec 1 := Scalar.cmpi .sgt v33_r0 c0_i32_30_r0
  let v47_r0 : BitVec 32 := Scalar.extui v46_r0
  let c0_i32_31_r0 : BitVec 32 := 0#32
  let v48_r0 : BitVec 1 := Scalar.cmpi .slt v33_r0 c0_i32_31_r0
  let v49_r0 : BitVec 32 := Scalar.extui v48_r0
  let v50_r0 : BitVec 32 := Scalar.subi v47_r0 v49_r0
  let c2_i32_29_r0 : BitVec 32 := 2#32
  let c0_i32_32_r0 : BitVec 32 := 0#32
  let v51_r0 : BitVec 1 := Scalar.cmpi .sgt c2_i32_29_r0 c0_i32_32_r0
  let v52_r0 : BitVec 32 := Scalar.extui v51_r0
  let c0_i32_33_r0 : BitVec 32 := 0#32
  let v53_r0 : BitVec 1 := Scalar.cmpi .slt c2_i32_29_r0 c0_i32_33_r0
  let v54_r0 : BitVec 32 := Scalar.extui v53_r0
  let v55_r0 : BitVec 32 := Scalar.subi v52_r0 v54_r0
  let v56_r0 : BitVec 1 := Scalar.cmpi .ne v50_r0 v55_r0
  let v57_r0 : BitVec 32 := Scalar.remsi v33_r0 c2_i32_29_r0
  let c0_i32_34_r0 : BitVec 32 := 0#32
  let v58_r0 : BitVec 1 := Scalar.cmpi .ne v57_r0 c0_i32_34_r0
  let v59_r0 : BitVec 1 := Scalar.andi v56_r0 v58_r0
  let v45_r0 : BitVec 32 := Scalar.divsi v33_r0 c2_i32_29_r0
  let c1_i32_35_r0 : BitVec 32 := 1#32
  let v60_r0 : BitVec 32 := Scalar.subi v45_r0 c1_i32_35_r0
  let v61_r0 : BitVec 32 := Scalar.select v59_r0 v60_r0 v45_r0
  let c8_i32_36_r0 : BitVec 32 := 8#32
  let v62_r0 : BitVec 32 := Scalar.muli v61_r0 c8_i32_36_r0
  let v63_r0 : BitVec 32 := Scalar.addi v44_r0 v62_r0
  let v64_r0 : BitVec 32 := v63_r0
  let v65_r0 : Index := Scalar.indexCast v64_r0
  let c0_37_r0 : Index := 0#32
  ![v65_r0.toNat, 0]
def k0_mult4 (k0_t3 : Fin k0_t3_loop.trips) : BitVec 32 :=
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c128_i32_38_r0 : BitVec 32 := 128#32
  let v70_r0 : BitVec 32 := Scalar.muli v33_r0 c128_i32_38_r0
  v70_r0
def k0_off6 (k0_t2 : Fin k0_t2_loop.trips) (k0_t3 : Fin k0_t3_loop.trips) (c0_i32_26_r0 : BitVec 32) : Fin 2 → Nat :=
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c128_i32_38_r0 : BitVec 32 := 128#32
  let v70_r0 : BitVec 32 := Scalar.muli v33_r0 c128_i32_38_r0
  let v71_r0 : BitVec 32 := v70_r0
  let v72_r0 : Index := Scalar.indexCast v71_r0
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c128_i32_r0 : BitVec 32 := 128#32
  let v35_r0 : BitVec 32 := Scalar.muli v34_r0 c128_i32_r0
  let v36_r0 : BitVec 32 := v35_r0
  let v73_r0 : Index := Scalar.indexCast v36_r0
  ![v72_r0.toNat, v73_r0.toNat]
def k0_off7 (k0_t2 : Fin k0_t2_loop.trips) (k0_t3 : Fin k0_t3_loop.trips) (c0_i32_26_r0 : BitVec 32) (c0_i32_40_r0 : BitVec 32) : Fin 3 → Nat :=
  let c0_41_r0 : Index := 0#32
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_39_r0 : BitVec 32 := 8#32
  let v86_r0 : BitVec 32 := Scalar.muli v33_r0 c8_i32_39_r0
  let v87_r0 : BitVec 32 := Scalar.addi v86_r0 c0_i32_40_r0
  let v88_r0 : Index := Scalar.indexCast v87_r0
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c128_i32_r0 : BitVec 32 := 128#32
  let v35_r0 : BitVec 32 := Scalar.muli v34_r0 c128_i32_r0
  let v36_r0 : BitVec 32 := v35_r0
  let v89_r0 : Index := Scalar.indexCast v36_r0
  ![0, v88_r0.toNat, v89_r0.toNat]
def k0_off8 (k0_t2 : Fin k0_t2_loop.trips) (k0_t3 : Fin k0_t3_loop.trips) (c0_i32_26_r0 : BitVec 32) (c0_i32_46_r0 : BitVec 32) : Fin 3 → Nat :=
  let c1_r0 : Index := 1#32
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_45_r0 : BitVec 32 := 8#32
  let v109_r0 : BitVec 32 := Scalar.muli v33_r0 c8_i32_45_r0
  let v110_r0 : BitVec 32 := Scalar.addi v109_r0 c0_i32_46_r0
  let v111_r0 : Index := Scalar.indexCast v110_r0
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c128_i32_r0 : BitVec 32 := 128#32
  let v35_r0 : BitVec 32 := Scalar.muli v34_r0 c128_i32_r0
  let v36_r0 : BitVec 32 := v35_r0
  let v112_r0 : Index := Scalar.indexCast v36_r0
  ![1, v111_r0.toNat, v112_r0.toNat]
def k0_mult5 (k0_t2 : Fin k0_t2_loop.trips) : BitVec 32 :=
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  v456_r0
def k0_mult6 (k0_t2 : Fin k0_t2_loop.trips) (k0_t3 : Fin k0_t3_loop.trips) : BitVec 32 :=
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c224_i32_148_r0 : BitVec 32 := 224#32
  let v458_r0 : BitVec 32 := Scalar.muli v455_r0 c224_i32_148_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c8_i32_149_r0 : BitVec 32 := 8#32
  let v459_r0 : BitVec 32 := Scalar.muli v33_r0 c8_i32_149_r0
  let v460_r0 : BitVec 32 := Scalar.addi v458_r0 v459_r0
  v460_r0
def k0_off9 (k0_t2 : Fin k0_t2_loop.trips) (k0_t3 : Fin k0_t3_loop.trips) (c0_i32_26_r0 : BitVec 32) : Fin 2 → Nat :=
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c224_i32_148_r0 : BitVec 32 := 224#32
  let v458_r0 : BitVec 32 := Scalar.muli v455_r0 c224_i32_148_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_149_r0 : BitVec 32 := 8#32
  let v459_r0 : BitVec 32 := Scalar.muli v33_r0 c8_i32_149_r0
  let v460_r0 : BitVec 32 := Scalar.addi v458_r0 v459_r0
  let v461_r0 : BitVec 32 := v460_r0
  let v462_r0 : Index := Scalar.indexCast v461_r0
  let c0_150_r0 : Index := 0#32
  ![v462_r0.toNat, 0]
def k0_mult7 (k0_t2 : Fin k0_t2_loop.trips) (k0_t3 : Fin k0_t3_loop.trips) : BitVec 32 :=
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c112_i32_151_r0 : BitVec 32 := 112#32
  let v465_r0 : BitVec 32 := Scalar.muli v455_r0 c112_i32_151_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c0_i32_153_r0 : BitVec 32 := 0#32
  let v467_r0 : BitVec 1 := Scalar.cmpi .sgt v33_r0 c0_i32_153_r0
  let v468_r0 : BitVec 32 := Scalar.extui v467_r0
  let c0_i32_154_r0 : BitVec 32 := 0#32
  let v469_r0 : BitVec 1 := Scalar.cmpi .slt v33_r0 c0_i32_154_r0
  let v470_r0 : BitVec 32 := Scalar.extui v469_r0
  let v471_r0 : BitVec 32 := Scalar.subi v468_r0 v470_r0
  let c2_i32_152_r0 : BitVec 32 := 2#32
  let c0_i32_155_r0 : BitVec 32 := 0#32
  let v472_r0 : BitVec 1 := Scalar.cmpi .sgt c2_i32_152_r0 c0_i32_155_r0
  let v473_r0 : BitVec 32 := Scalar.extui v472_r0
  let c0_i32_156_r0 : BitVec 32 := 0#32
  let v474_r0 : BitVec 1 := Scalar.cmpi .slt c2_i32_152_r0 c0_i32_156_r0
  let v475_r0 : BitVec 32 := Scalar.extui v474_r0
  let v476_r0 : BitVec 32 := Scalar.subi v473_r0 v475_r0
  let v477_r0 : BitVec 1 := Scalar.cmpi .ne v471_r0 v476_r0
  let v478_r0 : BitVec 32 := Scalar.remsi v33_r0 c2_i32_152_r0
  let c0_i32_157_r0 : BitVec 32 := 0#32
  let v479_r0 : BitVec 1 := Scalar.cmpi .ne v478_r0 c0_i32_157_r0
  let v480_r0 : BitVec 1 := Scalar.andi v477_r0 v479_r0
  let v466_r0 : BitVec 32 := Scalar.divsi v33_r0 c2_i32_152_r0
  let c1_i32_158_r0 : BitVec 32 := 1#32
  let v481_r0 : BitVec 32 := Scalar.subi v466_r0 c1_i32_158_r0
  let v482_r0 : BitVec 32 := Scalar.select v480_r0 v481_r0 v466_r0
  let c8_i32_159_r0 : BitVec 32 := 8#32
  let v483_r0 : BitVec 32 := Scalar.muli v482_r0 c8_i32_159_r0
  let v484_r0 : BitVec 32 := Scalar.addi v465_r0 v483_r0
  v484_r0
def k0_off10 (k0_t2 : Fin k0_t2_loop.trips) (k0_t3 : Fin k0_t3_loop.trips) (c0_i32_26_r0 : BitVec 32) : Fin 2 → Nat :=
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c112_i32_151_r0 : BitVec 32 := 112#32
  let v465_r0 : BitVec 32 := Scalar.muli v455_r0 c112_i32_151_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c0_i32_153_r0 : BitVec 32 := 0#32
  let v467_r0 : BitVec 1 := Scalar.cmpi .sgt v33_r0 c0_i32_153_r0
  let v468_r0 : BitVec 32 := Scalar.extui v467_r0
  let c0_i32_154_r0 : BitVec 32 := 0#32
  let v469_r0 : BitVec 1 := Scalar.cmpi .slt v33_r0 c0_i32_154_r0
  let v470_r0 : BitVec 32 := Scalar.extui v469_r0
  let v471_r0 : BitVec 32 := Scalar.subi v468_r0 v470_r0
  let c2_i32_152_r0 : BitVec 32 := 2#32
  let c0_i32_155_r0 : BitVec 32 := 0#32
  let v472_r0 : BitVec 1 := Scalar.cmpi .sgt c2_i32_152_r0 c0_i32_155_r0
  let v473_r0 : BitVec 32 := Scalar.extui v472_r0
  let c0_i32_156_r0 : BitVec 32 := 0#32
  let v474_r0 : BitVec 1 := Scalar.cmpi .slt c2_i32_152_r0 c0_i32_156_r0
  let v475_r0 : BitVec 32 := Scalar.extui v474_r0
  let v476_r0 : BitVec 32 := Scalar.subi v473_r0 v475_r0
  let v477_r0 : BitVec 1 := Scalar.cmpi .ne v471_r0 v476_r0
  let v478_r0 : BitVec 32 := Scalar.remsi v33_r0 c2_i32_152_r0
  let c0_i32_157_r0 : BitVec 32 := 0#32
  let v479_r0 : BitVec 1 := Scalar.cmpi .ne v478_r0 c0_i32_157_r0
  let v480_r0 : BitVec 1 := Scalar.andi v477_r0 v479_r0
  let v466_r0 : BitVec 32 := Scalar.divsi v33_r0 c2_i32_152_r0
  let c1_i32_158_r0 : BitVec 32 := 1#32
  let v481_r0 : BitVec 32 := Scalar.subi v466_r0 c1_i32_158_r0
  let v482_r0 : BitVec 32 := Scalar.select v480_r0 v481_r0 v466_r0
  let c8_i32_159_r0 : BitVec 32 := 8#32
  let v483_r0 : BitVec 32 := Scalar.muli v482_r0 c8_i32_159_r0
  let v484_r0 : BitVec 32 := Scalar.addi v465_r0 v483_r0
  let v485_r0 : BitVec 32 := v484_r0
  let v486_r0 : Index := Scalar.indexCast v485_r0
  let c0_160_r0 : Index := 0#32
  ![v486_r0.toNat, 0]
def k0_mult8 (k0_t3 : Fin k0_t3_loop.trips) : BitVec 32 :=
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c128_i32_161_r0 : BitVec 32 := 128#32
  let v491_r0 : BitVec 32 := Scalar.muli v33_r0 c128_i32_161_r0
  v491_r0
def k0_off11 (k0_t2 : Fin k0_t2_loop.trips) (k0_t3 : Fin k0_t3_loop.trips) (c0_i32_26_r0 : BitVec 32) : Fin 2 → Nat :=
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c128_i32_161_r0 : BitVec 32 := 128#32
  let v491_r0 : BitVec 32 := Scalar.muli v33_r0 c128_i32_161_r0
  let v492_r0 : BitVec 32 := v491_r0
  let v493_r0 : Index := Scalar.indexCast v492_r0
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v494_r0 : Index := Scalar.indexCast v457_r0
  ![v493_r0.toNat, v494_r0.toNat]
def k0_off12 (k0_t2 : Fin k0_t2_loop.trips) (k0_t3 : Fin k0_t3_loop.trips) (c0_i32_26_r0 : BitVec 32) (c0_i32_166_r0 : BitVec 32) : Fin 3 → Nat :=
  let c0_167_r0 : Index := 0#32
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_165_r0 : BitVec 32 := 8#32
  let v507_r0 : BitVec 32 := Scalar.muli v33_r0 c8_i32_165_r0
  let v508_r0 : BitVec 32 := Scalar.addi v507_r0 c0_i32_166_r0
  let v509_r0 : Index := Scalar.indexCast v508_r0
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v510_r0 : Index := Scalar.indexCast v457_r0
  ![0, v509_r0.toNat, v510_r0.toNat]
def k0_off13 (k0_t2 : Fin k0_t2_loop.trips) (k0_t3 : Fin k0_t3_loop.trips) (c0_i32_26_r0 : BitVec 32) (c0_i32_173_r0 : BitVec 32) : Fin 3 → Nat :=
  let c1_174_r0 : Index := 1#32
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_172_r0 : BitVec 32 := 8#32
  let v530_r0 : BitVec 32 := Scalar.muli v33_r0 c8_i32_172_r0
  let v531_r0 : BitVec 32 := Scalar.addi v530_r0 c0_i32_173_r0
  let v532_r0 : Index := Scalar.indexCast v531_r0
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v533_r0 : Index := Scalar.indexCast v457_r0
  ![1, v532_r0.toNat, v533_r0.toNat]
def k0_mult9 (k0_t3 : Fin k0_t3_loop.trips) : BitVec 32 :=
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c256_i32_277_r0 : BitVec 32 := 256#32
  let v876_r0 : BitVec 32 := Scalar.muli v33_r0 c256_i32_277_r0
  v876_r0
def k0_off14 (k0_t3 : Fin k0_t3_loop.trips) (c0_i32_26_r0 : BitVec 32) : Fin 2 → Nat :=
  let c0_278_r0 : Index := 0#32
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c256_i32_277_r0 : BitVec 32 := 256#32
  let v876_r0 : BitVec 32 := Scalar.muli v33_r0 c256_i32_277_r0
  let v877_r0 : BitVec 32 := v876_r0
  let v878_r0 : Index := Scalar.indexCast v877_r0
  ![0, v878_r0.toNat]
def k0_mult10 (k0_t2 : Fin k0_t2_loop.trips) : BitVec 32 :=
  let c2_i32_281_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v882_r0 : BitVec 32 := Scalar.muli c2_i32_281_r0 v5_r0
  let c128_i32_282_r0 : BitVec 32 := 128#32
  let v883_r0 : BitVec 32 := Scalar.muli v882_r0 c128_i32_282_r0
  v883_r0
def k0_mult11 (k0_t2 : Fin k0_t2_loop.trips) (k0_t3 : Fin k0_t3_loop.trips) : BitVec 32 :=
  let c2_i32_281_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v882_r0 : BitVec 32 := Scalar.muli c2_i32_281_r0 v5_r0
  let c224_i32_283_r0 : BitVec 32 := 224#32
  let v885_r0 : BitVec 32 := Scalar.muli v882_r0 c224_i32_283_r0
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c8_i32_284_r0 : BitVec 32 := 8#32
  let v886_r0 : BitVec 32 := Scalar.muli v881_r0 c8_i32_284_r0
  let v887_r0 : BitVec 32 := Scalar.addi v885_r0 v886_r0
  v887_r0
def k0_mult12 (k0_t2 : Fin k0_t2_loop.trips) (k0_t3 : Fin k0_t3_loop.trips) : BitVec 32 :=
  let c2_i32_281_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v882_r0 : BitVec 32 := Scalar.muli c2_i32_281_r0 v5_r0
  let c112_i32_286_r0 : BitVec 32 := 112#32
  let v892_r0 : BitVec 32 := Scalar.muli v882_r0 c112_i32_286_r0
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c0_i32_288_r0 : BitVec 32 := 0#32
  let v894_r0 : BitVec 1 := Scalar.cmpi .sgt v881_r0 c0_i32_288_r0
  let v895_r0 : BitVec 32 := Scalar.extui v894_r0
  let c0_i32_289_r0 : BitVec 32 := 0#32
  let v896_r0 : BitVec 1 := Scalar.cmpi .slt v881_r0 c0_i32_289_r0
  let v897_r0 : BitVec 32 := Scalar.extui v896_r0
  let v898_r0 : BitVec 32 := Scalar.subi v895_r0 v897_r0
  let c2_i32_287_r0 : BitVec 32 := 2#32
  let c0_i32_290_r0 : BitVec 32 := 0#32
  let v899_r0 : BitVec 1 := Scalar.cmpi .sgt c2_i32_287_r0 c0_i32_290_r0
  let v900_r0 : BitVec 32 := Scalar.extui v899_r0
  let c0_i32_291_r0 : BitVec 32 := 0#32
  let v901_r0 : BitVec 1 := Scalar.cmpi .slt c2_i32_287_r0 c0_i32_291_r0
  let v902_r0 : BitVec 32 := Scalar.extui v901_r0
  let v903_r0 : BitVec 32 := Scalar.subi v900_r0 v902_r0
  let v904_r0 : BitVec 1 := Scalar.cmpi .ne v898_r0 v903_r0
  let v905_r0 : BitVec 32 := Scalar.remsi v881_r0 c2_i32_287_r0
  let c0_i32_292_r0 : BitVec 32 := 0#32
  let v906_r0 : BitVec 1 := Scalar.cmpi .ne v905_r0 c0_i32_292_r0
  let v907_r0 : BitVec 1 := Scalar.andi v904_r0 v906_r0
  let v893_r0 : BitVec 32 := Scalar.divsi v881_r0 c2_i32_287_r0
  let c1_i32_293_r0 : BitVec 32 := 1#32
  let v908_r0 : BitVec 32 := Scalar.subi v893_r0 c1_i32_293_r0
  let v909_r0 : BitVec 32 := Scalar.select v907_r0 v908_r0 v893_r0
  let c8_i32_294_r0 : BitVec 32 := 8#32
  let v910_r0 : BitVec 32 := Scalar.muli v909_r0 c8_i32_294_r0
  let v911_r0 : BitVec 32 := Scalar.addi v892_r0 v910_r0
  v911_r0
def k0_mult13 (k0_t3 : Fin k0_t3_loop.trips) : BitVec 32 :=
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c128_i32_296_r0 : BitVec 32 := 128#32
  let v918_r0 : BitVec 32 := Scalar.muli v881_r0 c128_i32_296_r0
  v918_r0
def k0_mult14 (k0_t2 : Fin k0_t2_loop.trips) : BitVec 32 :=
  let c2_i32_412_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v1302_r0 : BitVec 32 := Scalar.muli c2_i32_412_r0 v5_r0
  let c1_i32_413_r0 : BitVec 32 := 1#32
  let v1303_r0 : BitVec 32 := Scalar.addi v1302_r0 c1_i32_413_r0
  let c128_i32_414_r0 : BitVec 32 := 128#32
  let v1304_r0 : BitVec 32 := Scalar.muli v1303_r0 c128_i32_414_r0
  v1304_r0
def k0_mult15 (k0_t2 : Fin k0_t2_loop.trips) (k0_t3 : Fin k0_t3_loop.trips) : BitVec 32 :=
  let c2_i32_412_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v1302_r0 : BitVec 32 := Scalar.muli c2_i32_412_r0 v5_r0
  let c1_i32_413_r0 : BitVec 32 := 1#32
  let v1303_r0 : BitVec 32 := Scalar.addi v1302_r0 c1_i32_413_r0
  let c224_i32_415_r0 : BitVec 32 := 224#32
  let v1306_r0 : BitVec 32 := Scalar.muli v1303_r0 c224_i32_415_r0
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c8_i32_416_r0 : BitVec 32 := 8#32
  let v1307_r0 : BitVec 32 := Scalar.muli v881_r0 c8_i32_416_r0
  let v1308_r0 : BitVec 32 := Scalar.addi v1306_r0 v1307_r0
  v1308_r0
def k0_mult16 (k0_t2 : Fin k0_t2_loop.trips) (k0_t3 : Fin k0_t3_loop.trips) : BitVec 32 :=
  let c2_i32_412_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v1302_r0 : BitVec 32 := Scalar.muli c2_i32_412_r0 v5_r0
  let c1_i32_413_r0 : BitVec 32 := 1#32
  let v1303_r0 : BitVec 32 := Scalar.addi v1302_r0 c1_i32_413_r0
  let c112_i32_418_r0 : BitVec 32 := 112#32
  let v1313_r0 : BitVec 32 := Scalar.muli v1303_r0 c112_i32_418_r0
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c0_i32_420_r0 : BitVec 32 := 0#32
  let v1315_r0 : BitVec 1 := Scalar.cmpi .sgt v881_r0 c0_i32_420_r0
  let v1316_r0 : BitVec 32 := Scalar.extui v1315_r0
  let c0_i32_421_r0 : BitVec 32 := 0#32
  let v1317_r0 : BitVec 1 := Scalar.cmpi .slt v881_r0 c0_i32_421_r0
  let v1318_r0 : BitVec 32 := Scalar.extui v1317_r0
  let v1319_r0 : BitVec 32 := Scalar.subi v1316_r0 v1318_r0
  let c2_i32_419_r0 : BitVec 32 := 2#32
  let c0_i32_422_r0 : BitVec 32 := 0#32
  let v1320_r0 : BitVec 1 := Scalar.cmpi .sgt c2_i32_419_r0 c0_i32_422_r0
  let v1321_r0 : BitVec 32 := Scalar.extui v1320_r0
  let c0_i32_423_r0 : BitVec 32 := 0#32
  let v1322_r0 : BitVec 1 := Scalar.cmpi .slt c2_i32_419_r0 c0_i32_423_r0
  let v1323_r0 : BitVec 32 := Scalar.extui v1322_r0
  let v1324_r0 : BitVec 32 := Scalar.subi v1321_r0 v1323_r0
  let v1325_r0 : BitVec 1 := Scalar.cmpi .ne v1319_r0 v1324_r0
  let v1326_r0 : BitVec 32 := Scalar.remsi v881_r0 c2_i32_419_r0
  let c0_i32_424_r0 : BitVec 32 := 0#32
  let v1327_r0 : BitVec 1 := Scalar.cmpi .ne v1326_r0 c0_i32_424_r0
  let v1328_r0 : BitVec 1 := Scalar.andi v1325_r0 v1327_r0
  let v1314_r0 : BitVec 32 := Scalar.divsi v881_r0 c2_i32_419_r0
  let c1_i32_425_r0 : BitVec 32 := 1#32
  let v1329_r0 : BitVec 32 := Scalar.subi v1314_r0 c1_i32_425_r0
  let v1330_r0 : BitVec 32 := Scalar.select v1328_r0 v1329_r0 v1314_r0
  let c8_i32_426_r0 : BitVec 32 := 8#32
  let v1331_r0 : BitVec 32 := Scalar.muli v1330_r0 c8_i32_426_r0
  let v1332_r0 : BitVec 32 := Scalar.addi v1313_r0 v1331_r0
  v1332_r0
def k0_mult17 (k0_t3 : Fin k0_t3_loop.trips) : BitVec 32 :=
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c128_i32_428_r0 : BitVec 32 := 128#32
  let v1339_r0 : BitVec 32 := Scalar.muli v881_r0 c128_i32_428_r0
  v1339_r0
def k0_mult18 (k0_t3 : Fin k0_t3_loop.trips) : BitVec 32 :=
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c256_i32_544_r0 : BitVec 32 := 256#32
  let v1724_r0 : BitVec 32 := Scalar.muli v881_r0 c256_i32_544_r0
  v1724_r0
def k0_mult19 (k0_t2 : Fin k0_t2_loop.trips) : BitVec 32 :=
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let c256_i32_r0 : BitVec 32 := 256#32
  let v8_r0 : BitVec 32 := Scalar.muli v5_r0 c256_i32_r0
  v8_r0
def k0_off15 (k0_t2 : Fin k0_t2_loop.trips) (c0_i32_7_r0 : BitVec 32) : Fin 2 → Nat :=
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let v5_r0 : BitVec 32 := Scalar.addi v4_r0 c0_i32_7_r0
  let c256_i32_r0 : BitVec 32 := 256#32
  let v8_r0 : BitVec 32 := Scalar.muli v5_r0 c256_i32_r0
  let v9_r0 : BitVec 32 := v8_r0
  let v11_r0 : Index := Scalar.indexCast v9_r0
  let c0_r0 : Index := 0#32
  ![v11_r0.toNat, 0]
def k0_off16 (k0_t2 : Fin k0_t2_loop.trips) (c0_i32_7_r0 : BitVec 32) : Fin 2 → Nat :=
  let c0_13_r0 : Index := 0#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let v5_r0 : BitVec 32 := Scalar.addi v4_r0 c0_i32_7_r0
  let c256_i32_r0 : BitVec 32 := 256#32
  let v8_r0 : BitVec 32 := Scalar.muli v5_r0 c256_i32_r0
  let v9_r0 : BitVec 32 := v8_r0
  let v16_r0 : Index := Scalar.indexCast v9_r0
  ![0, v16_r0.toNat]
@[reducible] def k0_t4_loop : Scf.Loop 32 :=
  let c0_i32_17_r0 : BitVec 32 := 0#32
  let c14_i32_18_r0 : BitVec 32 := 14#32
  let v20_r0 : BitVec 32 := Scalar.addi c0_i32_17_r0 c14_i32_18_r0
  let c1_i32_19_r0 : BitVec 32 := 1#32
  ⟨c0_i32_17_r0, v20_r0, c1_i32_19_r0⟩
def k0_mult20 (k0_t2 : Fin k0_t2_loop.trips) : BitVec 32 :=
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c128_i32_r0 : BitVec 32 := 128#32
  let v35_r0 : BitVec 32 := Scalar.muli v34_r0 c128_i32_r0
  v35_r0
def k0_mult21 (k0_t2 : Fin k0_t2_loop.trips) (k0_t4 : Fin k0_t4_loop.trips) : BitVec 32 :=
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c224_i32_r0 : BitVec 32 := 224#32
  let v37_r0 : BitVec 32 := Scalar.muli v34_r0 c224_i32_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c8_i32_r0 : BitVec 32 := 8#32
  let v38_r0 : BitVec 32 := Scalar.muli v33_r0 c8_i32_r0
  let v39_r0 : BitVec 32 := Scalar.addi v37_r0 v38_r0
  v39_r0
def k0_off17 (k0_t2 : Fin k0_t2_loop.trips) (k0_t4 : Fin k0_t4_loop.trips) (c0_i32_26_r0 : BitVec 32) : Fin 2 → Nat :=
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c224_i32_r0 : BitVec 32 := 224#32
  let v37_r0 : BitVec 32 := Scalar.muli v34_r0 c224_i32_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_r0 : BitVec 32 := 8#32
  let v38_r0 : BitVec 32 := Scalar.muli v33_r0 c8_i32_r0
  let v39_r0 : BitVec 32 := Scalar.addi v37_r0 v38_r0
  let v40_r0 : BitVec 32 := v39_r0
  let v41_r0 : Index := Scalar.indexCast v40_r0
  let c0_28_r0 : Index := 0#32
  ![v41_r0.toNat, 0]
def k0_mult22 (k0_t2 : Fin k0_t2_loop.trips) (k0_t4 : Fin k0_t4_loop.trips) : BitVec 32 :=
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c112_i32_r0 : BitVec 32 := 112#32
  let v44_r0 : BitVec 32 := Scalar.muli v34_r0 c112_i32_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c0_i32_30_r0 : BitVec 32 := 0#32
  let v46_r0 : BitVec 1 := Scalar.cmpi .sgt v33_r0 c0_i32_30_r0
  let v47_r0 : BitVec 32 := Scalar.extui v46_r0
  let c0_i32_31_r0 : BitVec 32 := 0#32
  let v48_r0 : BitVec 1 := Scalar.cmpi .slt v33_r0 c0_i32_31_r0
  let v49_r0 : BitVec 32 := Scalar.extui v48_r0
  let v50_r0 : BitVec 32 := Scalar.subi v47_r0 v49_r0
  let c2_i32_29_r0 : BitVec 32 := 2#32
  let c0_i32_32_r0 : BitVec 32 := 0#32
  let v51_r0 : BitVec 1 := Scalar.cmpi .sgt c2_i32_29_r0 c0_i32_32_r0
  let v52_r0 : BitVec 32 := Scalar.extui v51_r0
  let c0_i32_33_r0 : BitVec 32 := 0#32
  let v53_r0 : BitVec 1 := Scalar.cmpi .slt c2_i32_29_r0 c0_i32_33_r0
  let v54_r0 : BitVec 32 := Scalar.extui v53_r0
  let v55_r0 : BitVec 32 := Scalar.subi v52_r0 v54_r0
  let v56_r0 : BitVec 1 := Scalar.cmpi .ne v50_r0 v55_r0
  let v57_r0 : BitVec 32 := Scalar.remsi v33_r0 c2_i32_29_r0
  let c0_i32_34_r0 : BitVec 32 := 0#32
  let v58_r0 : BitVec 1 := Scalar.cmpi .ne v57_r0 c0_i32_34_r0
  let v59_r0 : BitVec 1 := Scalar.andi v56_r0 v58_r0
  let v45_r0 : BitVec 32 := Scalar.divsi v33_r0 c2_i32_29_r0
  let c1_i32_35_r0 : BitVec 32 := 1#32
  let v60_r0 : BitVec 32 := Scalar.subi v45_r0 c1_i32_35_r0
  let v61_r0 : BitVec 32 := Scalar.select v59_r0 v60_r0 v45_r0
  let c8_i32_36_r0 : BitVec 32 := 8#32
  let v62_r0 : BitVec 32 := Scalar.muli v61_r0 c8_i32_36_r0
  let v63_r0 : BitVec 32 := Scalar.addi v44_r0 v62_r0
  v63_r0
def k0_off18 (k0_t2 : Fin k0_t2_loop.trips) (k0_t4 : Fin k0_t4_loop.trips) (c0_i32_26_r0 : BitVec 32) : Fin 2 → Nat :=
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c112_i32_r0 : BitVec 32 := 112#32
  let v44_r0 : BitVec 32 := Scalar.muli v34_r0 c112_i32_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c0_i32_30_r0 : BitVec 32 := 0#32
  let v46_r0 : BitVec 1 := Scalar.cmpi .sgt v33_r0 c0_i32_30_r0
  let v47_r0 : BitVec 32 := Scalar.extui v46_r0
  let c0_i32_31_r0 : BitVec 32 := 0#32
  let v48_r0 : BitVec 1 := Scalar.cmpi .slt v33_r0 c0_i32_31_r0
  let v49_r0 : BitVec 32 := Scalar.extui v48_r0
  let v50_r0 : BitVec 32 := Scalar.subi v47_r0 v49_r0
  let c2_i32_29_r0 : BitVec 32 := 2#32
  let c0_i32_32_r0 : BitVec 32 := 0#32
  let v51_r0 : BitVec 1 := Scalar.cmpi .sgt c2_i32_29_r0 c0_i32_32_r0
  let v52_r0 : BitVec 32 := Scalar.extui v51_r0
  let c0_i32_33_r0 : BitVec 32 := 0#32
  let v53_r0 : BitVec 1 := Scalar.cmpi .slt c2_i32_29_r0 c0_i32_33_r0
  let v54_r0 : BitVec 32 := Scalar.extui v53_r0
  let v55_r0 : BitVec 32 := Scalar.subi v52_r0 v54_r0
  let v56_r0 : BitVec 1 := Scalar.cmpi .ne v50_r0 v55_r0
  let v57_r0 : BitVec 32 := Scalar.remsi v33_r0 c2_i32_29_r0
  let c0_i32_34_r0 : BitVec 32 := 0#32
  let v58_r0 : BitVec 1 := Scalar.cmpi .ne v57_r0 c0_i32_34_r0
  let v59_r0 : BitVec 1 := Scalar.andi v56_r0 v58_r0
  let v45_r0 : BitVec 32 := Scalar.divsi v33_r0 c2_i32_29_r0
  let c1_i32_35_r0 : BitVec 32 := 1#32
  let v60_r0 : BitVec 32 := Scalar.subi v45_r0 c1_i32_35_r0
  let v61_r0 : BitVec 32 := Scalar.select v59_r0 v60_r0 v45_r0
  let c8_i32_36_r0 : BitVec 32 := 8#32
  let v62_r0 : BitVec 32 := Scalar.muli v61_r0 c8_i32_36_r0
  let v63_r0 : BitVec 32 := Scalar.addi v44_r0 v62_r0
  let v64_r0 : BitVec 32 := v63_r0
  let v65_r0 : Index := Scalar.indexCast v64_r0
  let c0_37_r0 : Index := 0#32
  ![v65_r0.toNat, 0]
def k0_mult23 (k0_t4 : Fin k0_t4_loop.trips) : BitVec 32 :=
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c128_i32_38_r0 : BitVec 32 := 128#32
  let v70_r0 : BitVec 32 := Scalar.muli v33_r0 c128_i32_38_r0
  v70_r0
def k0_off19 (k0_t2 : Fin k0_t2_loop.trips) (k0_t4 : Fin k0_t4_loop.trips) (c0_i32_26_r0 : BitVec 32) : Fin 2 → Nat :=
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c128_i32_38_r0 : BitVec 32 := 128#32
  let v70_r0 : BitVec 32 := Scalar.muli v33_r0 c128_i32_38_r0
  let v71_r0 : BitVec 32 := v70_r0
  let v72_r0 : Index := Scalar.indexCast v71_r0
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c128_i32_r0 : BitVec 32 := 128#32
  let v35_r0 : BitVec 32 := Scalar.muli v34_r0 c128_i32_r0
  let v36_r0 : BitVec 32 := v35_r0
  let v73_r0 : Index := Scalar.indexCast v36_r0
  ![v72_r0.toNat, v73_r0.toNat]
def k0_off20 (k0_t2 : Fin k0_t2_loop.trips) (k0_t4 : Fin k0_t4_loop.trips) (c0_i32_26_r0 : BitVec 32) (c0_i32_40_r0 : BitVec 32) : Fin 3 → Nat :=
  let c0_41_r0 : Index := 0#32
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_39_r0 : BitVec 32 := 8#32
  let v86_r0 : BitVec 32 := Scalar.muli v33_r0 c8_i32_39_r0
  let v87_r0 : BitVec 32 := Scalar.addi v86_r0 c0_i32_40_r0
  let v88_r0 : Index := Scalar.indexCast v87_r0
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c128_i32_r0 : BitVec 32 := 128#32
  let v35_r0 : BitVec 32 := Scalar.muli v34_r0 c128_i32_r0
  let v36_r0 : BitVec 32 := v35_r0
  let v89_r0 : Index := Scalar.indexCast v36_r0
  ![0, v88_r0.toNat, v89_r0.toNat]
def k0_off21 (k0_t2 : Fin k0_t2_loop.trips) (k0_t4 : Fin k0_t4_loop.trips) (c0_i32_26_r0 : BitVec 32) (c0_i32_46_r0 : BitVec 32) : Fin 3 → Nat :=
  let c1_r0 : Index := 1#32
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_45_r0 : BitVec 32 := 8#32
  let v109_r0 : BitVec 32 := Scalar.muli v33_r0 c8_i32_45_r0
  let v110_r0 : BitVec 32 := Scalar.addi v109_r0 c0_i32_46_r0
  let v111_r0 : Index := Scalar.indexCast v110_r0
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c128_i32_r0 : BitVec 32 := 128#32
  let v35_r0 : BitVec 32 := Scalar.muli v34_r0 c128_i32_r0
  let v36_r0 : BitVec 32 := v35_r0
  let v112_r0 : Index := Scalar.indexCast v36_r0
  ![1, v111_r0.toNat, v112_r0.toNat]
def k0_mult24 (k0_t2 : Fin k0_t2_loop.trips) : BitVec 32 :=
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  v456_r0
def k0_mult25 (k0_t2 : Fin k0_t2_loop.trips) (k0_t4 : Fin k0_t4_loop.trips) : BitVec 32 :=
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c224_i32_148_r0 : BitVec 32 := 224#32
  let v458_r0 : BitVec 32 := Scalar.muli v455_r0 c224_i32_148_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c8_i32_149_r0 : BitVec 32 := 8#32
  let v459_r0 : BitVec 32 := Scalar.muli v33_r0 c8_i32_149_r0
  let v460_r0 : BitVec 32 := Scalar.addi v458_r0 v459_r0
  v460_r0
def k0_off22 (k0_t2 : Fin k0_t2_loop.trips) (k0_t4 : Fin k0_t4_loop.trips) (c0_i32_26_r0 : BitVec 32) : Fin 2 → Nat :=
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c224_i32_148_r0 : BitVec 32 := 224#32
  let v458_r0 : BitVec 32 := Scalar.muli v455_r0 c224_i32_148_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_149_r0 : BitVec 32 := 8#32
  let v459_r0 : BitVec 32 := Scalar.muli v33_r0 c8_i32_149_r0
  let v460_r0 : BitVec 32 := Scalar.addi v458_r0 v459_r0
  let v461_r0 : BitVec 32 := v460_r0
  let v462_r0 : Index := Scalar.indexCast v461_r0
  let c0_150_r0 : Index := 0#32
  ![v462_r0.toNat, 0]
def k0_mult26 (k0_t2 : Fin k0_t2_loop.trips) (k0_t4 : Fin k0_t4_loop.trips) : BitVec 32 :=
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c112_i32_151_r0 : BitVec 32 := 112#32
  let v465_r0 : BitVec 32 := Scalar.muli v455_r0 c112_i32_151_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c0_i32_153_r0 : BitVec 32 := 0#32
  let v467_r0 : BitVec 1 := Scalar.cmpi .sgt v33_r0 c0_i32_153_r0
  let v468_r0 : BitVec 32 := Scalar.extui v467_r0
  let c0_i32_154_r0 : BitVec 32 := 0#32
  let v469_r0 : BitVec 1 := Scalar.cmpi .slt v33_r0 c0_i32_154_r0
  let v470_r0 : BitVec 32 := Scalar.extui v469_r0
  let v471_r0 : BitVec 32 := Scalar.subi v468_r0 v470_r0
  let c2_i32_152_r0 : BitVec 32 := 2#32
  let c0_i32_155_r0 : BitVec 32 := 0#32
  let v472_r0 : BitVec 1 := Scalar.cmpi .sgt c2_i32_152_r0 c0_i32_155_r0
  let v473_r0 : BitVec 32 := Scalar.extui v472_r0
  let c0_i32_156_r0 : BitVec 32 := 0#32
  let v474_r0 : BitVec 1 := Scalar.cmpi .slt c2_i32_152_r0 c0_i32_156_r0
  let v475_r0 : BitVec 32 := Scalar.extui v474_r0
  let v476_r0 : BitVec 32 := Scalar.subi v473_r0 v475_r0
  let v477_r0 : BitVec 1 := Scalar.cmpi .ne v471_r0 v476_r0
  let v478_r0 : BitVec 32 := Scalar.remsi v33_r0 c2_i32_152_r0
  let c0_i32_157_r0 : BitVec 32 := 0#32
  let v479_r0 : BitVec 1 := Scalar.cmpi .ne v478_r0 c0_i32_157_r0
  let v480_r0 : BitVec 1 := Scalar.andi v477_r0 v479_r0
  let v466_r0 : BitVec 32 := Scalar.divsi v33_r0 c2_i32_152_r0
  let c1_i32_158_r0 : BitVec 32 := 1#32
  let v481_r0 : BitVec 32 := Scalar.subi v466_r0 c1_i32_158_r0
  let v482_r0 : BitVec 32 := Scalar.select v480_r0 v481_r0 v466_r0
  let c8_i32_159_r0 : BitVec 32 := 8#32
  let v483_r0 : BitVec 32 := Scalar.muli v482_r0 c8_i32_159_r0
  let v484_r0 : BitVec 32 := Scalar.addi v465_r0 v483_r0
  v484_r0
def k0_off23 (k0_t2 : Fin k0_t2_loop.trips) (k0_t4 : Fin k0_t4_loop.trips) (c0_i32_26_r0 : BitVec 32) : Fin 2 → Nat :=
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c112_i32_151_r0 : BitVec 32 := 112#32
  let v465_r0 : BitVec 32 := Scalar.muli v455_r0 c112_i32_151_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c0_i32_153_r0 : BitVec 32 := 0#32
  let v467_r0 : BitVec 1 := Scalar.cmpi .sgt v33_r0 c0_i32_153_r0
  let v468_r0 : BitVec 32 := Scalar.extui v467_r0
  let c0_i32_154_r0 : BitVec 32 := 0#32
  let v469_r0 : BitVec 1 := Scalar.cmpi .slt v33_r0 c0_i32_154_r0
  let v470_r0 : BitVec 32 := Scalar.extui v469_r0
  let v471_r0 : BitVec 32 := Scalar.subi v468_r0 v470_r0
  let c2_i32_152_r0 : BitVec 32 := 2#32
  let c0_i32_155_r0 : BitVec 32 := 0#32
  let v472_r0 : BitVec 1 := Scalar.cmpi .sgt c2_i32_152_r0 c0_i32_155_r0
  let v473_r0 : BitVec 32 := Scalar.extui v472_r0
  let c0_i32_156_r0 : BitVec 32 := 0#32
  let v474_r0 : BitVec 1 := Scalar.cmpi .slt c2_i32_152_r0 c0_i32_156_r0
  let v475_r0 : BitVec 32 := Scalar.extui v474_r0
  let v476_r0 : BitVec 32 := Scalar.subi v473_r0 v475_r0
  let v477_r0 : BitVec 1 := Scalar.cmpi .ne v471_r0 v476_r0
  let v478_r0 : BitVec 32 := Scalar.remsi v33_r0 c2_i32_152_r0
  let c0_i32_157_r0 : BitVec 32 := 0#32
  let v479_r0 : BitVec 1 := Scalar.cmpi .ne v478_r0 c0_i32_157_r0
  let v480_r0 : BitVec 1 := Scalar.andi v477_r0 v479_r0
  let v466_r0 : BitVec 32 := Scalar.divsi v33_r0 c2_i32_152_r0
  let c1_i32_158_r0 : BitVec 32 := 1#32
  let v481_r0 : BitVec 32 := Scalar.subi v466_r0 c1_i32_158_r0
  let v482_r0 : BitVec 32 := Scalar.select v480_r0 v481_r0 v466_r0
  let c8_i32_159_r0 : BitVec 32 := 8#32
  let v483_r0 : BitVec 32 := Scalar.muli v482_r0 c8_i32_159_r0
  let v484_r0 : BitVec 32 := Scalar.addi v465_r0 v483_r0
  let v485_r0 : BitVec 32 := v484_r0
  let v486_r0 : Index := Scalar.indexCast v485_r0
  let c0_160_r0 : Index := 0#32
  ![v486_r0.toNat, 0]
def k0_mult27 (k0_t4 : Fin k0_t4_loop.trips) : BitVec 32 :=
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c128_i32_161_r0 : BitVec 32 := 128#32
  let v491_r0 : BitVec 32 := Scalar.muli v33_r0 c128_i32_161_r0
  v491_r0
def k0_off24 (k0_t2 : Fin k0_t2_loop.trips) (k0_t4 : Fin k0_t4_loop.trips) (c0_i32_26_r0 : BitVec 32) : Fin 2 → Nat :=
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c128_i32_161_r0 : BitVec 32 := 128#32
  let v491_r0 : BitVec 32 := Scalar.muli v33_r0 c128_i32_161_r0
  let v492_r0 : BitVec 32 := v491_r0
  let v493_r0 : Index := Scalar.indexCast v492_r0
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v494_r0 : Index := Scalar.indexCast v457_r0
  ![v493_r0.toNat, v494_r0.toNat]
def k0_off25 (k0_t2 : Fin k0_t2_loop.trips) (k0_t4 : Fin k0_t4_loop.trips) (c0_i32_26_r0 : BitVec 32) (c0_i32_166_r0 : BitVec 32) : Fin 3 → Nat :=
  let c0_167_r0 : Index := 0#32
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_165_r0 : BitVec 32 := 8#32
  let v507_r0 : BitVec 32 := Scalar.muli v33_r0 c8_i32_165_r0
  let v508_r0 : BitVec 32 := Scalar.addi v507_r0 c0_i32_166_r0
  let v509_r0 : Index := Scalar.indexCast v508_r0
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v510_r0 : Index := Scalar.indexCast v457_r0
  ![0, v509_r0.toNat, v510_r0.toNat]
def k0_off26 (k0_t2 : Fin k0_t2_loop.trips) (k0_t4 : Fin k0_t4_loop.trips) (c0_i32_26_r0 : BitVec 32) (c0_i32_173_r0 : BitVec 32) : Fin 3 → Nat :=
  let c1_174_r0 : Index := 1#32
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_172_r0 : BitVec 32 := 8#32
  let v530_r0 : BitVec 32 := Scalar.muli v33_r0 c8_i32_172_r0
  let v531_r0 : BitVec 32 := Scalar.addi v530_r0 c0_i32_173_r0
  let v532_r0 : Index := Scalar.indexCast v531_r0
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v533_r0 : Index := Scalar.indexCast v457_r0
  ![1, v532_r0.toNat, v533_r0.toNat]
def k0_mult28 (k0_t4 : Fin k0_t4_loop.trips) : BitVec 32 :=
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c256_i32_277_r0 : BitVec 32 := 256#32
  let v876_r0 : BitVec 32 := Scalar.muli v33_r0 c256_i32_277_r0
  v876_r0
def k0_off27 (k0_t4 : Fin k0_t4_loop.trips) (c0_i32_26_r0 : BitVec 32) : Fin 2 → Nat :=
  let c0_278_r0 : Index := 0#32
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c256_i32_277_r0 : BitVec 32 := 256#32
  let v876_r0 : BitVec 32 := Scalar.muli v33_r0 c256_i32_277_r0
  let v877_r0 : BitVec 32 := v876_r0
  let v878_r0 : Index := Scalar.indexCast v877_r0
  ![0, v878_r0.toNat]
def k0_mult29 (k0_t2 : Fin k0_t2_loop.trips) : BitVec 32 :=
  let c2_i32_281_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v882_r0 : BitVec 32 := Scalar.muli c2_i32_281_r0 v19_r0
  let c128_i32_282_r0 : BitVec 32 := 128#32
  let v883_r0 : BitVec 32 := Scalar.muli v882_r0 c128_i32_282_r0
  v883_r0
def k0_mult30 (k0_t2 : Fin k0_t2_loop.trips) (k0_t4 : Fin k0_t4_loop.trips) : BitVec 32 :=
  let c2_i32_281_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v882_r0 : BitVec 32 := Scalar.muli c2_i32_281_r0 v19_r0
  let c224_i32_283_r0 : BitVec 32 := 224#32
  let v885_r0 : BitVec 32 := Scalar.muli v882_r0 c224_i32_283_r0
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c8_i32_284_r0 : BitVec 32 := 8#32
  let v886_r0 : BitVec 32 := Scalar.muli v881_r0 c8_i32_284_r0
  let v887_r0 : BitVec 32 := Scalar.addi v885_r0 v886_r0
  v887_r0
def k0_mult31 (k0_t2 : Fin k0_t2_loop.trips) (k0_t4 : Fin k0_t4_loop.trips) : BitVec 32 :=
  let c2_i32_281_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v882_r0 : BitVec 32 := Scalar.muli c2_i32_281_r0 v19_r0
  let c112_i32_286_r0 : BitVec 32 := 112#32
  let v892_r0 : BitVec 32 := Scalar.muli v882_r0 c112_i32_286_r0
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c0_i32_288_r0 : BitVec 32 := 0#32
  let v894_r0 : BitVec 1 := Scalar.cmpi .sgt v881_r0 c0_i32_288_r0
  let v895_r0 : BitVec 32 := Scalar.extui v894_r0
  let c0_i32_289_r0 : BitVec 32 := 0#32
  let v896_r0 : BitVec 1 := Scalar.cmpi .slt v881_r0 c0_i32_289_r0
  let v897_r0 : BitVec 32 := Scalar.extui v896_r0
  let v898_r0 : BitVec 32 := Scalar.subi v895_r0 v897_r0
  let c2_i32_287_r0 : BitVec 32 := 2#32
  let c0_i32_290_r0 : BitVec 32 := 0#32
  let v899_r0 : BitVec 1 := Scalar.cmpi .sgt c2_i32_287_r0 c0_i32_290_r0
  let v900_r0 : BitVec 32 := Scalar.extui v899_r0
  let c0_i32_291_r0 : BitVec 32 := 0#32
  let v901_r0 : BitVec 1 := Scalar.cmpi .slt c2_i32_287_r0 c0_i32_291_r0
  let v902_r0 : BitVec 32 := Scalar.extui v901_r0
  let v903_r0 : BitVec 32 := Scalar.subi v900_r0 v902_r0
  let v904_r0 : BitVec 1 := Scalar.cmpi .ne v898_r0 v903_r0
  let v905_r0 : BitVec 32 := Scalar.remsi v881_r0 c2_i32_287_r0
  let c0_i32_292_r0 : BitVec 32 := 0#32
  let v906_r0 : BitVec 1 := Scalar.cmpi .ne v905_r0 c0_i32_292_r0
  let v907_r0 : BitVec 1 := Scalar.andi v904_r0 v906_r0
  let v893_r0 : BitVec 32 := Scalar.divsi v881_r0 c2_i32_287_r0
  let c1_i32_293_r0 : BitVec 32 := 1#32
  let v908_r0 : BitVec 32 := Scalar.subi v893_r0 c1_i32_293_r0
  let v909_r0 : BitVec 32 := Scalar.select v907_r0 v908_r0 v893_r0
  let c8_i32_294_r0 : BitVec 32 := 8#32
  let v910_r0 : BitVec 32 := Scalar.muli v909_r0 c8_i32_294_r0
  let v911_r0 : BitVec 32 := Scalar.addi v892_r0 v910_r0
  v911_r0
def k0_mult32 (k0_t4 : Fin k0_t4_loop.trips) : BitVec 32 :=
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c128_i32_296_r0 : BitVec 32 := 128#32
  let v918_r0 : BitVec 32 := Scalar.muli v881_r0 c128_i32_296_r0
  v918_r0
def k0_mult33 (k0_t2 : Fin k0_t2_loop.trips) : BitVec 32 :=
  let c2_i32_412_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v1302_r0 : BitVec 32 := Scalar.muli c2_i32_412_r0 v19_r0
  let c1_i32_413_r0 : BitVec 32 := 1#32
  let v1303_r0 : BitVec 32 := Scalar.addi v1302_r0 c1_i32_413_r0
  let c128_i32_414_r0 : BitVec 32 := 128#32
  let v1304_r0 : BitVec 32 := Scalar.muli v1303_r0 c128_i32_414_r0
  v1304_r0
def k0_mult34 (k0_t2 : Fin k0_t2_loop.trips) (k0_t4 : Fin k0_t4_loop.trips) : BitVec 32 :=
  let c2_i32_412_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v1302_r0 : BitVec 32 := Scalar.muli c2_i32_412_r0 v19_r0
  let c1_i32_413_r0 : BitVec 32 := 1#32
  let v1303_r0 : BitVec 32 := Scalar.addi v1302_r0 c1_i32_413_r0
  let c224_i32_415_r0 : BitVec 32 := 224#32
  let v1306_r0 : BitVec 32 := Scalar.muli v1303_r0 c224_i32_415_r0
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c8_i32_416_r0 : BitVec 32 := 8#32
  let v1307_r0 : BitVec 32 := Scalar.muli v881_r0 c8_i32_416_r0
  let v1308_r0 : BitVec 32 := Scalar.addi v1306_r0 v1307_r0
  v1308_r0
def k0_mult35 (k0_t2 : Fin k0_t2_loop.trips) (k0_t4 : Fin k0_t4_loop.trips) : BitVec 32 :=
  let c2_i32_412_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v1302_r0 : BitVec 32 := Scalar.muli c2_i32_412_r0 v19_r0
  let c1_i32_413_r0 : BitVec 32 := 1#32
  let v1303_r0 : BitVec 32 := Scalar.addi v1302_r0 c1_i32_413_r0
  let c112_i32_418_r0 : BitVec 32 := 112#32
  let v1313_r0 : BitVec 32 := Scalar.muli v1303_r0 c112_i32_418_r0
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c0_i32_420_r0 : BitVec 32 := 0#32
  let v1315_r0 : BitVec 1 := Scalar.cmpi .sgt v881_r0 c0_i32_420_r0
  let v1316_r0 : BitVec 32 := Scalar.extui v1315_r0
  let c0_i32_421_r0 : BitVec 32 := 0#32
  let v1317_r0 : BitVec 1 := Scalar.cmpi .slt v881_r0 c0_i32_421_r0
  let v1318_r0 : BitVec 32 := Scalar.extui v1317_r0
  let v1319_r0 : BitVec 32 := Scalar.subi v1316_r0 v1318_r0
  let c2_i32_419_r0 : BitVec 32 := 2#32
  let c0_i32_422_r0 : BitVec 32 := 0#32
  let v1320_r0 : BitVec 1 := Scalar.cmpi .sgt c2_i32_419_r0 c0_i32_422_r0
  let v1321_r0 : BitVec 32 := Scalar.extui v1320_r0
  let c0_i32_423_r0 : BitVec 32 := 0#32
  let v1322_r0 : BitVec 1 := Scalar.cmpi .slt c2_i32_419_r0 c0_i32_423_r0
  let v1323_r0 : BitVec 32 := Scalar.extui v1322_r0
  let v1324_r0 : BitVec 32 := Scalar.subi v1321_r0 v1323_r0
  let v1325_r0 : BitVec 1 := Scalar.cmpi .ne v1319_r0 v1324_r0
  let v1326_r0 : BitVec 32 := Scalar.remsi v881_r0 c2_i32_419_r0
  let c0_i32_424_r0 : BitVec 32 := 0#32
  let v1327_r0 : BitVec 1 := Scalar.cmpi .ne v1326_r0 c0_i32_424_r0
  let v1328_r0 : BitVec 1 := Scalar.andi v1325_r0 v1327_r0
  let v1314_r0 : BitVec 32 := Scalar.divsi v881_r0 c2_i32_419_r0
  let c1_i32_425_r0 : BitVec 32 := 1#32
  let v1329_r0 : BitVec 32 := Scalar.subi v1314_r0 c1_i32_425_r0
  let v1330_r0 : BitVec 32 := Scalar.select v1328_r0 v1329_r0 v1314_r0
  let c8_i32_426_r0 : BitVec 32 := 8#32
  let v1331_r0 : BitVec 32 := Scalar.muli v1330_r0 c8_i32_426_r0
  let v1332_r0 : BitVec 32 := Scalar.addi v1313_r0 v1331_r0
  v1332_r0
def k0_mult36 (k0_t4 : Fin k0_t4_loop.trips) : BitVec 32 :=
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c128_i32_428_r0 : BitVec 32 := 128#32
  let v1339_r0 : BitVec 32 := Scalar.muli v881_r0 c128_i32_428_r0
  v1339_r0
def k0_mult37 (k0_t4 : Fin k0_t4_loop.trips) : BitVec 32 :=
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c256_i32_544_r0 : BitVec 32 := 256#32
  let v1724_r0 : BitVec 32 := Scalar.muli v881_r0 c256_i32_544_r0
  v1724_r0
def k0_mult38 (k0_t2 : Fin k0_t2_loop.trips) : BitVec 32 :=
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let c256_i32_21_r0 : BitVec 32 := 256#32
  let v22_r0 : BitVec 32 := Scalar.muli v19_r0 c256_i32_21_r0
  v22_r0
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S448x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S896x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
abbrev S128x7168 : Shape := ⟨2, ![128, 7168]⟩
abbrev S3584x18432 : Shape := ⟨2, ![3584, 18432]⟩
abbrev S448x18432 : Shape := ⟨2, ![448, 18432]⟩
abbrev S32256x128 : Shape := ⟨2, ![32256, 128]⟩
abbrev S16128x128 : Shape := ⟨2, ![16128, 128]⟩
abbrev S18432x128 : Shape := ⟨2, ![18432, 128]⟩
abbrev S128x18432 : Shape := ⟨2, ![128, 18432]⟩
abbrev S3584x1024 : Shape := ⟨2, ![3584, 1024]⟩
abbrev S448x1024 : Shape := ⟨2, ![448, 1024]⟩
abbrev S1792x128 : Shape := ⟨2, ![1792, 128]⟩
abbrev S896x128 : Shape := ⟨2, ![896, 128]⟩
abbrev S1024x128 : Shape := ⟨2, ![1024, 128]⟩
abbrev S128x1024 : Shape := ⟨2, ![128, 1024]⟩
abbrev S2x224x1024 : Shape := ⟨3, ![2, 224, 1024]⟩
abbrev S2x224x2x1024 : Shape := ⟨4, ![2, 224, 2, 1024]⟩
abbrev S2x224x1x1024 : Shape := ⟨4, ![2, 224, 1, 1024]⟩
abbrev S32x1024 : Shape := ⟨2, ![32, 1024]⟩
abbrev S16x1024 : Shape := ⟨2, ![16, 1024]⟩
abbrev S1x16x1024 : Shape := ⟨3, ![1, 16, 1024]⟩
abbrev S1x16x2x1024 : Shape := ⟨4, ![1, 16, 2, 1024]⟩
abbrev S1x16x1x1024 : Shape := ⟨4, ![1, 16, 1, 1024]⟩
abbrev S8x128 : Shape := ⟨2, ![8, 128]⟩
abbrev S16x128 : Shape := ⟨2, ![16, 128]⟩
abbrev S32x128 : Shape := ⟨2, ![32, 128]⟩
abbrev S128x128 : Shape := ⟨2, ![128, 128]⟩
abbrev S256x128 : Shape := ⟨2, ![256, 128]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S256x256 : Shape := ⟨2, ![256, 256]⟩
abbrev S128x256 : Shape := ⟨2, ![128, 256]⟩

abbrev nBuf : Space → Nat
  | .hbm => 8
  | .vmem => 17
  | .smem => 0
  | _ => 0

abbrev bufTy : (tb : Table) → Fin (tcTables nBuf tb) → BufTy
  | .hbm, ⟨0, _⟩ => ⟨S128x7168, .bf16⟩
  | .hbm, ⟨1, _⟩ => ⟨S3584x18432, .i8⟩
  | .hbm, ⟨2, _⟩ => ⟨S448x18432, .bf16⟩
  | .hbm, ⟨3, _⟩ => ⟨S448x18432, .i8⟩
  | .hbm, ⟨4, _⟩ => ⟨S32256x128, .i32⟩
  | .hbm, ⟨5, _⟩ => ⟨S16128x128, .i32⟩
  | .hbm, ⟨6, _⟩ => ⟨S18432x128, .f32⟩
  | .hbm, ⟨7, _⟩ => ⟨S128x18432, .bf16⟩
  | .local _ .vmem, ⟨0, _⟩ => ⟨S128x7168, .bf16⟩
  | .local _ .vmem, ⟨1, _⟩ => ⟨S3584x1024, .i8⟩
  | .local _ .vmem, ⟨2, _⟩ => ⟨S3584x1024, .i8⟩
  | .local _ .vmem, ⟨3, _⟩ => ⟨S448x1024, .bf16⟩
  | .local _ .vmem, ⟨4, _⟩ => ⟨S448x1024, .bf16⟩
  | .local _ .vmem, ⟨5, _⟩ => ⟨S448x1024, .i8⟩
  | .local _ .vmem, ⟨6, _⟩ => ⟨S448x1024, .i8⟩
  | .local _ .vmem, ⟨7, _⟩ => ⟨S1792x128, .i32⟩
  | .local _ .vmem, ⟨8, _⟩ => ⟨S1792x128, .i32⟩
  | .local _ .vmem, ⟨9, _⟩ => ⟨S896x128, .i32⟩
  | .local _ .vmem, ⟨10, _⟩ => ⟨S896x128, .i32⟩
  | .local _ .vmem, ⟨11, _⟩ => ⟨S1024x128, .f32⟩
  | .local _ .vmem, ⟨12, _⟩ => ⟨S1024x128, .f32⟩
  | .local _ .vmem, ⟨13, _⟩ => ⟨S128x1024, .bf16⟩
  | .local _ .vmem, ⟨14, _⟩ => ⟨S128x1024, .bf16⟩
  | .local _ .vmem, ⟨15, _⟩ => ⟨S2x224x2x1024, .bf16⟩
  | .local _ .vmem, ⟨16, _⟩ => ⟨S2x224x2x1024, .bf16⟩
  | _, _ => ⟨S128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![18], ![false]⟩

@[reducible] def k0_t1_loop : Scf.Loop 32 :=
  let c0_i32_0_r0 : BitVec 32 := 0#32
  let c14_i32_r0 : BitVec 32 := 14#32
  let v0_r0 : BitVec 32 := Scalar.addi c0_i32_0_r0 c14_i32_r0
  let c1_i32_r0 : BitVec 32 := 1#32
  ⟨c0_i32_0_r0, v0_r0, c1_i32_r0⟩
def k0_off1 (k0_t1 : Fin k0_t1_loop.trips) : Fin 2 → Nat :=
  let c0_i32_0_r0 : BitVec 32 := 0#32
  let c1_i32_r0 : BitVec 32 := 1#32
  let arg11_r0 : BitVec 32 := Scf.iv c0_i32_0_r0 c1_i32_r0 k0_t1
  let c32_i32_r0 : BitVec 32 := 32#32
  let v4_r0 : BitVec 32 := Scalar.muli arg11_r0 c32_i32_r0
  let v5_r0 : Index := Scalar.indexCast v4_r0
  let c0_r0 : Index := 0#32
  ![v5_r0.toNat, 0]
def k0_off2 (k0_t1 : Fin k0_t1_loop.trips) : Fin 4 → Nat :=
  let c0_9_r0 : Index := 0#32
  let c0_i32_0_r0 : BitVec 32 := 0#32
  let c1_i32_r0 : BitVec 32 := 1#32
  let arg11_r0 : BitVec 32 := Scf.iv c0_i32_0_r0 c1_i32_r0 k0_t1
  let c16_i32_8_r0 : BitVec 32 := 16#32
  let v18_r0 : BitVec 32 := Scalar.muli arg11_r0 c16_i32_8_r0
  let v19_r0 : Index := Scalar.indexCast v18_r0
  let c0_10_r0 : Index := 0#32
  ![0, v19_r0.toNat, 0, 0]
def k0_off3 (k0_t1 : Fin k0_t1_loop.trips) : Fin 4 → Nat :=
  let c1_r0 : Index := 1#32
  let c0_i32_0_r0 : BitVec 32 := 0#32
  let c1_i32_r0 : BitVec 32 := 1#32
  let arg11_r0 : BitVec 32 := Scf.iv c0_i32_0_r0 c1_i32_r0 k0_t1
  let c16_i32_17_r0 : BitVec 32 := 16#32
  let v38_r0 : BitVec 32 := Scalar.muli arg11_r0 c16_i32_17_r0
  let v39_r0 : Index := Scalar.indexCast v38_r0
  let c0_18_r0 : Index := 0#32
  ![1, v39_r0.toNat, 0, 0]
@[reducible] def k0_t2_loop : Scf.Loop 32 :=
  let c0_i32_3_r0 : BitVec 32 := 0#32
  let c2_i32_r0 : BitVec 32 := 2#32
  let v2_r0 : BitVec 32 := Scalar.addi c0_i32_3_r0 c2_i32_r0
  let c1_i32_4_r0 : BitVec 32 := 1#32
  ⟨c0_i32_3_r0, v2_r0, c1_i32_4_r0⟩
@[reducible] def k0_t3_loop : Scf.Loop 32 :=
  let c0_i32_9_r0 : BitVec 32 := 0#32
  let c14_i32_10_r0 : BitVec 32 := 14#32
  let v6_r0 : BitVec 32 := Scalar.addi c0_i32_9_r0 c14_i32_10_r0
  let c1_i32_11_r0 : BitVec 32 := 1#32
  ⟨c0_i32_9_r0, v6_r0, c1_i32_11_r0⟩
def k0_mult1 (k0_t2 : Fin k0_t2_loop.trips) : BitVec 32 :=
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c128_i32_r0 : BitVec 32 := 128#32
  let v35_r0 : BitVec 32 := Scalar.muli v34_r0 c128_i32_r0
  v35_r0
def k0_mult2 (k0_t2 : Fin k0_t2_loop.trips) (k0_t3 : Fin k0_t3_loop.trips) : BitVec 32 :=
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c224_i32_r0 : BitVec 32 := 224#32
  let v37_r0 : BitVec 32 := Scalar.muli v34_r0 c224_i32_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c8_i32_r0 : BitVec 32 := 8#32
  let v38_r0 : BitVec 32 := Scalar.muli v33_r0 c8_i32_r0
  let v39_r0 : BitVec 32 := Scalar.addi v37_r0 v38_r0
  v39_r0
def k0_off4 (k0_t2 : Fin k0_t2_loop.trips) (k0_t3 : Fin k0_t3_loop.trips) (c0_i32_26_r0 : BitVec 32) : Fin 2 → Nat :=
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c224_i32_r0 : BitVec 32 := 224#32
  let v37_r0 : BitVec 32 := Scalar.muli v34_r0 c224_i32_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_r0 : BitVec 32 := 8#32
  let v38_r0 : BitVec 32 := Scalar.muli v33_r0 c8_i32_r0
  let v39_r0 : BitVec 32 := Scalar.addi v37_r0 v38_r0
  let v40_r0 : BitVec 32 := v39_r0
  let v41_r0 : Index := Scalar.indexCast v40_r0
  let c0_28_r0 : Index := 0#32
  ![v41_r0.toNat, 0]
def k0_mult3 (k0_t2 : Fin k0_t2_loop.trips) (k0_t3 : Fin k0_t3_loop.trips) : BitVec 32 :=
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c112_i32_r0 : BitVec 32 := 112#32
  let v44_r0 : BitVec 32 := Scalar.muli v34_r0 c112_i32_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c0_i32_30_r0 : BitVec 32 := 0#32
  let v46_r0 : BitVec 1 := Scalar.cmpi .sgt v33_r0 c0_i32_30_r0
  let v47_r0 : BitVec 32 := Scalar.extui v46_r0
  let c0_i32_31_r0 : BitVec 32 := 0#32
  let v48_r0 : BitVec 1 := Scalar.cmpi .slt v33_r0 c0_i32_31_r0
  let v49_r0 : BitVec 32 := Scalar.extui v48_r0
  let v50_r0 : BitVec 32 := Scalar.subi v47_r0 v49_r0
  let c2_i32_29_r0 : BitVec 32 := 2#32
  let c0_i32_32_r0 : BitVec 32 := 0#32
  let v51_r0 : BitVec 1 := Scalar.cmpi .sgt c2_i32_29_r0 c0_i32_32_r0
  let v52_r0 : BitVec 32 := Scalar.extui v51_r0
  let c0_i32_33_r0 : BitVec 32 := 0#32
  let v53_r0 : BitVec 1 := Scalar.cmpi .slt c2_i32_29_r0 c0_i32_33_r0
  let v54_r0 : BitVec 32 := Scalar.extui v53_r0
  let v55_r0 : BitVec 32 := Scalar.subi v52_r0 v54_r0
  let v56_r0 : BitVec 1 := Scalar.cmpi .ne v50_r0 v55_r0
  let v57_r0 : BitVec 32 := Scalar.remsi v33_r0 c2_i32_29_r0
  let c0_i32_34_r0 : BitVec 32 := 0#32
  let v58_r0 : BitVec 1 := Scalar.cmpi .ne v57_r0 c0_i32_34_r0
  let v59_r0 : BitVec 1 := Scalar.andi v56_r0 v58_r0
  let v45_r0 : BitVec 32 := Scalar.divsi v33_r0 c2_i32_29_r0
  let c1_i32_35_r0 : BitVec 32 := 1#32
  let v60_r0 : BitVec 32 := Scalar.subi v45_r0 c1_i32_35_r0
  let v61_r0 : BitVec 32 := Scalar.select v59_r0 v60_r0 v45_r0
  let c8_i32_36_r0 : BitVec 32 := 8#32
  let v62_r0 : BitVec 32 := Scalar.muli v61_r0 c8_i32_36_r0
  let v63_r0 : BitVec 32 := Scalar.addi v44_r0 v62_r0
  v63_r0
def k0_off5 (k0_t2 : Fin k0_t2_loop.trips) (k0_t3 : Fin k0_t3_loop.trips) (c0_i32_26_r0 : BitVec 32) : Fin 2 → Nat :=
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c112_i32_r0 : BitVec 32 := 112#32
  let v44_r0 : BitVec 32 := Scalar.muli v34_r0 c112_i32_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c0_i32_30_r0 : BitVec 32 := 0#32
  let v46_r0 : BitVec 1 := Scalar.cmpi .sgt v33_r0 c0_i32_30_r0
  let v47_r0 : BitVec 32 := Scalar.extui v46_r0
  let c0_i32_31_r0 : BitVec 32 := 0#32
  let v48_r0 : BitVec 1 := Scalar.cmpi .slt v33_r0 c0_i32_31_r0
  let v49_r0 : BitVec 32 := Scalar.extui v48_r0
  let v50_r0 : BitVec 32 := Scalar.subi v47_r0 v49_r0
  let c2_i32_29_r0 : BitVec 32 := 2#32
  let c0_i32_32_r0 : BitVec 32 := 0#32
  let v51_r0 : BitVec 1 := Scalar.cmpi .sgt c2_i32_29_r0 c0_i32_32_r0
  let v52_r0 : BitVec 32 := Scalar.extui v51_r0
  let c0_i32_33_r0 : BitVec 32 := 0#32
  let v53_r0 : BitVec 1 := Scalar.cmpi .slt c2_i32_29_r0 c0_i32_33_r0
  let v54_r0 : BitVec 32 := Scalar.extui v53_r0
  let v55_r0 : BitVec 32 := Scalar.subi v52_r0 v54_r0
  let v56_r0 : BitVec 1 := Scalar.cmpi .ne v50_r0 v55_r0
  let v57_r0 : BitVec 32 := Scalar.remsi v33_r0 c2_i32_29_r0
  let c0_i32_34_r0 : BitVec 32 := 0#32
  let v58_r0 : BitVec 1 := Scalar.cmpi .ne v57_r0 c0_i32_34_r0
  let v59_r0 : BitVec 1 := Scalar.andi v56_r0 v58_r0
  let v45_r0 : BitVec 32 := Scalar.divsi v33_r0 c2_i32_29_r0
  let c1_i32_35_r0 : BitVec 32 := 1#32
  let v60_r0 : BitVec 32 := Scalar.subi v45_r0 c1_i32_35_r0
  let v61_r0 : BitVec 32 := Scalar.select v59_r0 v60_r0 v45_r0
  let c8_i32_36_r0 : BitVec 32 := 8#32
  let v62_r0 : BitVec 32 := Scalar.muli v61_r0 c8_i32_36_r0
  let v63_r0 : BitVec 32 := Scalar.addi v44_r0 v62_r0
  let v64_r0 : BitVec 32 := v63_r0
  let v65_r0 : Index := Scalar.indexCast v64_r0
  let c0_37_r0 : Index := 0#32
  ![v65_r0.toNat, 0]
def k0_mult4 (k0_t3 : Fin k0_t3_loop.trips) : BitVec 32 :=
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c128_i32_38_r0 : BitVec 32 := 128#32
  let v70_r0 : BitVec 32 := Scalar.muli v33_r0 c128_i32_38_r0
  v70_r0
def k0_off6 (k0_t2 : Fin k0_t2_loop.trips) (k0_t3 : Fin k0_t3_loop.trips) (c0_i32_26_r0 : BitVec 32) : Fin 2 → Nat :=
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c128_i32_38_r0 : BitVec 32 := 128#32
  let v70_r0 : BitVec 32 := Scalar.muli v33_r0 c128_i32_38_r0
  let v71_r0 : BitVec 32 := v70_r0
  let v72_r0 : Index := Scalar.indexCast v71_r0
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c128_i32_r0 : BitVec 32 := 128#32
  let v35_r0 : BitVec 32 := Scalar.muli v34_r0 c128_i32_r0
  let v36_r0 : BitVec 32 := v35_r0
  let v73_r0 : Index := Scalar.indexCast v36_r0
  ![v72_r0.toNat, v73_r0.toNat]
def k0_off7 (k0_t2 : Fin k0_t2_loop.trips) (k0_t3 : Fin k0_t3_loop.trips) (c0_i32_26_r0 : BitVec 32) (c0_i32_40_r0 : BitVec 32) : Fin 4 → Nat :=
  let c0_41_r0 : Index := 0#32
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_39_r0 : BitVec 32 := 8#32
  let v86_r0 : BitVec 32 := Scalar.muli v33_r0 c8_i32_39_r0
  let v87_r0 : BitVec 32 := Scalar.addi v86_r0 c0_i32_40_r0
  let v88_r0 : Index := Scalar.indexCast v87_r0
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c128_i32_r0 : BitVec 32 := 128#32
  let v35_r0 : BitVec 32 := Scalar.muli v34_r0 c128_i32_r0
  let v36_r0 : BitVec 32 := v35_r0
  let v89_r0 : Index := Scalar.indexCast v36_r0
  ![0, v88_r0.toNat, 0, v89_r0.toNat]
def k0_off8 (k0_t2 : Fin k0_t2_loop.trips) (k0_t3 : Fin k0_t3_loop.trips) (c0_i32_26_r0 : BitVec 32) (c0_i32_46_r0 : BitVec 32) : Fin 4 → Nat :=
  let c1_r0 : Index := 1#32
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_45_r0 : BitVec 32 := 8#32
  let v109_r0 : BitVec 32 := Scalar.muli v33_r0 c8_i32_45_r0
  let v110_r0 : BitVec 32 := Scalar.addi v109_r0 c0_i32_46_r0
  let v111_r0 : Index := Scalar.indexCast v110_r0
  let c2_i32_27_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v34_r0 : BitVec 32 := Scalar.muli c2_i32_27_r0 v5_r0
  let c128_i32_r0 : BitVec 32 := 128#32
  let v35_r0 : BitVec 32 := Scalar.muli v34_r0 c128_i32_r0
  let v36_r0 : BitVec 32 := v35_r0
  let v112_r0 : Index := Scalar.indexCast v36_r0
  ![1, v111_r0.toNat, 0, v112_r0.toNat]
def k0_mult5 (k0_t2 : Fin k0_t2_loop.trips) : BitVec 32 :=
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  v456_r0
def k0_mult6 (k0_t2 : Fin k0_t2_loop.trips) (k0_t3 : Fin k0_t3_loop.trips) : BitVec 32 :=
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c224_i32_148_r0 : BitVec 32 := 224#32
  let v458_r0 : BitVec 32 := Scalar.muli v455_r0 c224_i32_148_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c8_i32_149_r0 : BitVec 32 := 8#32
  let v459_r0 : BitVec 32 := Scalar.muli v33_r0 c8_i32_149_r0
  let v460_r0 : BitVec 32 := Scalar.addi v458_r0 v459_r0
  v460_r0
def k0_off9 (k0_t2 : Fin k0_t2_loop.trips) (k0_t3 : Fin k0_t3_loop.trips) (c0_i32_26_r0 : BitVec 32) : Fin 2 → Nat :=
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c224_i32_148_r0 : BitVec 32 := 224#32
  let v458_r0 : BitVec 32 := Scalar.muli v455_r0 c224_i32_148_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_149_r0 : BitVec 32 := 8#32
  let v459_r0 : BitVec 32 := Scalar.muli v33_r0 c8_i32_149_r0
  let v460_r0 : BitVec 32 := Scalar.addi v458_r0 v459_r0
  let v461_r0 : BitVec 32 := v460_r0
  let v462_r0 : Index := Scalar.indexCast v461_r0
  let c0_150_r0 : Index := 0#32
  ![v462_r0.toNat, 0]
def k0_mult7 (k0_t2 : Fin k0_t2_loop.trips) (k0_t3 : Fin k0_t3_loop.trips) : BitVec 32 :=
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c112_i32_151_r0 : BitVec 32 := 112#32
  let v465_r0 : BitVec 32 := Scalar.muli v455_r0 c112_i32_151_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c0_i32_153_r0 : BitVec 32 := 0#32
  let v467_r0 : BitVec 1 := Scalar.cmpi .sgt v33_r0 c0_i32_153_r0
  let v468_r0 : BitVec 32 := Scalar.extui v467_r0
  let c0_i32_154_r0 : BitVec 32 := 0#32
  let v469_r0 : BitVec 1 := Scalar.cmpi .slt v33_r0 c0_i32_154_r0
  let v470_r0 : BitVec 32 := Scalar.extui v469_r0
  let v471_r0 : BitVec 32 := Scalar.subi v468_r0 v470_r0
  let c2_i32_152_r0 : BitVec 32 := 2#32
  let c0_i32_155_r0 : BitVec 32 := 0#32
  let v472_r0 : BitVec 1 := Scalar.cmpi .sgt c2_i32_152_r0 c0_i32_155_r0
  let v473_r0 : BitVec 32 := Scalar.extui v472_r0
  let c0_i32_156_r0 : BitVec 32 := 0#32
  let v474_r0 : BitVec 1 := Scalar.cmpi .slt c2_i32_152_r0 c0_i32_156_r0
  let v475_r0 : BitVec 32 := Scalar.extui v474_r0
  let v476_r0 : BitVec 32 := Scalar.subi v473_r0 v475_r0
  let v477_r0 : BitVec 1 := Scalar.cmpi .ne v471_r0 v476_r0
  let v478_r0 : BitVec 32 := Scalar.remsi v33_r0 c2_i32_152_r0
  let c0_i32_157_r0 : BitVec 32 := 0#32
  let v479_r0 : BitVec 1 := Scalar.cmpi .ne v478_r0 c0_i32_157_r0
  let v480_r0 : BitVec 1 := Scalar.andi v477_r0 v479_r0
  let v466_r0 : BitVec 32 := Scalar.divsi v33_r0 c2_i32_152_r0
  let c1_i32_158_r0 : BitVec 32 := 1#32
  let v481_r0 : BitVec 32 := Scalar.subi v466_r0 c1_i32_158_r0
  let v482_r0 : BitVec 32 := Scalar.select v480_r0 v481_r0 v466_r0
  let c8_i32_159_r0 : BitVec 32 := 8#32
  let v483_r0 : BitVec 32 := Scalar.muli v482_r0 c8_i32_159_r0
  let v484_r0 : BitVec 32 := Scalar.addi v465_r0 v483_r0
  v484_r0
def k0_off10 (k0_t2 : Fin k0_t2_loop.trips) (k0_t3 : Fin k0_t3_loop.trips) (c0_i32_26_r0 : BitVec 32) : Fin 2 → Nat :=
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c112_i32_151_r0 : BitVec 32 := 112#32
  let v465_r0 : BitVec 32 := Scalar.muli v455_r0 c112_i32_151_r0
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c0_i32_153_r0 : BitVec 32 := 0#32
  let v467_r0 : BitVec 1 := Scalar.cmpi .sgt v33_r0 c0_i32_153_r0
  let v468_r0 : BitVec 32 := Scalar.extui v467_r0
  let c0_i32_154_r0 : BitVec 32 := 0#32
  let v469_r0 : BitVec 1 := Scalar.cmpi .slt v33_r0 c0_i32_154_r0
  let v470_r0 : BitVec 32 := Scalar.extui v469_r0
  let v471_r0 : BitVec 32 := Scalar.subi v468_r0 v470_r0
  let c2_i32_152_r0 : BitVec 32 := 2#32
  let c0_i32_155_r0 : BitVec 32 := 0#32
  let v472_r0 : BitVec 1 := Scalar.cmpi .sgt c2_i32_152_r0 c0_i32_155_r0
  let v473_r0 : BitVec 32 := Scalar.extui v472_r0
  let c0_i32_156_r0 : BitVec 32 := 0#32
  let v474_r0 : BitVec 1 := Scalar.cmpi .slt c2_i32_152_r0 c0_i32_156_r0
  let v475_r0 : BitVec 32 := Scalar.extui v474_r0
  let v476_r0 : BitVec 32 := Scalar.subi v473_r0 v475_r0
  let v477_r0 : BitVec 1 := Scalar.cmpi .ne v471_r0 v476_r0
  let v478_r0 : BitVec 32 := Scalar.remsi v33_r0 c2_i32_152_r0
  let c0_i32_157_r0 : BitVec 32 := 0#32
  let v479_r0 : BitVec 1 := Scalar.cmpi .ne v478_r0 c0_i32_157_r0
  let v480_r0 : BitVec 1 := Scalar.andi v477_r0 v479_r0
  let v466_r0 : BitVec 32 := Scalar.divsi v33_r0 c2_i32_152_r0
  let c1_i32_158_r0 : BitVec 32 := 1#32
  let v481_r0 : BitVec 32 := Scalar.subi v466_r0 c1_i32_158_r0
  let v482_r0 : BitVec 32 := Scalar.select v480_r0 v481_r0 v466_r0
  let c8_i32_159_r0 : BitVec 32 := 8#32
  let v483_r0 : BitVec 32 := Scalar.muli v482_r0 c8_i32_159_r0
  let v484_r0 : BitVec 32 := Scalar.addi v465_r0 v483_r0
  let v485_r0 : BitVec 32 := v484_r0
  let v486_r0 : Index := Scalar.indexCast v485_r0
  let c0_160_r0 : Index := 0#32
  ![v486_r0.toNat, 0]
def k0_mult8 (k0_t3 : Fin k0_t3_loop.trips) : BitVec 32 :=
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c128_i32_161_r0 : BitVec 32 := 128#32
  let v491_r0 : BitVec 32 := Scalar.muli v33_r0 c128_i32_161_r0
  v491_r0
def k0_off11 (k0_t2 : Fin k0_t2_loop.trips) (k0_t3 : Fin k0_t3_loop.trips) (c0_i32_26_r0 : BitVec 32) : Fin 2 → Nat :=
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c128_i32_161_r0 : BitVec 32 := 128#32
  let v491_r0 : BitVec 32 := Scalar.muli v33_r0 c128_i32_161_r0
  let v492_r0 : BitVec 32 := v491_r0
  let v493_r0 : Index := Scalar.indexCast v492_r0
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v494_r0 : Index := Scalar.indexCast v457_r0
  ![v493_r0.toNat, v494_r0.toNat]
def k0_off12 (k0_t2 : Fin k0_t2_loop.trips) (k0_t3 : Fin k0_t3_loop.trips) (c0_i32_26_r0 : BitVec 32) (c0_i32_166_r0 : BitVec 32) : Fin 4 → Nat :=
  let c0_167_r0 : Index := 0#32
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_165_r0 : BitVec 32 := 8#32
  let v507_r0 : BitVec 32 := Scalar.muli v33_r0 c8_i32_165_r0
  let v508_r0 : BitVec 32 := Scalar.addi v507_r0 c0_i32_166_r0
  let v509_r0 : Index := Scalar.indexCast v508_r0
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v510_r0 : Index := Scalar.indexCast v457_r0
  ![0, v509_r0.toNat, 0, v510_r0.toNat]
def k0_off13 (k0_t2 : Fin k0_t2_loop.trips) (k0_t3 : Fin k0_t3_loop.trips) (c0_i32_26_r0 : BitVec 32) (c0_i32_173_r0 : BitVec 32) : Fin 4 → Nat :=
  let c1_174_r0 : Index := 1#32
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c8_i32_172_r0 : BitVec 32 := 8#32
  let v530_r0 : BitVec 32 := Scalar.muli v33_r0 c8_i32_172_r0
  let v531_r0 : BitVec 32 := Scalar.addi v530_r0 c0_i32_173_r0
  let v532_r0 : Index := Scalar.indexCast v531_r0
  let c2_i32_145_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v454_r0 : BitVec 32 := Scalar.muli c2_i32_145_r0 v5_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v533_r0 : Index := Scalar.indexCast v457_r0
  ![1, v532_r0.toNat, 0, v533_r0.toNat]
def k0_mult9 (k0_t3 : Fin k0_t3_loop.trips) : BitVec 32 :=
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let c0_i32_26_r0 : BitVec 32 := 0#32
  let v33_r0 : BitVec 32 := Scalar.addi v32_r0 c0_i32_26_r0
  let c256_i32_277_r0 : BitVec 32 := 256#32
  let v876_r0 : BitVec 32 := Scalar.muli v33_r0 c256_i32_277_r0
  v876_r0
def k0_off14 (k0_t3 : Fin k0_t3_loop.trips) (c0_i32_26_r0 : BitVec 32) : Fin 2 → Nat :=
  let c0_278_r0 : Index := 0#32
  let c2_i32_25_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v32_r0 : BitVec 32 := Scalar.muli c2_i32_25_r0 arg13_r0
  let v33_r0 : BitVec 32 := Scalar.addi v32_r0 c0_i32_26_r0
  let c256_i32_277_r0 : BitVec 32 := 256#32
  let v876_r0 : BitVec 32 := Scalar.muli v33_r0 c256_i32_277_r0
  let v877_r0 : BitVec 32 := v876_r0
  let v878_r0 : Index := Scalar.indexCast v877_r0
  ![0, v878_r0.toNat]
def k0_mult10 (k0_t2 : Fin k0_t2_loop.trips) : BitVec 32 :=
  let c2_i32_281_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v882_r0 : BitVec 32 := Scalar.muli c2_i32_281_r0 v5_r0
  let c128_i32_282_r0 : BitVec 32 := 128#32
  let v883_r0 : BitVec 32 := Scalar.muli v882_r0 c128_i32_282_r0
  v883_r0
def k0_mult11 (k0_t2 : Fin k0_t2_loop.trips) (k0_t3 : Fin k0_t3_loop.trips) : BitVec 32 :=
  let c2_i32_281_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v882_r0 : BitVec 32 := Scalar.muli c2_i32_281_r0 v5_r0
  let c224_i32_283_r0 : BitVec 32 := 224#32
  let v885_r0 : BitVec 32 := Scalar.muli v882_r0 c224_i32_283_r0
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c8_i32_284_r0 : BitVec 32 := 8#32
  let v886_r0 : BitVec 32 := Scalar.muli v881_r0 c8_i32_284_r0
  let v887_r0 : BitVec 32 := Scalar.addi v885_r0 v886_r0
  v887_r0
def k0_mult12 (k0_t2 : Fin k0_t2_loop.trips) (k0_t3 : Fin k0_t3_loop.trips) : BitVec 32 :=
  let c2_i32_281_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v882_r0 : BitVec 32 := Scalar.muli c2_i32_281_r0 v5_r0
  let c112_i32_286_r0 : BitVec 32 := 112#32
  let v892_r0 : BitVec 32 := Scalar.muli v882_r0 c112_i32_286_r0
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c0_i32_288_r0 : BitVec 32 := 0#32
  let v894_r0 : BitVec 1 := Scalar.cmpi .sgt v881_r0 c0_i32_288_r0
  let v895_r0 : BitVec 32 := Scalar.extui v894_r0
  let c0_i32_289_r0 : BitVec 32 := 0#32
  let v896_r0 : BitVec 1 := Scalar.cmpi .slt v881_r0 c0_i32_289_r0
  let v897_r0 : BitVec 32 := Scalar.extui v896_r0
  let v898_r0 : BitVec 32 := Scalar.subi v895_r0 v897_r0
  let c2_i32_287_r0 : BitVec 32 := 2#32
  let c0_i32_290_r0 : BitVec 32 := 0#32
  let v899_r0 : BitVec 1 := Scalar.cmpi .sgt c2_i32_287_r0 c0_i32_290_r0
  let v900_r0 : BitVec 32 := Scalar.extui v899_r0
  let c0_i32_291_r0 : BitVec 32 := 0#32
  let v901_r0 : BitVec 1 := Scalar.cmpi .slt c2_i32_287_r0 c0_i32_291_r0
  let v902_r0 : BitVec 32 := Scalar.extui v901_r0
  let v903_r0 : BitVec 32 := Scalar.subi v900_r0 v902_r0
  let v904_r0 : BitVec 1 := Scalar.cmpi .ne v898_r0 v903_r0
  let v905_r0 : BitVec 32 := Scalar.remsi v881_r0 c2_i32_287_r0
  let c0_i32_292_r0 : BitVec 32 := 0#32
  let v906_r0 : BitVec 1 := Scalar.cmpi .ne v905_r0 c0_i32_292_r0
  let v907_r0 : BitVec 1 := Scalar.andi v904_r0 v906_r0
  let v893_r0 : BitVec 32 := Scalar.divsi v881_r0 c2_i32_287_r0
  let c1_i32_293_r0 : BitVec 32 := 1#32
  let v908_r0 : BitVec 32 := Scalar.subi v893_r0 c1_i32_293_r0
  let v909_r0 : BitVec 32 := Scalar.select v907_r0 v908_r0 v893_r0
  let c8_i32_294_r0 : BitVec 32 := 8#32
  let v910_r0 : BitVec 32 := Scalar.muli v909_r0 c8_i32_294_r0
  let v911_r0 : BitVec 32 := Scalar.addi v892_r0 v910_r0
  v911_r0
def k0_mult13 (k0_t3 : Fin k0_t3_loop.trips) : BitVec 32 :=
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c128_i32_296_r0 : BitVec 32 := 128#32
  let v918_r0 : BitVec 32 := Scalar.muli v881_r0 c128_i32_296_r0
  v918_r0
def k0_mult14 (k0_t2 : Fin k0_t2_loop.trips) : BitVec 32 :=
  let c2_i32_412_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v1302_r0 : BitVec 32 := Scalar.muli c2_i32_412_r0 v5_r0
  let c1_i32_413_r0 : BitVec 32 := 1#32
  let v1303_r0 : BitVec 32 := Scalar.addi v1302_r0 c1_i32_413_r0
  let c128_i32_414_r0 : BitVec 32 := 128#32
  let v1304_r0 : BitVec 32 := Scalar.muli v1303_r0 c128_i32_414_r0
  v1304_r0
def k0_mult15 (k0_t2 : Fin k0_t2_loop.trips) (k0_t3 : Fin k0_t3_loop.trips) : BitVec 32 :=
  let c2_i32_412_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v1302_r0 : BitVec 32 := Scalar.muli c2_i32_412_r0 v5_r0
  let c1_i32_413_r0 : BitVec 32 := 1#32
  let v1303_r0 : BitVec 32 := Scalar.addi v1302_r0 c1_i32_413_r0
  let c224_i32_415_r0 : BitVec 32 := 224#32
  let v1306_r0 : BitVec 32 := Scalar.muli v1303_r0 c224_i32_415_r0
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c8_i32_416_r0 : BitVec 32 := 8#32
  let v1307_r0 : BitVec 32 := Scalar.muli v881_r0 c8_i32_416_r0
  let v1308_r0 : BitVec 32 := Scalar.addi v1306_r0 v1307_r0
  v1308_r0
def k0_mult16 (k0_t2 : Fin k0_t2_loop.trips) (k0_t3 : Fin k0_t3_loop.trips) : BitVec 32 :=
  let c2_i32_412_r0 : BitVec 32 := 2#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let v1302_r0 : BitVec 32 := Scalar.muli c2_i32_412_r0 v5_r0
  let c1_i32_413_r0 : BitVec 32 := 1#32
  let v1303_r0 : BitVec 32 := Scalar.addi v1302_r0 c1_i32_413_r0
  let c112_i32_418_r0 : BitVec 32 := 112#32
  let v1313_r0 : BitVec 32 := Scalar.muli v1303_r0 c112_i32_418_r0
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c0_i32_420_r0 : BitVec 32 := 0#32
  let v1315_r0 : BitVec 1 := Scalar.cmpi .sgt v881_r0 c0_i32_420_r0
  let v1316_r0 : BitVec 32 := Scalar.extui v1315_r0
  let c0_i32_421_r0 : BitVec 32 := 0#32
  let v1317_r0 : BitVec 1 := Scalar.cmpi .slt v881_r0 c0_i32_421_r0
  let v1318_r0 : BitVec 32 := Scalar.extui v1317_r0
  let v1319_r0 : BitVec 32 := Scalar.subi v1316_r0 v1318_r0
  let c2_i32_419_r0 : BitVec 32 := 2#32
  let c0_i32_422_r0 : BitVec 32 := 0#32
  let v1320_r0 : BitVec 1 := Scalar.cmpi .sgt c2_i32_419_r0 c0_i32_422_r0
  let v1321_r0 : BitVec 32 := Scalar.extui v1320_r0
  let c0_i32_423_r0 : BitVec 32 := 0#32
  let v1322_r0 : BitVec 1 := Scalar.cmpi .slt c2_i32_419_r0 c0_i32_423_r0
  let v1323_r0 : BitVec 32 := Scalar.extui v1322_r0
  let v1324_r0 : BitVec 32 := Scalar.subi v1321_r0 v1323_r0
  let v1325_r0 : BitVec 1 := Scalar.cmpi .ne v1319_r0 v1324_r0
  let v1326_r0 : BitVec 32 := Scalar.remsi v881_r0 c2_i32_419_r0
  let c0_i32_424_r0 : BitVec 32 := 0#32
  let v1327_r0 : BitVec 1 := Scalar.cmpi .ne v1326_r0 c0_i32_424_r0
  let v1328_r0 : BitVec 1 := Scalar.andi v1325_r0 v1327_r0
  let v1314_r0 : BitVec 32 := Scalar.divsi v881_r0 c2_i32_419_r0
  let c1_i32_425_r0 : BitVec 32 := 1#32
  let v1329_r0 : BitVec 32 := Scalar.subi v1314_r0 c1_i32_425_r0
  let v1330_r0 : BitVec 32 := Scalar.select v1328_r0 v1329_r0 v1314_r0
  let c8_i32_426_r0 : BitVec 32 := 8#32
  let v1331_r0 : BitVec 32 := Scalar.muli v1330_r0 c8_i32_426_r0
  let v1332_r0 : BitVec 32 := Scalar.addi v1313_r0 v1331_r0
  v1332_r0
def k0_mult17 (k0_t3 : Fin k0_t3_loop.trips) : BitVec 32 :=
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c128_i32_428_r0 : BitVec 32 := 128#32
  let v1339_r0 : BitVec 32 := Scalar.muli v881_r0 c128_i32_428_r0
  v1339_r0
def k0_mult18 (k0_t3 : Fin k0_t3_loop.trips) : BitVec 32 :=
  let c2_i32_279_r0 : BitVec 32 := 2#32
  let c0_i32_9_r0 : BitVec 32 := 0#32
  let c1_i32_11_r0 : BitVec 32 := 1#32
  let arg13_r0 : BitVec 32 := Scf.iv c0_i32_9_r0 c1_i32_11_r0 k0_t3
  let v880_r0 : BitVec 32 := Scalar.muli c2_i32_279_r0 arg13_r0
  let c1_i32_280_r0 : BitVec 32 := 1#32
  let v881_r0 : BitVec 32 := Scalar.addi v880_r0 c1_i32_280_r0
  let c256_i32_544_r0 : BitVec 32 := 256#32
  let v1724_r0 : BitVec 32 := Scalar.muli v881_r0 c256_i32_544_r0
  v1724_r0
def k0_mult19 (k0_t2 : Fin k0_t2_loop.trips) : BitVec 32 :=
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let c0_i32_7_r0 : BitVec 32 := 0#32
  let v5_r0 : BitVec 32 := Scalar.addi v4_r0 c0_i32_7_r0
  let c256_i32_r0 : BitVec 32 := 256#32
  let v8_r0 : BitVec 32 := Scalar.muli v5_r0 c256_i32_r0
  v8_r0
def k0_off15 (k0_t2 : Fin k0_t2_loop.trips) (c0_i32_7_r0 : BitVec 32) : Fin 2 → Nat :=
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let v5_r0 : BitVec 32 := Scalar.addi v4_r0 c0_i32_7_r0
  let c256_i32_r0 : BitVec 32 := 256#32
  let v8_r0 : BitVec 32 := Scalar.muli v5_r0 c256_i32_r0
  let v9_r0 : BitVec 32 := v8_r0
  let v11_r0 : Index := Scalar.indexCast v9_r0
  let c0_r0 : Index := 0#32
  ![v11_r0.toNat, 0]
def k0_off16 (k0_t2 : Fin k0_t2_loop.trips) (c0_i32_7_r0 : BitVec 32) : Fin 2 → Nat :=
  let c0_13_r0 : Index := 0#32
  let c2_i32_6_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v4_r0 : BitVec 32 := Scalar.muli c2_i32_6_r0 arg11_r0
  let v5_r0 : BitVec 32 := Scalar.addi v4_r0 c0_i32_7_r0
  let c256_i32_r0 : BitVec 32 := 256#32
  let v8_r0 : BitVec 32 := Scalar.muli v5_r0 c256_i32_r0
  let v9_r0 : BitVec 32 := v8_r0
  let v16_r0 : Index := Scalar.indexCast v9_r0
  ![0, v16_r0.toNat]
@[reducible] def k0_t4_loop : Scf.Loop 32 :=
  let c0_i32_17_r0 : BitVec 32 := 0#32
  let c14_i32_18_r0 : BitVec 32 := 14#32
  let v20_r0 : BitVec 32 := Scalar.addi c0_i32_17_r0 c14_i32_18_r0
  let c1_i32_19_r0 : BitVec 32 := 1#32
  ⟨c0_i32_17_r0, v20_r0, c1_i32_19_r0⟩
def k0_mult20 (k0_t2 : Fin k0_t2_loop.trips) : BitVec 32 :=
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c128_i32_r0 : BitVec 32 := 128#32
  let v35_r0 : BitVec 32 := Scalar.muli v34_r0 c128_i32_r0
  v35_r0
def k0_mult21 (k0_t2 : Fin k0_t2_loop.trips) (k0_t4 : Fin k0_t4_loop.trips) : BitVec 32 :=
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c224_i32_r0 : BitVec 32 := 224#32
  let v37_r0 : BitVec 32 := Scalar.muli v34_r0 c224_i32_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c8_i32_r0 : BitVec 32 := 8#32
  let v38_r0 : BitVec 32 := Scalar.muli v33_r0 c8_i32_r0
  let v39_r0 : BitVec 32 := Scalar.addi v37_r0 v38_r0
  v39_r0
def k0_off17 (k0_t2 : Fin k0_t2_loop.trips) (k0_t4 : Fin k0_t4_loop.trips) (c0_i32_26_r0 : BitVec 32) : Fin 2 → Nat :=
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c224_i32_r0 : BitVec 32 := 224#32
  let v37_r0 : BitVec 32 := Scalar.muli v34_r0 c224_i32_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_r0 : BitVec 32 := 8#32
  let v38_r0 : BitVec 32 := Scalar.muli v33_r0 c8_i32_r0
  let v39_r0 : BitVec 32 := Scalar.addi v37_r0 v38_r0
  let v40_r0 : BitVec 32 := v39_r0
  let v41_r0 : Index := Scalar.indexCast v40_r0
  let c0_28_r0 : Index := 0#32
  ![v41_r0.toNat, 0]
def k0_mult22 (k0_t2 : Fin k0_t2_loop.trips) (k0_t4 : Fin k0_t4_loop.trips) : BitVec 32 :=
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c112_i32_r0 : BitVec 32 := 112#32
  let v44_r0 : BitVec 32 := Scalar.muli v34_r0 c112_i32_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c0_i32_30_r0 : BitVec 32 := 0#32
  let v46_r0 : BitVec 1 := Scalar.cmpi .sgt v33_r0 c0_i32_30_r0
  let v47_r0 : BitVec 32 := Scalar.extui v46_r0
  let c0_i32_31_r0 : BitVec 32 := 0#32
  let v48_r0 : BitVec 1 := Scalar.cmpi .slt v33_r0 c0_i32_31_r0
  let v49_r0 : BitVec 32 := Scalar.extui v48_r0
  let v50_r0 : BitVec 32 := Scalar.subi v47_r0 v49_r0
  let c2_i32_29_r0 : BitVec 32 := 2#32
  let c0_i32_32_r0 : BitVec 32 := 0#32
  let v51_r0 : BitVec 1 := Scalar.cmpi .sgt c2_i32_29_r0 c0_i32_32_r0
  let v52_r0 : BitVec 32 := Scalar.extui v51_r0
  let c0_i32_33_r0 : BitVec 32 := 0#32
  let v53_r0 : BitVec 1 := Scalar.cmpi .slt c2_i32_29_r0 c0_i32_33_r0
  let v54_r0 : BitVec 32 := Scalar.extui v53_r0
  let v55_r0 : BitVec 32 := Scalar.subi v52_r0 v54_r0
  let v56_r0 : BitVec 1 := Scalar.cmpi .ne v50_r0 v55_r0
  let v57_r0 : BitVec 32 := Scalar.remsi v33_r0 c2_i32_29_r0
  let c0_i32_34_r0 : BitVec 32 := 0#32
  let v58_r0 : BitVec 1 := Scalar.cmpi .ne v57_r0 c0_i32_34_r0
  let v59_r0 : BitVec 1 := Scalar.andi v56_r0 v58_r0
  let v45_r0 : BitVec 32 := Scalar.divsi v33_r0 c2_i32_29_r0
  let c1_i32_35_r0 : BitVec 32 := 1#32
  let v60_r0 : BitVec 32 := Scalar.subi v45_r0 c1_i32_35_r0
  let v61_r0 : BitVec 32 := Scalar.select v59_r0 v60_r0 v45_r0
  let c8_i32_36_r0 : BitVec 32 := 8#32
  let v62_r0 : BitVec 32 := Scalar.muli v61_r0 c8_i32_36_r0
  let v63_r0 : BitVec 32 := Scalar.addi v44_r0 v62_r0
  v63_r0
def k0_off18 (k0_t2 : Fin k0_t2_loop.trips) (k0_t4 : Fin k0_t4_loop.trips) (c0_i32_26_r0 : BitVec 32) : Fin 2 → Nat :=
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c112_i32_r0 : BitVec 32 := 112#32
  let v44_r0 : BitVec 32 := Scalar.muli v34_r0 c112_i32_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c0_i32_30_r0 : BitVec 32 := 0#32
  let v46_r0 : BitVec 1 := Scalar.cmpi .sgt v33_r0 c0_i32_30_r0
  let v47_r0 : BitVec 32 := Scalar.extui v46_r0
  let c0_i32_31_r0 : BitVec 32 := 0#32
  let v48_r0 : BitVec 1 := Scalar.cmpi .slt v33_r0 c0_i32_31_r0
  let v49_r0 : BitVec 32 := Scalar.extui v48_r0
  let v50_r0 : BitVec 32 := Scalar.subi v47_r0 v49_r0
  let c2_i32_29_r0 : BitVec 32 := 2#32
  let c0_i32_32_r0 : BitVec 32 := 0#32
  let v51_r0 : BitVec 1 := Scalar.cmpi .sgt c2_i32_29_r0 c0_i32_32_r0
  let v52_r0 : BitVec 32 := Scalar.extui v51_r0
  let c0_i32_33_r0 : BitVec 32 := 0#32
  let v53_r0 : BitVec 1 := Scalar.cmpi .slt c2_i32_29_r0 c0_i32_33_r0
  let v54_r0 : BitVec 32 := Scalar.extui v53_r0
  let v55_r0 : BitVec 32 := Scalar.subi v52_r0 v54_r0
  let v56_r0 : BitVec 1 := Scalar.cmpi .ne v50_r0 v55_r0
  let v57_r0 : BitVec 32 := Scalar.remsi v33_r0 c2_i32_29_r0
  let c0_i32_34_r0 : BitVec 32 := 0#32
  let v58_r0 : BitVec 1 := Scalar.cmpi .ne v57_r0 c0_i32_34_r0
  let v59_r0 : BitVec 1 := Scalar.andi v56_r0 v58_r0
  let v45_r0 : BitVec 32 := Scalar.divsi v33_r0 c2_i32_29_r0
  let c1_i32_35_r0 : BitVec 32 := 1#32
  let v60_r0 : BitVec 32 := Scalar.subi v45_r0 c1_i32_35_r0
  let v61_r0 : BitVec 32 := Scalar.select v59_r0 v60_r0 v45_r0
  let c8_i32_36_r0 : BitVec 32 := 8#32
  let v62_r0 : BitVec 32 := Scalar.muli v61_r0 c8_i32_36_r0
  let v63_r0 : BitVec 32 := Scalar.addi v44_r0 v62_r0
  let v64_r0 : BitVec 32 := v63_r0
  let v65_r0 : Index := Scalar.indexCast v64_r0
  let c0_37_r0 : Index := 0#32
  ![v65_r0.toNat, 0]
def k0_mult23 (k0_t4 : Fin k0_t4_loop.trips) : BitVec 32 :=
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c128_i32_38_r0 : BitVec 32 := 128#32
  let v70_r0 : BitVec 32 := Scalar.muli v33_r0 c128_i32_38_r0
  v70_r0
def k0_off19 (k0_t2 : Fin k0_t2_loop.trips) (k0_t4 : Fin k0_t4_loop.trips) (c0_i32_26_r0 : BitVec 32) : Fin 2 → Nat :=
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c128_i32_38_r0 : BitVec 32 := 128#32
  let v70_r0 : BitVec 32 := Scalar.muli v33_r0 c128_i32_38_r0
  let v71_r0 : BitVec 32 := v70_r0
  let v72_r0 : Index := Scalar.indexCast v71_r0
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c128_i32_r0 : BitVec 32 := 128#32
  let v35_r0 : BitVec 32 := Scalar.muli v34_r0 c128_i32_r0
  let v36_r0 : BitVec 32 := v35_r0
  let v73_r0 : Index := Scalar.indexCast v36_r0
  ![v72_r0.toNat, v73_r0.toNat]
def k0_off20 (k0_t2 : Fin k0_t2_loop.trips) (k0_t4 : Fin k0_t4_loop.trips) (c0_i32_26_r0 : BitVec 32) (c0_i32_40_r0 : BitVec 32) : Fin 4 → Nat :=
  let c0_41_r0 : Index := 0#32
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_39_r0 : BitVec 32 := 8#32
  let v86_r0 : BitVec 32 := Scalar.muli v33_r0 c8_i32_39_r0
  let v87_r0 : BitVec 32 := Scalar.addi v86_r0 c0_i32_40_r0
  let v88_r0 : Index := Scalar.indexCast v87_r0
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c128_i32_r0 : BitVec 32 := 128#32
  let v35_r0 : BitVec 32 := Scalar.muli v34_r0 c128_i32_r0
  let v36_r0 : BitVec 32 := v35_r0
  let v89_r0 : Index := Scalar.indexCast v36_r0
  ![0, v88_r0.toNat, 0, v89_r0.toNat]
def k0_off21 (k0_t2 : Fin k0_t2_loop.trips) (k0_t4 : Fin k0_t4_loop.trips) (c0_i32_26_r0 : BitVec 32) (c0_i32_46_r0 : BitVec 32) : Fin 4 → Nat :=
  let c1_r0 : Index := 1#32
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_45_r0 : BitVec 32 := 8#32
  let v109_r0 : BitVec 32 := Scalar.muli v33_r0 c8_i32_45_r0
  let v110_r0 : BitVec 32 := Scalar.addi v109_r0 c0_i32_46_r0
  let v111_r0 : Index := Scalar.indexCast v110_r0
  let c2_i32_27_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v34_r0 : BitVec 32 := Scalar.muli c2_i32_27_r0 v19_r0
  let c128_i32_r0 : BitVec 32 := 128#32
  let v35_r0 : BitVec 32 := Scalar.muli v34_r0 c128_i32_r0
  let v36_r0 : BitVec 32 := v35_r0
  let v112_r0 : Index := Scalar.indexCast v36_r0
  ![1, v111_r0.toNat, 0, v112_r0.toNat]
def k0_mult24 (k0_t2 : Fin k0_t2_loop.trips) : BitVec 32 :=
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  v456_r0
def k0_mult25 (k0_t2 : Fin k0_t2_loop.trips) (k0_t4 : Fin k0_t4_loop.trips) : BitVec 32 :=
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c224_i32_148_r0 : BitVec 32 := 224#32
  let v458_r0 : BitVec 32 := Scalar.muli v455_r0 c224_i32_148_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c8_i32_149_r0 : BitVec 32 := 8#32
  let v459_r0 : BitVec 32 := Scalar.muli v33_r0 c8_i32_149_r0
  let v460_r0 : BitVec 32 := Scalar.addi v458_r0 v459_r0
  v460_r0
def k0_off22 (k0_t2 : Fin k0_t2_loop.trips) (k0_t4 : Fin k0_t4_loop.trips) (c0_i32_26_r0 : BitVec 32) : Fin 2 → Nat :=
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c224_i32_148_r0 : BitVec 32 := 224#32
  let v458_r0 : BitVec 32 := Scalar.muli v455_r0 c224_i32_148_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_149_r0 : BitVec 32 := 8#32
  let v459_r0 : BitVec 32 := Scalar.muli v33_r0 c8_i32_149_r0
  let v460_r0 : BitVec 32 := Scalar.addi v458_r0 v459_r0
  let v461_r0 : BitVec 32 := v460_r0
  let v462_r0 : Index := Scalar.indexCast v461_r0
  let c0_150_r0 : Index := 0#32
  ![v462_r0.toNat, 0]
def k0_mult26 (k0_t2 : Fin k0_t2_loop.trips) (k0_t4 : Fin k0_t4_loop.trips) : BitVec 32 :=
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c112_i32_151_r0 : BitVec 32 := 112#32
  let v465_r0 : BitVec 32 := Scalar.muli v455_r0 c112_i32_151_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c0_i32_153_r0 : BitVec 32 := 0#32
  let v467_r0 : BitVec 1 := Scalar.cmpi .sgt v33_r0 c0_i32_153_r0
  let v468_r0 : BitVec 32 := Scalar.extui v467_r0
  let c0_i32_154_r0 : BitVec 32 := 0#32
  let v469_r0 : BitVec 1 := Scalar.cmpi .slt v33_r0 c0_i32_154_r0
  let v470_r0 : BitVec 32 := Scalar.extui v469_r0
  let v471_r0 : BitVec 32 := Scalar.subi v468_r0 v470_r0
  let c2_i32_152_r0 : BitVec 32 := 2#32
  let c0_i32_155_r0 : BitVec 32 := 0#32
  let v472_r0 : BitVec 1 := Scalar.cmpi .sgt c2_i32_152_r0 c0_i32_155_r0
  let v473_r0 : BitVec 32 := Scalar.extui v472_r0
  let c0_i32_156_r0 : BitVec 32 := 0#32
  let v474_r0 : BitVec 1 := Scalar.cmpi .slt c2_i32_152_r0 c0_i32_156_r0
  let v475_r0 : BitVec 32 := Scalar.extui v474_r0
  let v476_r0 : BitVec 32 := Scalar.subi v473_r0 v475_r0
  let v477_r0 : BitVec 1 := Scalar.cmpi .ne v471_r0 v476_r0
  let v478_r0 : BitVec 32 := Scalar.remsi v33_r0 c2_i32_152_r0
  let c0_i32_157_r0 : BitVec 32 := 0#32
  let v479_r0 : BitVec 1 := Scalar.cmpi .ne v478_r0 c0_i32_157_r0
  let v480_r0 : BitVec 1 := Scalar.andi v477_r0 v479_r0
  let v466_r0 : BitVec 32 := Scalar.divsi v33_r0 c2_i32_152_r0
  let c1_i32_158_r0 : BitVec 32 := 1#32
  let v481_r0 : BitVec 32 := Scalar.subi v466_r0 c1_i32_158_r0
  let v482_r0 : BitVec 32 := Scalar.select v480_r0 v481_r0 v466_r0
  let c8_i32_159_r0 : BitVec 32 := 8#32
  let v483_r0 : BitVec 32 := Scalar.muli v482_r0 c8_i32_159_r0
  let v484_r0 : BitVec 32 := Scalar.addi v465_r0 v483_r0
  v484_r0
def k0_off23 (k0_t2 : Fin k0_t2_loop.trips) (k0_t4 : Fin k0_t4_loop.trips) (c0_i32_26_r0 : BitVec 32) : Fin 2 → Nat :=
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c112_i32_151_r0 : BitVec 32 := 112#32
  let v465_r0 : BitVec 32 := Scalar.muli v455_r0 c112_i32_151_r0
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c0_i32_153_r0 : BitVec 32 := 0#32
  let v467_r0 : BitVec 1 := Scalar.cmpi .sgt v33_r0 c0_i32_153_r0
  let v468_r0 : BitVec 32 := Scalar.extui v467_r0
  let c0_i32_154_r0 : BitVec 32 := 0#32
  let v469_r0 : BitVec 1 := Scalar.cmpi .slt v33_r0 c0_i32_154_r0
  let v470_r0 : BitVec 32 := Scalar.extui v469_r0
  let v471_r0 : BitVec 32 := Scalar.subi v468_r0 v470_r0
  let c2_i32_152_r0 : BitVec 32 := 2#32
  let c0_i32_155_r0 : BitVec 32 := 0#32
  let v472_r0 : BitVec 1 := Scalar.cmpi .sgt c2_i32_152_r0 c0_i32_155_r0
  let v473_r0 : BitVec 32 := Scalar.extui v472_r0
  let c0_i32_156_r0 : BitVec 32 := 0#32
  let v474_r0 : BitVec 1 := Scalar.cmpi .slt c2_i32_152_r0 c0_i32_156_r0
  let v475_r0 : BitVec 32 := Scalar.extui v474_r0
  let v476_r0 : BitVec 32 := Scalar.subi v473_r0 v475_r0
  let v477_r0 : BitVec 1 := Scalar.cmpi .ne v471_r0 v476_r0
  let v478_r0 : BitVec 32 := Scalar.remsi v33_r0 c2_i32_152_r0
  let c0_i32_157_r0 : BitVec 32 := 0#32
  let v479_r0 : BitVec 1 := Scalar.cmpi .ne v478_r0 c0_i32_157_r0
  let v480_r0 : BitVec 1 := Scalar.andi v477_r0 v479_r0
  let v466_r0 : BitVec 32 := Scalar.divsi v33_r0 c2_i32_152_r0
  let c1_i32_158_r0 : BitVec 32 := 1#32
  let v481_r0 : BitVec 32 := Scalar.subi v466_r0 c1_i32_158_r0
  let v482_r0 : BitVec 32 := Scalar.select v480_r0 v481_r0 v466_r0
  let c8_i32_159_r0 : BitVec 32 := 8#32
  let v483_r0 : BitVec 32 := Scalar.muli v482_r0 c8_i32_159_r0
  let v484_r0 : BitVec 32 := Scalar.addi v465_r0 v483_r0
  let v485_r0 : BitVec 32 := v484_r0
  let v486_r0 : Index := Scalar.indexCast v485_r0
  let c0_160_r0 : Index := 0#32
  ![v486_r0.toNat, 0]
def k0_mult27 (k0_t4 : Fin k0_t4_loop.trips) : BitVec 32 :=
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c128_i32_161_r0 : BitVec 32 := 128#32
  let v491_r0 : BitVec 32 := Scalar.muli v33_r0 c128_i32_161_r0
  v491_r0
def k0_off24 (k0_t2 : Fin k0_t2_loop.trips) (k0_t4 : Fin k0_t4_loop.trips) (c0_i32_26_r0 : BitVec 32) : Fin 2 → Nat :=
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c128_i32_161_r0 : BitVec 32 := 128#32
  let v491_r0 : BitVec 32 := Scalar.muli v33_r0 c128_i32_161_r0
  let v492_r0 : BitVec 32 := v491_r0
  let v493_r0 : Index := Scalar.indexCast v492_r0
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v494_r0 : Index := Scalar.indexCast v457_r0
  ![v493_r0.toNat, v494_r0.toNat]
def k0_off25 (k0_t2 : Fin k0_t2_loop.trips) (k0_t4 : Fin k0_t4_loop.trips) (c0_i32_26_r0 : BitVec 32) (c0_i32_166_r0 : BitVec 32) : Fin 4 → Nat :=
  let c0_167_r0 : Index := 0#32
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_165_r0 : BitVec 32 := 8#32
  let v507_r0 : BitVec 32 := Scalar.muli v33_r0 c8_i32_165_r0
  let v508_r0 : BitVec 32 := Scalar.addi v507_r0 c0_i32_166_r0
  let v509_r0 : Index := Scalar.indexCast v508_r0
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v510_r0 : Index := Scalar.indexCast v457_r0
  ![0, v509_r0.toNat, 0, v510_r0.toNat]
def k0_off26 (k0_t2 : Fin k0_t2_loop.trips) (k0_t4 : Fin k0_t4_loop.trips) (c0_i32_26_r0 : BitVec 32) (c0_i32_173_r0 : BitVec 32) : Fin 4 → Nat :=
  let c1_174_r0 : Index := 1#32
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c8_i32_172_r0 : BitVec 32 := 8#32
  let v530_r0 : BitVec 32 := Scalar.muli v33_r0 c8_i32_172_r0
  let v531_r0 : BitVec 32 := Scalar.addi v530_r0 c0_i32_173_r0
  let v532_r0 : Index := Scalar.indexCast v531_r0
  let c2_i32_145_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v454_r0 : BitVec 32 := Scalar.muli c2_i32_145_r0 v19_r0
  let c1_i32_146_r0 : BitVec 32 := 1#32
  let v455_r0 : BitVec 32 := Scalar.addi v454_r0 c1_i32_146_r0
  let c128_i32_147_r0 : BitVec 32 := 128#32
  let v456_r0 : BitVec 32 := Scalar.muli v455_r0 c128_i32_147_r0
  let v457_r0 : BitVec 32 := v456_r0
  let v533_r0 : Index := Scalar.indexCast v457_r0
  ![1, v532_r0.toNat, 0, v533_r0.toNat]
def k0_mult28 (k0_t4 : Fin k0_t4_loop.trips) : BitVec 32 :=
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let c0_i32_26_r0 : BitVec 32 := 0#32
  let v33_r0 : BitVec 32 := Scalar.addi v32_r0 c0_i32_26_r0
  let c256_i32_277_r0 : BitVec 32 := 256#32
  let v876_r0 : BitVec 32 := Scalar.muli v33_r0 c256_i32_277_r0
  v876_r0
def k0_off27 (k0_t4 : Fin k0_t4_loop.trips) (c0_i32_26_r0 : BitVec 32) : Fin 2 → Nat :=
  let c0_278_r0 : Index := 0#32
  let c2_i32_25_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v32_r0 : BitVec 32 := Scalar.muli c2_i32_25_r0 arg13_r0
  let v33_r0 : BitVec 32 := Scalar.addi v32_r0 c0_i32_26_r0
  let c256_i32_277_r0 : BitVec 32 := 256#32
  let v876_r0 : BitVec 32 := Scalar.muli v33_r0 c256_i32_277_r0
  let v877_r0 : BitVec 32 := v876_r0
  let v878_r0 : Index := Scalar.indexCast v877_r0
  ![0, v878_r0.toNat]
def k0_mult29 (k0_t2 : Fin k0_t2_loop.trips) : BitVec 32 :=
  let c2_i32_281_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v882_r0 : BitVec 32 := Scalar.muli c2_i32_281_r0 v19_r0
  let c128_i32_282_r0 : BitVec 32 := 128#32
  let v883_r0 : BitVec 32 := Scalar.muli v882_r0 c128_i32_282_r0
  v883_r0
def k0_mult30 (k0_t2 : Fin k0_t2_loop.trips) (k0_t4 : Fin k0_t4_loop.trips) : BitVec 32 :=
  let c2_i32_281_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v882_r0 : BitVec 32 := Scalar.muli c2_i32_281_r0 v19_r0
  let c224_i32_283_r0 : BitVec 32 := 224#32
  let v885_r0 : BitVec 32 := Scalar.muli v882_r0 c224_i32_283_r0
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c8_i32_284_r0 : BitVec 32 := 8#32
  let v886_r0 : BitVec 32 := Scalar.muli v881_r0 c8_i32_284_r0
  let v887_r0 : BitVec 32 := Scalar.addi v885_r0 v886_r0
  v887_r0
def k0_mult31 (k0_t2 : Fin k0_t2_loop.trips) (k0_t4 : Fin k0_t4_loop.trips) : BitVec 32 :=
  let c2_i32_281_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v882_r0 : BitVec 32 := Scalar.muli c2_i32_281_r0 v19_r0
  let c112_i32_286_r0 : BitVec 32 := 112#32
  let v892_r0 : BitVec 32 := Scalar.muli v882_r0 c112_i32_286_r0
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c0_i32_288_r0 : BitVec 32 := 0#32
  let v894_r0 : BitVec 1 := Scalar.cmpi .sgt v881_r0 c0_i32_288_r0
  let v895_r0 : BitVec 32 := Scalar.extui v894_r0
  let c0_i32_289_r0 : BitVec 32 := 0#32
  let v896_r0 : BitVec 1 := Scalar.cmpi .slt v881_r0 c0_i32_289_r0
  let v897_r0 : BitVec 32 := Scalar.extui v896_r0
  let v898_r0 : BitVec 32 := Scalar.subi v895_r0 v897_r0
  let c2_i32_287_r0 : BitVec 32 := 2#32
  let c0_i32_290_r0 : BitVec 32 := 0#32
  let v899_r0 : BitVec 1 := Scalar.cmpi .sgt c2_i32_287_r0 c0_i32_290_r0
  let v900_r0 : BitVec 32 := Scalar.extui v899_r0
  let c0_i32_291_r0 : BitVec 32 := 0#32
  let v901_r0 : BitVec 1 := Scalar.cmpi .slt c2_i32_287_r0 c0_i32_291_r0
  let v902_r0 : BitVec 32 := Scalar.extui v901_r0
  let v903_r0 : BitVec 32 := Scalar.subi v900_r0 v902_r0
  let v904_r0 : BitVec 1 := Scalar.cmpi .ne v898_r0 v903_r0
  let v905_r0 : BitVec 32 := Scalar.remsi v881_r0 c2_i32_287_r0
  let c0_i32_292_r0 : BitVec 32 := 0#32
  let v906_r0 : BitVec 1 := Scalar.cmpi .ne v905_r0 c0_i32_292_r0
  let v907_r0 : BitVec 1 := Scalar.andi v904_r0 v906_r0
  let v893_r0 : BitVec 32 := Scalar.divsi v881_r0 c2_i32_287_r0
  let c1_i32_293_r0 : BitVec 32 := 1#32
  let v908_r0 : BitVec 32 := Scalar.subi v893_r0 c1_i32_293_r0
  let v909_r0 : BitVec 32 := Scalar.select v907_r0 v908_r0 v893_r0
  let c8_i32_294_r0 : BitVec 32 := 8#32
  let v910_r0 : BitVec 32 := Scalar.muli v909_r0 c8_i32_294_r0
  let v911_r0 : BitVec 32 := Scalar.addi v892_r0 v910_r0
  v911_r0
def k0_mult32 (k0_t4 : Fin k0_t4_loop.trips) : BitVec 32 :=
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c128_i32_296_r0 : BitVec 32 := 128#32
  let v918_r0 : BitVec 32 := Scalar.muli v881_r0 c128_i32_296_r0
  v918_r0
def k0_mult33 (k0_t2 : Fin k0_t2_loop.trips) : BitVec 32 :=
  let c2_i32_412_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v1302_r0 : BitVec 32 := Scalar.muli c2_i32_412_r0 v19_r0
  let c1_i32_413_r0 : BitVec 32 := 1#32
  let v1303_r0 : BitVec 32 := Scalar.addi v1302_r0 c1_i32_413_r0
  let c128_i32_414_r0 : BitVec 32 := 128#32
  let v1304_r0 : BitVec 32 := Scalar.muli v1303_r0 c128_i32_414_r0
  v1304_r0
def k0_mult34 (k0_t2 : Fin k0_t2_loop.trips) (k0_t4 : Fin k0_t4_loop.trips) : BitVec 32 :=
  let c2_i32_412_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v1302_r0 : BitVec 32 := Scalar.muli c2_i32_412_r0 v19_r0
  let c1_i32_413_r0 : BitVec 32 := 1#32
  let v1303_r0 : BitVec 32 := Scalar.addi v1302_r0 c1_i32_413_r0
  let c224_i32_415_r0 : BitVec 32 := 224#32
  let v1306_r0 : BitVec 32 := Scalar.muli v1303_r0 c224_i32_415_r0
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c8_i32_416_r0 : BitVec 32 := 8#32
  let v1307_r0 : BitVec 32 := Scalar.muli v881_r0 c8_i32_416_r0
  let v1308_r0 : BitVec 32 := Scalar.addi v1306_r0 v1307_r0
  v1308_r0
def k0_mult35 (k0_t2 : Fin k0_t2_loop.trips) (k0_t4 : Fin k0_t4_loop.trips) : BitVec 32 :=
  let c2_i32_412_r0 : BitVec 32 := 2#32
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let v1302_r0 : BitVec 32 := Scalar.muli c2_i32_412_r0 v19_r0
  let c1_i32_413_r0 : BitVec 32 := 1#32
  let v1303_r0 : BitVec 32 := Scalar.addi v1302_r0 c1_i32_413_r0
  let c112_i32_418_r0 : BitVec 32 := 112#32
  let v1313_r0 : BitVec 32 := Scalar.muli v1303_r0 c112_i32_418_r0
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c0_i32_420_r0 : BitVec 32 := 0#32
  let v1315_r0 : BitVec 1 := Scalar.cmpi .sgt v881_r0 c0_i32_420_r0
  let v1316_r0 : BitVec 32 := Scalar.extui v1315_r0
  let c0_i32_421_r0 : BitVec 32 := 0#32
  let v1317_r0 : BitVec 1 := Scalar.cmpi .slt v881_r0 c0_i32_421_r0
  let v1318_r0 : BitVec 32 := Scalar.extui v1317_r0
  let v1319_r0 : BitVec 32 := Scalar.subi v1316_r0 v1318_r0
  let c2_i32_419_r0 : BitVec 32 := 2#32
  let c0_i32_422_r0 : BitVec 32 := 0#32
  let v1320_r0 : BitVec 1 := Scalar.cmpi .sgt c2_i32_419_r0 c0_i32_422_r0
  let v1321_r0 : BitVec 32 := Scalar.extui v1320_r0
  let c0_i32_423_r0 : BitVec 32 := 0#32
  let v1322_r0 : BitVec 1 := Scalar.cmpi .slt c2_i32_419_r0 c0_i32_423_r0
  let v1323_r0 : BitVec 32 := Scalar.extui v1322_r0
  let v1324_r0 : BitVec 32 := Scalar.subi v1321_r0 v1323_r0
  let v1325_r0 : BitVec 1 := Scalar.cmpi .ne v1319_r0 v1324_r0
  let v1326_r0 : BitVec 32 := Scalar.remsi v881_r0 c2_i32_419_r0
  let c0_i32_424_r0 : BitVec 32 := 0#32
  let v1327_r0 : BitVec 1 := Scalar.cmpi .ne v1326_r0 c0_i32_424_r0
  let v1328_r0 : BitVec 1 := Scalar.andi v1325_r0 v1327_r0
  let v1314_r0 : BitVec 32 := Scalar.divsi v881_r0 c2_i32_419_r0
  let c1_i32_425_r0 : BitVec 32 := 1#32
  let v1329_r0 : BitVec 32 := Scalar.subi v1314_r0 c1_i32_425_r0
  let v1330_r0 : BitVec 32 := Scalar.select v1328_r0 v1329_r0 v1314_r0
  let c8_i32_426_r0 : BitVec 32 := 8#32
  let v1331_r0 : BitVec 32 := Scalar.muli v1330_r0 c8_i32_426_r0
  let v1332_r0 : BitVec 32 := Scalar.addi v1313_r0 v1331_r0
  v1332_r0
def k0_mult36 (k0_t4 : Fin k0_t4_loop.trips) : BitVec 32 :=
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c128_i32_428_r0 : BitVec 32 := 128#32
  let v1339_r0 : BitVec 32 := Scalar.muli v881_r0 c128_i32_428_r0
  v1339_r0
def k0_mult37 (k0_t4 : Fin k0_t4_loop.trips) : BitVec 32 :=
  let c2_i32_279_r0 : BitVec 32 := 2#32
  let c0_i32_17_r0 : BitVec 32 := 0#32
  let c1_i32_19_r0 : BitVec 32 := 1#32
  let arg13_r0 : BitVec 32 := Scf.iv c0_i32_17_r0 c1_i32_19_r0 k0_t4
  let v880_r0 : BitVec 32 := Scalar.muli c2_i32_279_r0 arg13_r0
  let c1_i32_280_r0 : BitVec 32 := 1#32
  let v881_r0 : BitVec 32 := Scalar.addi v880_r0 c1_i32_280_r0
  let c256_i32_544_r0 : BitVec 32 := 256#32
  let v1724_r0 : BitVec 32 := Scalar.muli v881_r0 c256_i32_544_r0
  v1724_r0
def k0_mult38 (k0_t2 : Fin k0_t2_loop.trips) : BitVec 32 :=
  let c2_i32_14_r0 : BitVec 32 := 2#32
  let c0_i32_3_r0 : BitVec 32 := 0#32
  let c1_i32_4_r0 : BitVec 32 := 1#32
  let arg11_r0 : BitVec 32 := Scf.iv c0_i32_3_r0 c1_i32_4_r0 k0_t2
  let v18_r0 : BitVec 32 := Scalar.muli c2_i32_14_r0 arg11_r0
  let c1_i32_15_r0 : BitVec 32 := 1#32
  let v19_r0 : BitVec 32 := Scalar.addi v18_r0 c1_i32_15_r0
  let c256_i32_21_r0 : BitVec 32 := 256#32
  let v22_r0 : BitVec 32 := Scalar.muli v19_r0 c256_i32_21_r0
  v22_r0
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S448x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S896x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S128x7168 : Shape := ⟨2, ![128, 7168]⟩
abbrev S3584x18432 : Shape := ⟨2, ![3584, 18432]⟩
abbrev S448x18432 : Shape := ⟨2, ![448, 18432]⟩
abbrev S32256x128 : Shape := ⟨2, ![32256, 128]⟩
abbrev S16128x128 : Shape := ⟨2, ![16128, 128]⟩
abbrev S18432x128 : Shape := ⟨2, ![18432, 128]⟩
abbrev S_ : Shape := ⟨0, ![]⟩
abbrev S3584x1x18432 : Shape := ⟨3, ![3584, 1, 18432]⟩
abbrev S3584x2x18432 : Shape := ⟨3, ![3584, 2, 18432]⟩
abbrev S448x16x18432 : Shape := ⟨3, ![448, 16, 18432]⟩
abbrev S448x1x18432 : Shape := ⟨3, ![448, 1, 18432]⟩
abbrev S144x28x8x128 : Shape := ⟨4, ![144, 28, 8, 128]⟩
abbrev S144x28x8x128x2 : Shape := ⟨5, ![144, 28, 8, 128, 2]⟩
abbrev S144x28x8x2x128 : Shape := ⟨5, ![144, 28, 8, 2, 128]⟩
abbrev S144x28x16x128 : Shape := ⟨4, ![144, 28, 16, 128]⟩
abbrev S28x16x144x128 : Shape := ⟨4, ![28, 16, 144, 128]⟩
abbrev S28x1x16x18432 : Shape := ⟨4, ![28, 1, 16, 18432]⟩
abbrev S144x28x4x1x128 : Shape := ⟨5, ![144, 28, 4, 1, 128]⟩
abbrev S4 : Shape := ⟨1, ![4]⟩
abbrev S4x1 : Shape := ⟨2, ![4, 1]⟩
abbrev S1x1x1x4x1 : Shape := ⟨5, ![1, 1, 1, 4, 1]⟩
abbrev S144x28x4x4x128 : Shape := ⟨5, ![144, 28, 4, 4, 128]⟩
abbrev S16 : Shape := ⟨1, ![16]⟩
abbrev S16x1x1 : Shape := ⟨3, ![16, 1, 1]⟩
abbrev S1x16x1x1 : Shape := ⟨4, ![1, 16, 1, 1]⟩
abbrev S28x16x16x18432 : Shape := ⟨4, ![28, 16, 16, 18432]⟩
abbrev S7168x18432 : Shape := ⟨2, ![7168, 18432]⟩
abbrev S128x18432 : Shape := ⟨2, ![128, 18432]⟩

abbrev nBuf : Space → Nat
  | .hbm => 72
  | .vmem => 0
  | .smem => 0
  | _ => 0

abbrev bufTy : (tb : Table) → Fin (tcTables nBuf tb) → BufTy
  | .hbm, ⟨0, _⟩ => ⟨S128x7168, .bf16⟩
  | .hbm, ⟨1, _⟩ => ⟨S3584x18432, .i8⟩
  | .hbm, ⟨2, _⟩ => ⟨S448x18432, .bf16⟩
  | .hbm, ⟨3, _⟩ => ⟨S448x18432, .i8⟩
  | .hbm, ⟨4, _⟩ => ⟨S32256x128, .i32⟩
  | .hbm, ⟨5, _⟩ => ⟨S16128x128, .i32⟩
  | .hbm, ⟨6, _⟩ => ⟨S18432x128, .f32⟩
  | .hbm, ⟨7, _⟩ => ⟨S3584x18432, .i32⟩
  | .hbm, ⟨8, _⟩ => ⟨S_, .i32⟩
  | .hbm, ⟨9, _⟩ => ⟨S3584x18432, .i32⟩
  | .hbm, ⟨10, _⟩ => ⟨S3584x18432, .i32⟩
  | .hbm, ⟨11, _⟩ => ⟨S_, .i32⟩
  | .hbm, ⟨12, _⟩ => ⟨S3584x18432, .i32⟩
  | .hbm, ⟨13, _⟩ => ⟨S3584x18432, .i32⟩
  | .hbm, ⟨14, _⟩ => ⟨S_, .i32⟩
  | .hbm, ⟨15, _⟩ => ⟨S3584x18432, .i32⟩
  | .hbm, ⟨16, _⟩ => ⟨S3584x18432, .i32⟩
  | .hbm, ⟨17, _⟩ => ⟨S3584x1x18432, .i32⟩
  | .hbm, ⟨18, _⟩ => ⟨S3584x1x18432, .i32⟩
  | .hbm, ⟨19, _⟩ => ⟨S3584x2x18432, .i32⟩
  | .hbm, ⟨20, _⟩ => ⟨S448x16x18432, .i32⟩
  | .hbm, ⟨21, _⟩ => ⟨S448x16x18432, .bf16⟩
  | .hbm, ⟨22, _⟩ => ⟨S448x18432, .i32⟩
  | .hbm, ⟨23, _⟩ => ⟨S448x18432, .bf16⟩
  | .hbm, ⟨24, _⟩ => ⟨S448x1x18432, .bf16⟩
  | .hbm, ⟨25, _⟩ => ⟨S448x16x18432, .bf16⟩
  | .hbm, ⟨26, _⟩ => ⟨S448x16x18432, .bf16⟩
  | .hbm, ⟨27, _⟩ => ⟨S448x1x18432, .bf16⟩
  | .hbm, ⟨28, _⟩ => ⟨S448x16x18432, .bf16⟩
  | .hbm, ⟨29, _⟩ => ⟨S448x16x18432, .bf16⟩
  | .hbm, ⟨30, _⟩ => ⟨S144x28x8x128, .i32⟩
  | .hbm, ⟨31, _⟩ => ⟨S144x28x8x128x2, .bf16⟩
  | .hbm, ⟨32, _⟩ => ⟨S144x28x8x2x128, .bf16⟩
  | .hbm, ⟨33, _⟩ => ⟨S144x28x16x128, .bf16⟩
  | .hbm, ⟨34, _⟩ => ⟨S28x16x144x128, .bf16⟩
  | .hbm, ⟨35, _⟩ => ⟨S28x1x16x18432, .bf16⟩
  | .hbm, ⟨36, _⟩ => ⟨S144x28x4x1x128, .i32⟩
  | .hbm, ⟨37, _⟩ => ⟨S4, .i32⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S4x1, .i32⟩
  | .hbm, ⟨42, _⟩ => ⟨S1x1x1x4x1, .i32⟩
  | .hbm, ⟨43, _⟩ => ⟨S144x28x4x4x128, .i32⟩
  | .hbm, ⟨44, _⟩ => ⟨S144x28x4x4x128, .i32⟩
  | .hbm, ⟨45, _⟩ => ⟨S144x28x4x4x128, .i32⟩
  | .hbm, ⟨46, _⟩ => ⟨S_, .i32⟩
  | .hbm, ⟨47, _⟩ => ⟨S144x28x4x4x128, .i32⟩
  | .hbm, ⟨48, _⟩ => ⟨S144x28x4x4x128, .i32⟩
  | .hbm, ⟨49, _⟩ => ⟨S144x28x16x128, .i32⟩
  | .hbm, ⟨50, _⟩ => ⟨S28x16x144x128, .i32⟩
  | .hbm, ⟨51, _⟩ => ⟨S28x1x16x18432, .i32⟩
  | .hbm, ⟨52, _⟩ => ⟨S16, .i32⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S16x1x1, .i32⟩
  | .hbm, ⟨57, _⟩ => ⟨S1x16x1x1, .i32⟩
  | .hbm, ⟨58, _⟩ => ⟨S28x16x16x18432, .i32⟩
  | .hbm, ⟨59, _⟩ => ⟨S28x16x16x18432, .i32⟩
  | .hbm, ⟨60, _⟩ => ⟨S28x16x16x18432, .i1⟩
  | .hbm, ⟨61, _⟩ => ⟨S_, .bf16⟩
  | .hbm, ⟨62, _⟩ => ⟨S28x16x16x18432, .bf16⟩
  | .hbm, ⟨63, _⟩ => ⟨S28x16x16x18432, .bf16⟩
  | .hbm, ⟨64, _⟩ => ⟨S28x16x16x18432, .bf16⟩
  | .hbm, ⟨65, _⟩ => ⟨S7168x18432, .bf16⟩
  | .hbm, ⟨66, _⟩ => ⟨S7168x18432, .bf16⟩
  | .hbm, ⟨67, _⟩ => ⟨S7168x18432, .bf16⟩
  | .hbm, ⟨68, _⟩ => ⟨S128x18432, .f32⟩
  | .hbm, ⟨69, _⟩ => ⟨S128x18432, .f32⟩
  | .hbm, ⟨70, _⟩ => ⟨S128x18432, .f32⟩
  | .hbm, ⟨71, _⟩ => ⟨S128x18432, .bf16⟩
  | _, _ => ⟨S128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst : Ref sig .tc := ⟨.hbm, 61, rfl⟩
abbrev main_call0_v0 : Ref sig .tc := ⟨.hbm, 62, rfl⟩
abbrev main_call0_v1 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Proof.Passes.lean ====
/-
  Two passes of one matrix unit in a row: what one trip of the kernel's window loop does to the unit's state, and the
  facts about it that the frames need (untrusted, hand-written).
-/
module

public import Idealize.ShloMosaic.Lib.Mxu.Lemmas

@[expose] public section

noncomputable section

namespace Cert.Proof

open Idealize.ShloMosaic

variable {F : FTy → Type} [FloatOps F]

theorem fits : Mxu.Fits 0 128 := by decide

/-- The state of the matrix units after unit `q` was given the tile `B0` and multiplied `A0` by it, then the tile `B1`
    and multiplied `A1` by it, both products added into the first 128 rows of its accumulator. -/
def twoPasses (q : Fin 2) (B0 : FVec F (Mxu.STile 256) .bf16) (A0 : FVec F (Mxu.STile 128) .bf16)
    (B1 : FVec F (Mxu.STile 256) .bf16) (A1 : FVec F (Mxu.STile 128) .bf16) (s : Mxu F) : Mxu F :=
  (((s.pushed q 0 false B0).accLhs q 0 0 A0 fits).pushed q 1 false B1).accLhs q 1 0 A1 fits

/-- No staging register holds a tile. -/
def Idle (s : Mxu F) : Prop := ∀ q r, s.reg q r = none

/-- No staging register holds a tile, and only the first 128 rows of unit `q`'s accumulator may hold a result. -/
def Parked (q : Fin 2) (s : Mxu F) : Prop := Idle s ∧ ∀ q' R, s.live q' R = true → q' = q ∧ R.val < 128

section
variable (q : Fin 2) (B0 : FVec F (Mxu.STile 256) .bf16) (A0 : FVec F (Mxu.STile 128) .bf16)
    (B1 : FVec F (Mxu.STile 256) .bf16) (A1 : FVec F (Mxu.STile 128) .bf16) (s : Mxu F)

theorem idle_twoPasses (h : Idle s) : Idle (twoPasses q B0 A0 B1 A1 s) := by
  intro q' r'
  unfold twoPasses
  by_cases h1 : q' = q ∧ r' = 1
  · obtain ⟨rfl, rfl⟩ := h1; exact Mxu.reg_accLhs ..
  rw [Mxu.reg_accLhs_ne (hne := h1), Mxu.reg_pushed_ne (hne := h1)]
  by_cases h0 : q' = q ∧ r' = 0
  · obtain ⟨rfl, rfl⟩ := h0; exact Mxu.reg_accLhs ..
  rw [Mxu.reg_accLhs_ne (hne := h0), Mxu.reg_pushed_ne (hne := h0)]
  exact h q' r'

theorem parked_twoPasses (h : Parked q s) : Parked q (twoPasses q B0 A0 B1 A1 s) := by
  refine ⟨idle_twoPasses q B0 A0 B1 A1 s h.1, fun q' R hl => ?_⟩
  unfold twoPasses at hl
  rw [Mxu.live_accLhs] at hl
  split at hl
  · rename_i hc; exact ⟨hc.1, by omega⟩
  rw [Mxu.live_pushed, Mxu.live_accLhs] at hl
  split at hl
  · rename_i hc; exact ⟨hc.1, by omega⟩
  rw [Mxu.live_pushed] at hl
  exact h.2 q' R hl

end

theorem parked_of_drained (q : Fin 2) {s : Mxu F} (h : s.Drained) : Parked q s :=
  ⟨fun q' r => Option.isNone_iff_eq_none.1 (h.1 q' r), fun q' R hl => by rw [h.2 q' R] at hl; cases hl⟩

theorem idle_of_drained {s : Mxu F} (h : s.Drained) : Idle s := (parked_of_drained 0 h).1

theorem drained_pop {q : Fin 2} {s : Mxu F} (h : Parked q s) (hf : Mxu.Fits 0 128) : (s.pop q 0 128 hf).Drained := by
  refine ⟨fun q' r => ?_, fun q' R => ?_⟩
  · rw [Mxu.reg_pop, h.1 q' r]; rfl
  · rw [Mxu.live_pop]
    split
    · rfl
    · rename_i hn
      cases hl : s.live q' R with
      | false => rfl
      | true => obtain ⟨h1, h2⟩ := h.2 q' R hl; exact absurd ⟨h1, by omega, by omega⟩ hn

end Cert.Proof

end
-- ==== Proof.KernelTrip.lean ====
module

public import proofs.«01_k».proof.Proof.Gen.Kernel.Frame
public import proofs.«01_k».proof.Proof.Gen.Kernel.Loops
public import proofs.«01_k».proof.Proof.Passes
public import Idealize.ShloMosaic.Lib.Mxu.Walk
public import Idealize.ShloMosaic.Lib.Claim

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD) (i : grid0.Coords) (arg1 : Memref sig .tc .vmem S128x7168 .bf16) (harg1 : arg1.IsWhole) (arg2 : Memref sig .tc .vmem S3584x1024 .i8) (harg2 : arg2.IsWhole) (arg3 : Memref sig .tc .vmem S448x1024 .bf16) (harg3 : arg3.IsWhole) (arg4 : Memref sig .tc .vmem S448x1024 .i8) (harg4 : arg4.IsWhole) (arg5 : Memref sig .tc .vmem S1792x128 .i32) (harg5 : arg5.IsWhole) (arg6 : Memref sig .tc .vmem S896x128 .i32) (harg6 : arg6.IsWhole) (arg7 : Memref sig .tc .vmem S1024x128 .f32) (harg7 : arg7.IsWhole) (arg8 : Memref sig .tc .vmem S128x1024 .bf16) (harg8 : arg8.IsWhole) (arg9 : Memref sig .tc .vmem S2x224x1024 .i32) (harg9 : arg9.IsWhole) (arg10 : Memref sig .tc .vmem S2x224x1024 .i32) (harg10 : arg10.IsWhole)
variable (X3 : BufTy.Contents (Elt F) arg3.view.ty) (X4 : BufTy.Contents (Elt F) arg4.view.ty)

/-- One trip of the preparation loop: it writes the two planes of sixteen rows of either scratch buffer. The four values are
    those that the run finds. -/
@[irreducible] def trip1 (k : Fin k0_t1_loop.trips) :
    Σ' (P0 : Vec F S1x16x1024 .i32) (P1 : Vec F S1x16x1024 .i32) (Q0 : Vec F S1x16x1024 .i32),
      { Q1 : Vec F S1x16x1024 .i32 // ∀ (v : BitVec 32) (f9 : BufTy.Contents (Elt F) arg9.view.ty) (f10 : BufTy.Contents (Elt F) arg10.view.ty),
        (iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} f9) ∗ (arg10.view.loc (c : Thread nD τ) ↦[arg10.view.set]{fullShare} f10)) : sProp 𝕄)
          ⊢ wp frame (wpE (defs₀ (F := F)) Variants.none (c : Thread nD τ) none) Set.univ
              (k0_t1_body (F := F) i arg1 harg1 arg2 harg2 arg3 harg3 arg4 harg4 arg5 harg5 arg6 harg6 arg7 harg7 arg8 harg8 arg9 harg9 arg10 harg10 k v)
              (fun y => iprop(⌜y = 0#32⌝ ∗ (arg3.view.loc (c : Thread nD τ) ↦[arg3.view.set]{fullShare} X3) ∗ (arg4.view.loc (c : Thread nD τ) ↦[arg4.view.set]{fullShare} X4)
                ∗ (arg9.view.loc (c : Thread nD τ) ↦[arg9.view.set]{fullShare} (arg9.view.writes (Elt F) f9 [⟨Rect.unit (k0_off3 k) S1x16x1024.size (k0_off3_inb k), P1⟩, ⟨Rect.unit (k0_off2 k) S1x16x1024.size (k0_off2_inb k), P0⟩]))
                ∗ (arg10.view.loc (c : Thread nD τ) ↦[arg10.view.set]{fullShare} (arg10.view.writes (Elt F) f10 [⟨Rect.unit (k0_off3 k) S1x16x1024.size (k0_off3_inb k), Q1⟩, ⟨Rect.unit (k0_off2 k) S1x16x1024.size (k0_off2_inb k), Q0⟩])))) } := by
  have hk : k.val < 14 := Nat.lt_of_lt_of_le k.isLt k0_t1_abs.2.1
  refine ⟨?_, ?_, ?_, ?_, fun v f9 f10 => ?run⟩
  case run =>
    unfold k0_t1_body
    iintro ⟨H3, H4, H9, H10⟩
    sl_exec
    sl_step
    isplitr; · ipureintro; rfl
    isplitl [H3]; · iexact H3
    isplitl [H4]; · iexact H4
    isplitl [H9]; · iexact H9
    iexact H10

variable (X1 : BufTy.Contents (Elt F) arg1.view.ty) (X2 : BufTy.Contents (Elt F) arg2.view.ty) (X5 : BufTy.Contents (Elt F) arg5.view.ty) (X6 : BufTy.Contents (Elt F) arg6.view.ty) (X9 : BufTy.Contents (Elt F) arg9.view.ty) (X10 : BufTy.Contents (Elt F) arg10.view.ty)

/-- What one trip of the window loop of unit 0 holds: the six buffers that it reads. -/
abbrev Held3 : sProp 𝕄 :=
  iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10))

/-- One trip of the window loop of unit 0: it pushes two tiles and accumulates two slabs of the left operand. The four
    values are those that the run finds. -/
@[irreducible] def trip3 (k0_t2 : Fin k0_t2_loop.trips) (w : BitVec 32) (k : Fin k0_t3_loop.trips) :
    Σ' (B0 : FVec F (Mxu.STile 256) .bf16) (A0 : FVec F (Mxu.STile 128) .bf16) (B1 : FVec F (Mxu.STile 256) .bf16),
      { A1 : FVec F (Mxu.STile 128) .bf16 // ∀ (v : BitVec 32) (s : Mxu F), s.reg 0 0 = none → s.reg 0 1 = none →
        Held3 c arg1 arg2 arg5 arg6 arg9 arg10 X1 X2 X5 X6 X9 X10
          ⊢ wp frame (wpE (defs₀ (F := F)) Variants.none (c : Thread nD τ) none) Set.univ
              (k0_t3_body (F := F) i arg1 harg1 arg2 harg2 arg3 harg3 arg4 harg4 arg5 harg5 arg6 harg6 arg7 harg7 arg8 harg8 arg9 harg9 arg10 harg10 k0_t2 w k (v, s))
              (fun y => iprop(⌜y = (0#32, twoPasses 0 B0 A0 B1 A1 s)⌝ ∗ Held3 c arg1 arg2 arg5 arg6 arg9 arg10 X1 X2 X5 X6 X9 X10)) } := by
  refine ⟨?_, ?_, ?_, ?_, fun v s h0 h1 => ?run⟩
  case run =>
    have hp : s.PushOk 0 0 false := Mxu.pushOk_of_none _ _ _ _ h0
    unfold k0_t3_body
    iintro ⟨H1, H2, H5, H6, H9, H10⟩
    sl_exec (disch := (mxu_pushok_peel; exact Mxu.pushOk_of_none _ _ _ _ h1))
    sl_step
    isplitr; · ipureintro; rfl
    isplitl [H1]; · iexact H1
    isplitl [H2]; · iexact H2
    isplitl [H5]; · iexact H5
    isplitl [H6]; · iexact H6
    isplitl [H9]; · iexact H9
    iexact H10

/-- What one trip of the window loop of unit 1 holds: the six buffers that it reads. -/
abbrev Held4 : sProp 𝕄 :=
  iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10))

/-- One trip of the window loop of unit 1: it pushes two tiles and accumulates two slabs of the left operand. The four
    values are those that the run finds. -/
@[irreducible] def trip4 (k0_t2 : Fin k0_t2_loop.trips) (w : BitVec 32) (k : Fin k0_t4_loop.trips) :
    Σ' (B0 : FVec F (Mxu.STile 256) .bf16) (A0 : FVec F (Mxu.STile 128) .bf16) (B1 : FVec F (Mxu.STile 256) .bf16),
      { A1 : FVec F (Mxu.STile 128) .bf16 // ∀ (v : BitVec 32) (s : Mxu F), s.reg 1 0 = none → s.reg 1 1 = none →
        Held4 c arg1 arg2 arg5 arg6 arg9 arg10 X1 X2 X5 X6 X9 X10
          ⊢ wp frame (wpE (defs₀ (F := F)) Variants.none (c : Thread nD τ) none) Set.univ
              (k0_t4_body (F := F) i arg1 harg1 arg2 harg2 arg3 harg3 arg4 harg4 arg5 harg5 arg6 harg6 arg7 harg7 arg8 harg8 arg9 harg9 arg10 harg10 k0_t2 w k (v, s))
              (fun y => iprop(⌜y = (0#32, twoPasses 1 B0 A0 B1 A1 s)⌝ ∗ Held4 c arg1 arg2 arg5 arg6 arg9 arg10 X1 X2 X5 X6 X9 X10)) } := by
  refine ⟨?_, ?_, ?_, ?_, fun v s h0 h1 => ?run⟩
  case run =>
    have hp : s.PushOk 1 0 false := Mxu.pushOk_of_none _ _ _ _ h0
    unfold k0_t4_body
    iintro ⟨H1, H2, H5, H6, H9, H10⟩
    sl_exec (disch := (mxu_pushok_peel; exact Mxu.pushOk_of_none _ _ _ _ h1))
    sl_step
    isplitr; · ipureintro; rfl
    isplitl [H1]; · iexact H1
    isplitl [H2]; · iexact H2
    isplitl [H5]; · iexact H5
    isplitl [H6]; · iexact H6
    isplitl [H9]; · iexact H9
    iexact H10

end Cert.Proof.Kernel

end
-- ==== Proof.KernelBody.lean ====
module

public import proofs.«01_k».proof.Proof.KernelTrip

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD) (i : grid0.Coords) (arg1 : Memref sig .tc .vmem S128x7168 .bf16) (harg1 : arg1.IsWhole) (arg2 : Memref sig .tc .vmem S3584x1024 .i8) (harg2 : arg2.IsWhole) (arg3 : Memref sig .tc .vmem S448x1024 .bf16) (harg3 : arg3.IsWhole) (arg4 : Memref sig .tc .vmem S448x1024 .i8) (harg4 : arg4.IsWhole) (arg5 : Memref sig .tc .vmem S1792x128 .i32) (harg5 : arg5.IsWhole) (arg6 : Memref sig .tc .vmem S896x128 .i32) (harg6 : arg6.IsWhole) (arg7 : Memref sig .tc .vmem S1024x128 .f32) (harg7 : arg7.IsWhole) (arg8 : Memref sig .tc .vmem S128x1024 .bf16) (harg8 : arg8.IsWhole) (arg9 : Memref sig .tc .vmem S2x224x1024 .i32) (harg9 : arg9.IsWhole) (arg10 : Memref sig .tc .vmem S2x224x1024 .i32) (harg10 : arg10.IsWhole)

section Prep

variable (X3 : BufTy.Contents (Elt F) arg3.view.ty) (X4 : BufTy.Contents (Elt F) arg4.view.ty)

/-- What the preparation loop has written into the two scratch buffers before trip `n`, last write first. -/
def pieces9 : ℕ → List (View.Piece (Elt F) S2x224x1024 .i32)
  | 0 => []
  | n + 1 => (if h : n < k0_t1_loop.trips then
      [⟨Rect.unit (k0_off3 ⟨n, h⟩) S1x16x1024.size (k0_off3_inb ⟨n, h⟩), (trip1 c i arg1 harg1 arg2 harg2 arg3 harg3 arg4 harg4 arg5 harg5 arg6 harg6 arg7 harg7 arg8 harg8 arg9 harg9 arg10 harg10 X3 X4 ⟨n, h⟩).2.1⟩,
        ⟨Rect.unit (k0_off2 ⟨n, h⟩) S1x16x1024.size (k0_off2_inb ⟨n, h⟩), (trip1 c i arg1 harg1 arg2 harg2 arg3 harg3 arg4 harg4 arg5 harg5 arg6 harg6 arg7 harg7 arg8 harg8 arg9 harg9 arg10 harg10 X3 X4 ⟨n, h⟩).1⟩] else []) ++ pieces9 n
def pieces10 : ℕ → List (View.Piece (Elt F) S2x224x1024 .i32)
  | 0 => []
  | n + 1 => (if h : n < k0_t1_loop.trips then
      [⟨Rect.unit (k0_off3 ⟨n, h⟩) S1x16x1024.size (k0_off3_inb ⟨n, h⟩), (trip1 c i arg1 harg1 arg2 harg2 arg3 harg3 arg4 harg4 arg5 harg5 arg6 harg6 arg7 harg7 arg8 harg8 arg9 harg9 arg10 harg10 X3 X4 ⟨n, h⟩).2.2.2.1⟩,
        ⟨Rect.unit (k0_off2 ⟨n, h⟩) S1x16x1024.size (k0_off2_inb ⟨n, h⟩), (trip1 c i arg1 harg1 arg2 harg2 arg3 harg3 arg4 harg4 arg5 harg5 arg6 harg6 arg7 harg7 arg8 harg8 arg9 harg9 arg10 harg10 X3 X4 ⟨n, h⟩).2.2.1⟩] else []) ++ pieces10 n

theorem pieces9_succ (k : Fin k0_t1_loop.trips) : pieces9 c i arg1 harg1 arg2 harg2 arg3 harg3 arg4 harg4 arg5 harg5 arg6 harg6 arg7 harg7 arg8 harg8 arg9 harg9 arg10 harg10 X3 X4 (k.val + 1) =
    [⟨Rect.unit (k0_off3 k) S1x16x1024.size (k0_off3_inb k), (trip1 c i arg1 harg1 arg2 harg2 arg3 harg3 arg4 harg4 arg5 harg5 arg6 harg6 arg7 harg7 arg8 harg8 arg9 harg9 arg10 harg10 X3 X4 k).2.1⟩,
      ⟨Rect.unit (k0_off2 k) S1x16x1024.size (k0_off2_inb k), (trip1 c i arg1 harg1 arg2 harg2 arg3 harg3 arg4 harg4 arg5 harg5 arg6 harg6 arg7 harg7 arg8 harg8 arg9 harg9 arg10 harg10 X3 X4 k).1⟩] ++ pieces9 c i arg1 harg1 arg2 harg2 arg3 harg3 arg4 harg4 arg5 harg5 arg6 harg6 arg7 harg7 arg8 harg8 arg9 harg9 arg10 harg10 X3 X4 k.val := by
  rw [pieces9, dif_pos k.isLt]
theorem pieces10_succ (k : Fin k0_t1_loop.trips) : pieces10 c i arg1 harg1 arg2 harg2 arg3 harg3 arg4 harg4 arg5 harg5 arg6 harg6 arg7 harg7 arg8 harg8 arg9 harg9 arg10 harg10 X3 X4 (k.val + 1) =
    [⟨Rect.unit (k0_off3 k) S1x16x1024.size (k0_off3_inb k), (trip1 c i arg1 harg1 arg2 harg2 arg3 harg3 arg4 harg4 arg5 harg5 arg6 harg6 arg7 harg7 arg8 harg8 arg9 harg9 arg10 harg10 X3 X4 k).2.2.2.1⟩,
      ⟨Rect.unit (k0_off2 k) S1x16x1024.size (k0_off2_inb k), (trip1 c i arg1 harg1 arg2 harg2 arg3 harg3 arg4 harg4 arg5 harg5 arg6 harg6 arg7 harg7 arg8 harg8 arg9 harg9 arg10 harg10 X3 X4 k).2.2.1⟩] ++ pieces10 c i arg1 harg1 arg2 harg2 arg3 harg3 arg4 harg4 arg5 harg5 arg6 harg6 arg7 harg7 arg8 harg8 arg9 harg9 arg10 harg10 X3 X4 k.val := by
  rw [pieces10, dif_pos k.isLt]

theorem trips1 : k0_t1_loop.trips = 14 := by decide

/-- The two planes of trip `k` hold every index of its sixteen rows. -/
theorem mem_plane (k : Fin k0_t1_loop.trips) (y : S2x224x1024.Idx) (h1 : 16 * k.val ≤ (y 1).val) (h2 : (y 1).val < 16 * k.val + 16) :
    y ∈ (Rect.unit (s := S2x224x1024) (k0_off3 k) S1x16x1024.size (k0_off3_inb k)).set ∨ y ∈ (Rect.unit (s := S2x224x1024) (k0_off2 k) S1x16x1024.size (k0_off2_inb k)).set := by
  have hy0 : (y 0).val < 2 := (y 0).isLt
  have hy2 : (y 2).val < 1024 := (y 2).isLt

  rcases Nat.lt_or_ge (y 0).val 1 with h0 | h0
  · right
    rw [Rect.mem_set_unit, k0_off2_eq]
    intro a
    fin_cases a
    · exact ⟨Nat.zero_le _, h0⟩
    · exact ⟨h1, h2⟩
    · exact ⟨Nat.zero_le _, by show (y 2).val < 0 + _; rw [Nat.zero_add]; exact hy2⟩

  · left
    rw [Rect.mem_set_unit, k0_off3_eq]
    intro a
    fin_cases a
    · exact ⟨h0, hy0⟩
    · exact ⟨h1, h2⟩
    · exact ⟨Nat.zero_le _, by show (y 2).val < 0 + _; rw [Nat.zero_add]; exact hy2⟩

theorem cover9_aux : ∀ n, n ≤ k0_t1_loop.trips → ∀ y : S2x224x1024.Idx, (y 1).val < 16 * n → ∃ p ∈ pieces9 c i arg1 harg1 arg2 harg2 arg3 harg3 arg4 harg4 arg5 harg5 arg6 harg6 arg7 harg7 arg8 harg8 arg9 harg9 arg10 harg10 X3 X4 n, y ∈ p.1.set
  | 0, _, y, h => absurd h (Nat.not_lt_zero _)
  | n + 1, hn, y, h => by
    rw [pieces9_succ c i arg1 harg1 arg2 harg2 arg3 harg3 arg4 harg4 arg5 harg5 arg6 harg6 arg7 harg7 arg8 harg8 arg9 harg9 arg10 harg10 X3 X4 ⟨n, hn⟩]
    rcases Nat.lt_or_ge (y 1).val (16 * n) with hl | hg
    · obtain ⟨p, hp, hy⟩ := cover9_aux n (Nat.le_of_lt hn) y hl
      exact ⟨p, List.mem_append_right _ hp, hy⟩
    · rcases mem_plane ⟨n, hn⟩ y hg (by show _ < 16 * n + 16; omega) with hm | hm
      · exact ⟨_, List.mem_append_left _ List.mem_cons_self, hm⟩
      · exact ⟨_, List.mem_append_left _ (List.mem_cons_of_mem _ List.mem_cons_self), hm⟩

/-- The pieces cover the scratch buffer. -/
theorem cover9 (y : S2x224x1024.Idx) : ∃ p ∈ pieces9 c i arg1 harg1 arg2 harg2 arg3 harg3 arg4 harg4 arg5 harg5 arg6 harg6 arg7 harg7 arg8 harg8 arg9 harg9 arg10 harg10 X3 X4 k0_t1_loop.trips, y ∈ p.1.set :=
  cover9_aux c i arg1 harg1 arg2 harg2 arg3 harg3 arg4 harg4 arg5 harg5 arg6 harg6 arg7 harg7 arg8 harg8 arg9 harg9 arg10 harg10 X3 X4 _ le_rfl y (by have := (y 1).isLt; rw [trips1]; exact this)

/-- What the scratch buffer holds after the preparation loop. -/
def scr9 : Vec F S2x224x1024 .i32 := View.canon (pieces9 c i arg1 harg1 arg2 harg2 arg3 harg3 arg4 harg4 arg5 harg5 arg6 harg6 arg7 harg7 arg8 harg8 arg9 harg9 arg10 harg10 X3 X4 k0_t1_loop.trips)

theorem writes_scr9 (f : BufTy.Contents (Elt F) arg9.view.ty) :
    arg9.view.writes (Elt F) f (pieces9 c i arg1 harg1 arg2 harg2 arg3 harg3 arg4 harg4 arg5 harg5 arg6 harg6 arg7 harg7 arg8 harg8 arg9 harg9 arg10 harg10 X3 X4 k0_t1_loop.trips) = harg9.unread (scr9 c i arg1 harg1 arg2 harg2 arg3 harg3 arg4 harg4 arg5 harg5 arg6 harg6 arg7 harg7 arg8 harg8 arg9 harg9 arg10 harg10 X3 X4) :=
  harg9.eq_unread (View.read_writes_eq_canon _ _ _ (cover9 c i arg1 harg1 arg2 harg2 arg3 harg3 arg4 harg4 arg5 harg5 arg6 harg6 arg7 harg7 arg8 harg8 arg9 harg9 arg10 harg10 X3 X4))

theorem cover10_aux : ∀ n, n ≤ k0_t1_loop.trips → ∀ y : S2x224x1024.Idx, (y 1).val < 16 * n → ∃ p ∈ pieces10 c i arg1 harg1 arg2 harg2 arg3 harg3 arg4 harg4 arg5 harg5 arg6 harg6 arg7 harg7 arg8 harg8 arg9 harg9 arg10 harg10 X3 X4 n, y ∈ p.1.set
  | 0, _, y, h => absurd h (Nat.not_lt_zero _)
  | n + 1, hn, y, h => by
    rw [pieces10_succ c i arg1 harg1 arg2 harg2 arg3 harg3 arg4 harg4 arg5 harg5 arg6 harg6 arg7 harg7 arg8 harg8 arg9 harg9 arg10 harg10 X3 X4 ⟨n, hn⟩]
    rcases Nat.lt_or_ge (y 1).val (16 * n) with hl | hg
    · obtain ⟨p, hp, hy⟩ := cover10_aux n (Nat.le_of_lt hn) y hl
      exact ⟨p, List.mem_append_right _ hp, hy⟩
    · rcases mem_plane ⟨n, hn⟩ y hg (by show _ < 16 * n + 16; omega) with hm | hm
      · exact ⟨_, List.mem_append_left _ List.mem_cons_self, hm⟩
      · exact ⟨_, List.mem_append_left _ (List.mem_cons_of_mem _ List.mem_cons_self), hm⟩

/-- The pieces cover the scratch buffer. -/
theorem cover10 (y : S2x224x1024.Idx) : ∃ p ∈ pieces10 c i arg1 harg1 arg2 harg2 arg3 harg3 arg4 harg4 arg5 harg5 arg6 harg6 arg7 harg7 arg8 harg8 arg9 harg9 arg10 harg10 X3 X4 k0_t1_loop.trips, y ∈ p.1.set :=
  cover10_aux c i arg1 harg1 arg2 harg2 arg3 harg3 arg4 harg4 arg5 harg5 arg6 harg6 arg7 harg7 arg8 harg8 arg9 harg9 arg10 harg10 X3 X4 _ le_rfl y (by have := (y 1).isLt; rw [trips1]; exact this)

/-- What the scratch buffer holds after the preparation loop. -/
def scr10 : Vec F S2x224x1024 .i32 := View.canon (pieces10 c i arg1 harg1 arg2 harg2 arg3 harg3 arg4 harg4 arg5 harg5 arg6 harg6 arg7 harg7 arg8 harg8 arg9 harg9 arg10 harg10 X3 X4 k0_t1_loop.trips)

theorem writes_scr10 (f : BufTy.Contents (Elt F) arg10.view.ty) :
    arg10.view.writes (Elt F) f (pieces10 c i arg1 harg1 arg2 harg2 arg3 harg3 arg4 harg4 arg5 harg5 arg6 harg6 arg7 harg7 arg8 harg8 arg9 harg9 arg10 harg10 X3 X4 k0_t1_loop.trips) = harg10.unread (scr10 c i arg1 harg1 arg2 harg2 arg3 harg3 arg4 harg4 arg5 harg5 arg6 harg6 arg7 harg7 arg8 harg8 arg9 harg9 arg10 harg10 X3 X4) :=
  harg10.eq_unread (View.read_writes_eq_canon _ _ _ (cover10 c i arg1 harg1 arg2 harg2 arg3 harg3 arg4 harg4 arg5 harg5 arg6 harg6 arg7 harg7 arg8 harg8 arg9 harg9 arg10 harg10 X3 X4))

/-- Before trip `n` of the preparation loop: what it reads, and the scratch buffers with the pieces of the trips before. -/
def inv1 (f9 : BufTy.Contents (Elt F) arg9.view.ty) (f10 : BufTy.Contents (Elt F) arg10.view.ty) (n : ℕ) (v : BitVec 32) : sProp 𝕄 :=
  iprop(⌜v = 0#32⌝ ∗ (arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} (arg9.view.writes (Elt F) f9 (pieces9 c i arg1 harg1 arg2 harg2 arg3 harg3 arg4 harg4 arg5 harg5 arg6 harg6 arg7 harg7 arg8 harg8 arg9 harg9 arg10 harg10 X3 X4 n)))
    ∗ (arg10.view.loc (c : Thread nD τ) ↦[arg10.view.set]{fullShare} (arg10.view.writes (Elt F) f10 (pieces10 c i arg1 harg1 arg2 harg2 arg3 harg3 arg4 harg4 arg5 harg5 arg6 harg6 arg7 harg7 arg8 harg8 arg9 harg9 arg10 harg10 X3 X4 n))))

theorem step1 (f9 : BufTy.Contents (Elt F) arg9.view.ty) (f10 : BufTy.Contents (Elt F) arg10.view.ty) (k : Fin k0_t1_loop.trips) (v : BitVec 32) :
    inv1 c i arg1 harg1 arg2 harg2 arg3 harg3 arg4 harg4 arg5 harg5 arg6 harg6 arg7 harg7 arg8 harg8 arg9 harg9 arg10 harg10 X3 X4 f9 f10 k.val v ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 k v) (inv1 c i arg1 harg1 arg2 harg2 arg3 harg3 arg4 harg4 arg5 harg5 arg6 harg6 arg7 harg7 arg8 harg8 arg9 harg9 arg10 harg10 X3 X4 f9 f10 (k.val + 1)) := by
  unfold inv1
  rw [pieces9_succ c i arg1 harg1 arg2 harg2 arg3 harg3 arg4 harg4 arg5 harg5 arg6 harg6 arg7 harg7 arg8 harg8 arg9 harg9 arg10 harg10 X3 X4 k, pieces10_succ c i arg1 harg1 arg2 harg2 arg3 harg3 arg4 harg4 arg5 harg5 arg6 harg6 arg7 harg7 arg8 harg8 arg9 harg9 arg10 harg10 X3 X4 k]
  simp only [View.writes_append]
  iintro ⟨%hv, H3, H4, H9, H10⟩
  iapply ((trip1 c i arg1 harg1 arg2 harg2 arg3 harg3 arg4 harg4 arg5 harg5 arg6 harg6 arg7 harg7 arg8 harg8 arg9 harg9 arg10 harg10 X3 X4 k).2.2.2.2 v _ _)
  isplitl [H3]; · iexact H3
  isplitl [H4]; · iexact H4
  isplitl [H9]; · iexact H9
  iexact H10

end Prep

section Main

variable (X1 : BufTy.Contents (Elt F) arg1.view.ty) (X2 : BufTy.Contents (Elt F) arg2.view.ty) (X5 : BufTy.Contents (Elt F) arg5.view.ty) (X6 : BufTy.Contents (Elt F) arg6.view.ty) (X9 : BufTy.Contents (Elt F) arg9.view.ty) (X10 : BufTy.Contents (Elt F) arg10.view.ty)

/-- The matrix units' state before trip `n` of the window loop of unit 0, entered at `s`. -/
def st3 (k0_t2 : Fin k0_t2_loop.trips) (w : BitVec 32) (s : Mxu F) : ℕ → Mxu F
  | 0 => s
  | n + 1 => if h : n < k0_t3_loop.trips then
      twoPasses 0 (trip3 c i arg1 harg1 arg2 harg2 arg3 harg3 arg4 harg4 arg5 harg5 arg6 harg6 arg7 harg7 arg8 harg8 arg9 harg9 arg10 harg10 X1 X2 X5 X6 X9 X10 k0_t2 w ⟨n, h⟩).1 (trip3 c i arg1 harg1 arg2 harg2 arg3 harg3 arg4 harg4 arg5 harg5 arg6 harg6 arg7 harg7 arg8 harg8 arg9 harg9 arg10 harg10 X1 X2 X5 X6 X9 X10 k0_t2 w ⟨n, h⟩).2.1
        (trip3 c i arg1 harg1 arg2 harg2 arg3 harg3 arg4 harg4 arg5 harg5 arg6 harg6 arg7 harg7 arg8 harg8 arg9 harg9 arg10 harg10 X1 X2 X5 X6 X9 X10 k0_t2 w ⟨n, h⟩).2.2.1 (trip3 c i arg1 harg1 arg2 harg2 arg3 harg3 arg4 harg4 arg5 harg5 arg6 harg6 arg7 harg7 arg8 harg8 arg9 harg9 arg10 harg10 X1 X2 X5 X6 X9 X10 k0_t2 w ⟨n, h⟩).2.2.2.1 (st3 k0_t2 w s n)
    else st3 k0_t2 w s n

theorem st3_succ (k0_t2 : Fin k0_t2_loop.trips) (w : BitVec 32) (s : Mxu F) (k : Fin k0_t3_loop.trips) :
    st3 c i arg1 harg1 arg2 harg2 arg3 harg3 arg4 harg4 arg5 harg5 arg6 harg6 arg7 harg7 arg8 harg8 arg9 harg9 arg10 harg10 X1 X2 X5 X6 X9 X10 k0_t2 w s (k.val + 1) =
      twoPasses 0 (trip3 c i arg1 harg1 arg2 harg2 arg3 harg3 arg4 harg4 arg5 harg5 arg6 harg6 arg7 harg7 arg8 harg8 arg9 harg9 arg10 harg10 X1 X2 X5 X6 X9 X10 k0_t2 w k).1 (trip3 c i arg1 harg1 arg2 harg2 arg3 harg3 arg4 harg4 arg5 harg5 arg6 harg6 arg7 harg7 arg8 harg8 arg9 harg9 arg10 harg10 X1 X2 X5 X6 X9 X10 k0_t2 w k).2.1
        (trip3 c i arg1 harg1 arg2 harg2 arg3 harg3 arg4 harg4 arg5 harg5 arg6 harg6 arg7 harg7 arg8 harg8 arg9 harg9 arg10 harg10 X1 X2 X5 X6 X9 X10 k0_t2 w k).2.2.1 (trip3 c i arg1 harg1 arg2 harg2 arg3 harg3 arg4 harg4 arg5 harg5 arg6 harg6 arg7 harg7 arg8 harg8 arg9 harg9 arg10 harg10 X1 X2 X5 X6 X9 X10 k0_t2 w k).2.2.2.1 (st3 c i arg1 harg1 arg2 harg2 arg3 harg3 arg4 harg4 arg5 harg5 arg6 harg6 arg7 harg7 arg8 harg8 arg9 harg9 arg10 harg10 X1 X2 X5 X6 X9 X10 k0_t2 w s k.val) := by
  rw [st3, dif_pos k.isLt]

theorem parked_st3 (k0_t2 : Fin k0_t2_loop.trips) (w : BitVec 32) (s : Mxu F) (h : Parked 0 s) : ∀ n, Parked 0 (st3 c i arg1 harg1 arg2 harg2 arg3 harg3 arg4 harg4 arg5 harg5 arg6 harg6 arg7 harg7 arg8 harg8 arg9 harg9 arg10 harg10 X1 X2 X5 X6 X9 X10 k0_t2 w s n)
  | 0 => h
  | n + 1 => by
    rw [st3]
    split
    · exact parked_twoPasses _ _ _ _ _ _ (parked_st3 k0_t2 w s h n)
    · exact parked_st3 k0_t2 w s h n

/-- Before trip `n` of the window loop of unit 0: the state, and what the loop reads. -/
def inv3 (k0_t2 : Fin k0_t2_loop.trips) (w : BitVec 32) (s : Mxu F) (n : ℕ) (acc : BitVec 32 × Mxu F) : sProp 𝕄 :=
  iprop(⌜acc = (0#32, st3 c i arg1 harg1 arg2 harg2 arg3 harg3 arg4 harg4 arg5 harg5 arg6 harg6 arg7 harg7 arg8 harg8 arg9 harg9 arg10 harg10 X1 X2 X5 X6 X9 X10 k0_t2 w s n)⌝ ∗ Held3 c arg1 arg2 arg5 arg6 arg9 arg10 X1 X2 X5 X6 X9 X10)

theorem step3 (k0_t2 : Fin k0_t2_loop.trips) (w : BitVec 32) (s : Mxu F) (hs : Parked 0 s) (k : Fin k0_t3_loop.trips) (acc : BitVec 32 × Mxu F) :
    inv3 c i arg1 harg1 arg2 harg2 arg3 harg3 arg4 harg4 arg5 harg5 arg6 harg6 arg7 harg7 arg8 harg8 arg9 harg9 arg10 harg10 X1 X2 X5 X6 X9 X10 k0_t2 w s k.val acc ⊢ wp frame (wpE (defs₀ (F := F)) Variants.none (c : Thread nD τ) none) Set.univ (k0_t3_body (F := F) i arg1 harg1 arg2 harg2 arg3 harg3 arg4 harg4 arg5 harg5 arg6 harg6 arg7 harg7 arg8 harg8 arg9 harg9 arg10 harg10 k0_t2 w k acc) (inv3 c i arg1 harg1 arg2 harg2 arg3 harg3 arg4 harg4 arg5 harg5 arg6 harg6 arg7 harg7 arg8 harg8 arg9 harg9 arg10 harg10 X1 X2 X5 X6 X9 X10 k0_t2 w s (k.val + 1)) := by
  unfold inv3
  rw [st3_succ c i arg1 harg1 arg2 harg2 arg3 harg3 arg4 harg4 arg5 harg5 arg6 harg6 arg7 harg7 arg8 harg8 arg9 harg9 arg10 harg10 X1 X2 X5 X6 X9 X10 k0_t2 w s k]
  iintro ⟨%hv, H⟩
  subst hv
  iapply ((trip3 c i arg1 harg1 arg2 harg2 arg3 harg3 arg4 harg4 arg5 harg5 arg6 harg6 arg7 harg7 arg8 harg8 arg9 harg9 arg10 harg10 X1 X2 X5 X6 X9 X10 k0_t2 w k).2.2.2.2 (0#32) (st3 c i arg1 harg1 arg2 harg2 arg3 harg3 arg4 harg4 arg5 harg5 arg6 harg6 arg7 harg7 arg8 harg8 arg9 harg9 arg10 harg10 X1 X2 X5 X6 X9 X10 k0_t2 w s k.val) ((parked_st3 c i arg1 harg1 arg2 harg2 arg3 harg3 arg4 harg4 arg5 harg5 arg6 harg6 arg7 harg7 arg8 harg8 arg9 harg9 arg10 harg10 X1 X2 X5 X6 X9 X10 k0_t2 w s hs k.val).1 0 0) ((parked_st3 c i arg1 harg1 arg2 harg2 arg3 harg3 arg4 harg4 arg5 harg5 arg6 harg6 arg7 harg7 arg8 harg8 arg9 harg9 arg10 harg10 X1 X2 X5 X6 X9 X10 k0_t2 w s hs k.val).1 0 1))
  iexact H

/-- The matrix units' state before trip `n` of the window loop of unit 1, entered at `s`. -/
def st4 (k0_t2 : Fin k0_t2_loop.trips) (w : BitVec 32) (s : Mxu F) : ℕ → Mxu F
  | 0 => s
  | n + 1 => if h : n < k0_t4_loop.trips then
      twoPasses 1 (trip4 c i arg1 harg1 arg2 harg2 arg3 harg3 arg4 harg4 arg5 harg5 arg6 harg6 arg7 harg7 arg8 harg8 arg9 harg9 arg10 harg10 X1 X2 X5 X6 X9 X10 k0_t2 w ⟨n, h⟩).1 (trip4 c i arg1 harg1 arg2 harg2 arg3 harg3 arg4 harg4 arg5 harg5 arg6 harg6 arg7 harg7 arg8 harg8 arg9 harg9 arg10 harg10 X1 X2 X5 X6 X9 X10 k0_t2 w ⟨n, h⟩).2.1
        (trip4 c i arg1 harg1 arg2 harg2 arg3 harg3 arg4 harg4 arg5 harg5 arg6 harg6 arg7 harg7 arg8 harg8 arg9 harg9 arg10 harg10 X1 X2 X5 X6 X9 X10 k0_t2 w ⟨n, h⟩).2.2.1 (trip4 c i arg1 harg1 arg2 harg2 arg3 harg3 arg4 harg4 arg5 harg5 arg6 harg6 arg7 harg7 arg8 harg8 arg9 harg9 arg10 harg10 X1 X2 X5 X6 X9 X10 k0_t2 w ⟨n, h⟩).2.2.2.1 (st4 k0_t2 w s n)
    else st4 k0_t2 w s n

theorem st4_succ (k0_t2 : Fin k0_t2_loop.trips) (w : BitVec 32) (s : Mxu F) (k : Fin k0_t4_loop.trips) :
    st4 c i arg1 harg1 arg2 harg2 arg3 harg3 arg4 harg4 arg5 harg5 arg6 harg6 arg7 harg7 arg8 harg8 arg9 harg9 arg10 harg10 X1 X2 X5 X6 X9 X10 k0_t2 w s (k.val + 1) =
      twoPasses 1 (trip4 c i arg1 harg1 arg2 harg2 arg3 harg3 arg4 harg4 arg5 harg5 arg6 harg6 arg7 harg7 arg8 harg8 arg9 harg9 arg10 harg10 X1 X2 X5 X6 X9 X10 k0_t2 w k).1 (trip4 c i arg1 harg1 arg2 harg2 arg3 harg3 arg4 harg4 arg5 harg5 arg6 harg6 arg7 harg7 arg8 harg8 arg9 harg9 arg10 harg10 X1 X2 X5 X6 X9 X10 k0_t2 w k).2.1
        (trip4 c i arg1 harg1 arg2 harg2 arg3 harg3 arg4 harg4 arg5 harg5 arg6 harg6 arg7 harg7 arg8 harg8 arg9 harg9 arg10 harg10 X1 X2 X5 X6 X9 X10 k0_t2 w k).2.2.1 (trip4 c i arg1 harg1 arg2 harg2 arg3 harg3 arg4 harg4 arg5 harg5 arg6 harg6 arg7 harg7 arg8 harg8 arg9 harg9 arg10 harg10 X1 X2 X5 X6 X9 X10 k0_t2 w k).2.2.2.1 (st4 c i arg1 harg1 arg2 harg2 arg3 harg3 arg4 harg4 arg5 harg5 arg6 harg6 arg7 harg7 arg8 harg8 arg9 harg9 arg10 harg10 X1 X2 X5 X6 X9 X10 k0_t2 w s k.val) := by
  rw [st4, dif_pos k.isLt]

theorem parked_st4 (k0_t2 : Fin k0_t2_loop.trips) (w : BitVec 32) (s : Mxu F) (h : Parked 1 s) : ∀ n, Parked 1 (st4 c i arg1 harg1 arg2 harg2 arg3 harg3 arg4 harg4 arg5 harg5 arg6 harg6 arg7 harg7 arg8 harg8 arg9 harg9 arg10 harg10 X1 X2 X5 X6 X9 X10 k0_t2 w s n)
  | 0 => h
  | n + 1 => by
    rw [st4]
    split
    · exact parked_twoPasses _ _ _ _ _ _ (parked_st4 k0_t2 w s h n)
    · exact parked_st4 k0_t2 w s h n

/-- Before trip `n` of the window loop of unit 1: the state, and what the loop reads. -/
def inv4 (k0_t2 : Fin k0_t2_loop.trips) (w : BitVec 32) (s : Mxu F) (n : ℕ) (acc : BitVec 32 × Mxu F) : sProp 𝕄 :=
  iprop(⌜acc = (0#32, st4 c i arg1 harg1 arg2 harg2 arg3 harg3 arg4 harg4 arg5 harg5 arg6 harg6 arg7 harg7 arg8 harg8 arg9 harg9 arg10 harg10 X1 X2 X5 X6 X9 X10 k0_t2 w s n)⌝ ∗ Held4 c arg1 arg2 arg5 arg6 arg9 arg10 X1 X2 X5 X6 X9 X10)

theorem step4 (k0_t2 : Fin k0_t2_loop.trips) (w : BitVec 32) (s : Mxu F) (hs : Parked 1 s) (k : Fin k0_t4_loop.trips) (acc : BitVec 32 × Mxu F) :
    inv4 c i arg1 harg1 arg2 harg2 arg3 harg3 arg4 harg4 arg5 harg5 arg6 harg6 arg7 harg7 arg8 harg8 arg9 harg9 arg10 harg10 X1 X2 X5 X6 X9 X10 k0_t2 w s k.val acc ⊢ wp frame (wpE (defs₀ (F := F)) Variants.none (c : Thread nD τ) none) Set.univ (k0_t4_body (F := F) i arg1 harg1 arg2 harg2 arg3 harg3 arg4 harg4 arg5 harg5 arg6 harg6 arg7 harg7 arg8 harg8 arg9 harg9 arg10 harg10 k0_t2 w k acc) (inv4 c i arg1 harg1 arg2 harg2 arg3 harg3 arg4 harg4 arg5 harg5 arg6 harg6 arg7 harg7 arg8 harg8 arg9 harg9 arg10 harg10 X1 X2 X5 X6 X9 X10 k0_t2 w s (k.val + 1)) := by
  unfold inv4
  rw [st4_succ c i arg1 harg1 arg2 harg2 arg3 harg3 arg4 harg4 arg5 harg5 arg6 harg6 arg7 harg7 arg8 harg8 arg9 harg9 arg10 harg10 X1 X2 X5 X6 X9 X10 k0_t2 w s k]
  iintro ⟨%hv, H⟩
  subst hv
  iapply ((trip4 c i arg1 harg1 arg2 harg2 arg3 harg3 arg4 harg4 arg5 harg5 arg6 harg6 arg7 harg7 arg8 harg8 arg9 harg9 arg10 harg10 X1 X2 X5 X6 X9 X10 k0_t2 w k).2.2.2.2 (0#32) (st4 c i arg1 harg1 arg2 harg2 arg3 harg3 arg4 harg4 arg5 harg5 arg6 harg6 arg7 harg7 arg8 harg8 arg9 harg9 arg10 harg10 X1 X2 X5 X6 X9 X10 k0_t2 w s k.val) ((parked_st4 c i arg1 harg1 arg2 harg2 arg3 harg3 arg4 harg4 arg5 harg5 arg6 harg6 arg7 harg7 arg8 harg8 arg9 harg9 arg10 harg10 X1 X2 X5 X6 X9 X10 k0_t2 w s hs k.val).1 1 0) ((parked_st4 c i arg1 harg1 arg2 harg2 arg3 harg3 arg4 harg4 arg5 harg5 arg6 harg6 arg7 harg7 arg8 harg8 arg9 harg9 arg10 harg10 X1 X2 X5 X6 X9 X10 k0_t2 w s hs k.val).1 1 1))
  iexact H

/-- The state after the window loop of unit 0 in outer trip `k0_t2` entered at `s`, -/
def unit0 (k0_t2 : Fin k0_t2_loop.trips) (s : Mxu F) : Mxu F :=
  st3 c i arg1 harg1 arg2 harg2 arg3 harg3 arg4 harg4 arg5 harg5 arg6 harg6 arg7 harg7 arg8 harg8 arg9 harg9 arg10 harg10 X1 X2 X5 X6 X9 X10 k0_t2 (Scalar.addi (Scalar.muli 2#32 (Scf.iv 0#32 1#32 k0_t2)) 0#32) s k0_t3_loop.trips
/-- and after the window loop of unit 1, entered with unit 0 popped. -/
def unit1 (k0_t2 : Fin k0_t2_loop.trips) (s : Mxu F) : Mxu F :=
  st4 c i arg1 harg1 arg2 harg2 arg3 harg3 arg4 harg4 arg5 harg5 arg6 harg6 arg7 harg7 arg8 harg8 arg9 harg9 arg10 harg10 X1 X2 X5 X6 X9 X10 k0_t2 (Scalar.addi (Scalar.muli 2#32 (Scf.iv 0#32 1#32 k0_t2)) 1#32) ((unit0 c i arg1 harg1 arg2 harg2 arg3 harg3 arg4 harg4 arg5 harg5 arg6 harg6 arg7 harg7 arg8 harg8 arg9 harg9 arg10 harg10 X1 X2 X5 X6 X9 X10 k0_t2 s).pop 0 0 128 fits_0_128) k0_t4_loop.trips

theorem drained0 (k0_t2 : Fin k0_t2_loop.trips) (s : Mxu F) (h : s.Drained) : ((unit0 c i arg1 harg1 arg2 harg2 arg3 harg3 arg4 harg4 arg5 harg5 arg6 harg6 arg7 harg7 arg8 harg8 arg9 harg9 arg10 harg10 X1 X2 X5 X6 X9 X10 k0_t2 s).pop 0 0 128 fits_0_128).Drained :=
  drained_pop (parked_st3 c i arg1 harg1 arg2 harg2 arg3 harg3 arg4 harg4 arg5 harg5 arg6 harg6 arg7 harg7 arg8 harg8 arg9 harg9 arg10 harg10 X1 X2 X5 X6 X9 X10 k0_t2 _ s (parked_of_drained 0 h) _) _
theorem drained1 (k0_t2 : Fin k0_t2_loop.trips) (s : Mxu F) (h : s.Drained) : ((unit1 c i arg1 harg1 arg2 harg2 arg3 harg3 arg4 harg4 arg5 harg5 arg6 harg6 arg7 harg7 arg8 harg8 arg9 harg9 arg10 harg10 X1 X2 X5 X6 X9 X10 k0_t2 s).pop 1 0 128 fits_0_128).Drained :=
  drained_pop (parked_st4 c i arg1 harg1 arg2 harg2 arg3 harg3 arg4 harg4 arg5 harg5 arg6 harg6 arg7 harg7 arg8 harg8 arg9 harg9 arg10 harg10 X1 X2 X5 X6 X9 X10 k0_t2 _ _ (parked_of_drained 1 (drained0 c i arg1 harg1 arg2 harg2 arg3 harg3 arg4 harg4 arg5 harg5 arg6 harg6 arg7 harg7 arg8 harg8 arg9 harg9 arg10 harg10 X1 X2 X5 X6 X9 X10 k0_t2 s h)) _) _

/-- The state before outer trip `n`. -/
def stOuter : ℕ → Mxu F
  | 0 => Mxu.init
  | n + 1 => if h : n < k0_t2_loop.trips then (unit1 c i arg1 harg1 arg2 harg2 arg3 harg3 arg4 harg4 arg5 harg5 arg6 harg6 arg7 harg7 arg8 harg8 arg9 harg9 arg10 harg10 X1 X2 X5 X6 X9 X10 ⟨n, h⟩ (stOuter n)).pop 1 0 128 fits_0_128 else stOuter n

theorem stOuter_succ (k : Fin k0_t2_loop.trips) : stOuter c i arg1 harg1 arg2 harg2 arg3 harg3 arg4 harg4 arg5 harg5 arg6 harg6 arg7 harg7 arg8 harg8 arg9 harg9 arg10 harg10 X1 X2 X5 X6 X9 X10 (k.val + 1) = (unit1 c i arg1 harg1 arg2 harg2 arg3 harg3 arg4 harg4 arg5 harg5 arg6 harg6 arg7 harg7 arg8 harg8 arg9 harg9 arg10 harg10 X1 X2 X5 X6 X9 X10 k (stOuter c i arg1 harg1 arg2 harg2 arg3 harg3 arg4 harg4 arg5 harg5 arg6 harg6 arg7 harg7 arg8 harg8 arg9 harg9 arg10 harg10 X1 X2 X5 X6 X9 X10 k.val)).pop 1 0 128 fits_0_128 := by
  rw [stOuter, dif_pos k.isLt]

theorem drained_stOuter : ∀ n, (stOuter c i arg1 harg1 arg2 harg2 arg3 harg3 arg4 harg4 arg5 harg5 arg6 harg6 arg7 harg7 arg8 harg8 arg9 harg9 arg10 harg10 X1 X2 X5 X6 X9 X10 n).Drained
  | 0 => Mxu.init_drained
  | n + 1 => by
    rw [stOuter]
    split
    · exact drained1 c i arg1 harg1 arg2 harg2 arg3 harg3 arg4 harg4 arg5 harg5 arg6 harg6 arg7 harg7 arg8 harg8 arg9 harg9 arg10 harg10 X1 X2 X5 X6 X9 X10 _ _ (drained_stOuter n)
    · exact drained_stOuter n

variable (X7 : BufTy.Contents (Elt F) arg7.view.ty)

/-- The two stores of outer trip `k0_t2` entered at `s`, last first. -/
def stores (k0_t2 : Fin k0_t2_loop.trips) (s : Mxu F) : List (View.Piece (Elt F) S128x1024 .bf16) :=
  [⟨Rect.unit (s := S128x1024) (k0_off16 k0_t2 1#32) S128x256.size (k0_off16_inb k0_t2 1),
      k0_pay8 ((unit1 c i arg1 harg1 arg2 harg2 arg3 harg3 arg4 harg4 arg5 harg5 arg6 harg6 arg7 harg7 arg8 harg8 arg9 harg9 arg10 harg10 X1 X2 X5 X6 X9 X10 k0_t2 s).read 1 0 fits_0_128)
        (arg7.view.readAt (Elt F) (Rect.unit (s := S1024x128) (k0_off15 k0_t2 1#32) S256x128.size (k0_off15_inb k0_t2 1)).toLoadRect X7)⟩,
    ⟨Rect.unit (s := S128x1024) (k0_off16 k0_t2 0#32) S128x256.size (k0_off16_inb k0_t2 0),
      k0_pay5 ((unit0 c i arg1 harg1 arg2 harg2 arg3 harg3 arg4 harg4 arg5 harg5 arg6 harg6 arg7 harg7 arg8 harg8 arg9 harg9 arg10 harg10 X1 X2 X5 X6 X9 X10 k0_t2 s).read 0 0 fits_0_128)
        (arg7.view.readAt (Elt F) (Rect.unit (s := S1024x128) (k0_off15 k0_t2 0#32) S256x128.size (k0_off15_inb k0_t2 0)).toLoadRect X7)⟩]

/-- What the outer loop has stored before trip `n`, last store first. -/
def pieces8 : ℕ → List (View.Piece (Elt F) S128x1024 .bf16)
  | 0 => []
  | n + 1 => (if h : n < k0_t2_loop.trips then stores c i arg1 harg1 arg2 harg2 arg3 harg3 arg4 harg4 arg5 harg5 arg6 harg6 arg7 harg7 arg8 harg8 arg9 harg9 arg10 harg10 X1 X2 X5 X6 X9 X10 X7 ⟨n, h⟩ (stOuter c i arg1 harg1 arg2 harg2 arg3 harg3 arg4 harg4 arg5 harg5 arg6 harg6 arg7 harg7 arg8 harg8 arg9 harg9 arg10 harg10 X1 X2 X5 X6 X9 X10 n) else []) ++ pieces8 n

theorem pieces8_succ (k : Fin k0_t2_loop.trips) : pieces8 c i arg1 harg1 arg2 harg2 arg3 harg3 arg4 harg4 arg5 harg5 arg6 harg6 arg7 harg7 arg8 harg8 arg9 harg9 arg10 harg10 X1 X2 X5 X6 X9 X10 X7 (k.val + 1) = stores c i arg1 harg1 arg2 harg2 arg3 harg3 arg4 harg4 arg5 harg5 arg6 harg6 arg7 harg7 arg8 harg8 arg9 harg9 arg10 harg10 X1 X2 X5 X6 X9 X10 X7 k (stOuter c i arg1 harg1 arg2 harg2 arg3 harg3 arg4 harg4 arg5 harg5 arg6 harg6 arg7 harg7 arg8 harg8 arg9 harg9 arg10 harg10 X1 X2 X5 X6 X9 X10 k.val) ++ pieces8 c i arg1 harg1 arg2 harg2 arg3 harg3 arg4 harg4 arg5 harg5 arg6 harg6 arg7 harg7 arg8 harg8 arg9 harg9 arg10 harg10 X1 X2 X5 X6 X9 X10 X7 k.val := by
  rw [pieces8, dif_pos k.isLt]

theorem trips2 : k0_t2_loop.trips = 2 := by decide

theorem cover8_aux : ∀ n, n ≤ k0_t2_loop.trips → ∀ y : S128x1024.Idx, (y 1).val < 512 * n → ∃ p ∈ pieces8 c i arg1 harg1 arg2 harg2 arg3 harg3 arg4 harg4 arg5 harg5 arg6 harg6 arg7 harg7 arg8 harg8 arg9 harg9 arg10 harg10 X1 X2 X5 X6 X9 X10 X7 n, y ∈ p.1.set
  | 0, _, y, h => absurd h (Nat.not_lt_zero _)
  | n + 1, hn, y, h => by
    rw [pieces8_succ c i arg1 harg1 arg2 harg2 arg3 harg3 arg4 harg4 arg5 harg5 arg6 harg6 arg7 harg7 arg8 harg8 arg9 harg9 arg10 harg10 X1 X2 X5 X6 X9 X10 X7 ⟨n, hn⟩]
    have hy0 : (y 0).val < 128 := (y 0).isLt
    rcases Nat.lt_or_ge (y 1).val (512 * n) with hl | hg
    · obtain ⟨p, hp, hy⟩ := cover8_aux n (Nat.le_of_lt hn) y hl
      exact ⟨p, List.mem_append_right _ hp, hy⟩
    rcases Nat.lt_or_ge (y 1).val (512 * n + 256) with hm | hm
    · refine ⟨_, List.mem_append_left _ (List.mem_cons_of_mem _ List.mem_cons_self), ?_⟩
      show y ∈ (Rect.unit (s := S128x1024) (k0_off16 ⟨n, hn⟩ (BitVec.ofNat 32 (0 : Fin 2).val)) S128x256.size (k0_off16_inb ⟨n, hn⟩ 0)).set
      rw [Rect.mem_set_unit, k0_off16_eq]
      intro a
      fin_cases a
      · exact ⟨Nat.zero_le _, by show (y 0).val < 0 + _; rw [Nat.zero_add]; exact hy0⟩
      · exact ⟨by show 512 * n + 256 * 0 ≤ (y 1).val; omega, by show (y 1).val < 512 * n + 256 * 0 + 256; omega⟩
    · refine ⟨_, List.mem_append_left _ List.mem_cons_self, ?_⟩
      show y ∈ (Rect.unit (s := S128x1024) (k0_off16 ⟨n, hn⟩ (BitVec.ofNat 32 (1 : Fin 2).val)) S128x256.size (k0_off16_inb ⟨n, hn⟩ 1)).set
      rw [Rect.mem_set_unit, k0_off16_eq]
      intro a
      fin_cases a
      · exact ⟨Nat.zero_le _, by show (y 0).val < 0 + _; rw [Nat.zero_add]; exact hy0⟩
      · exact ⟨by show 512 * n + 256 * 1 ≤ (y 1).val; omega, by show (y 1).val < 512 * n + 256 * 1 + 256; omega⟩

theorem cover8 (y : S128x1024.Idx) : ∃ p ∈ pieces8 c i arg1 harg1 arg2 harg2 arg3 harg3 arg4 harg4 arg5 harg5 arg6 harg6 arg7 harg7 arg8 harg8 arg9 harg9 arg10 harg10 X1 X2 X5 X6 X9 X10 X7 k0_t2_loop.trips, y ∈ p.1.set :=
  cover8_aux c i arg1 harg1 arg2 harg2 arg3 harg3 arg4 harg4 arg5 harg5 arg6 harg6 arg7 harg7 arg8 harg8 arg9 harg9 arg10 harg10 X1 X2 X5 X6 X9 X10 X7 _ le_rfl y (by have := (y 1).isLt; rw [trips2]; exact this)

/-- Before outer trip `n`: the state, what the trips read, and the output block with the stores of the trips before. -/
def inv2 (f8 : BufTy.Contents (Elt F) arg8.view.ty) (n : ℕ) (acc : BitVec 32 × Mxu F) : sProp 𝕄 :=
  iprop(⌜acc = (0#32, stOuter c i arg1 harg1 arg2 harg2 arg3 harg3 arg4 harg4 arg5 harg5 arg6 harg6 arg7 harg7 arg8 harg8 arg9 harg9 arg10 harg10 X1 X2 X5 X6 X9 X10 n)⌝ ∗ Held3 c arg1 arg2 arg5 arg6 arg9 arg10 X1 X2 X5 X6 X9 X10 ∗ (arg7.view.loc (c : Thread nD τ) ↦[arg7.view.set]{fullShare} X7)
    ∗ (arg8.view.loc (c : Thread nD τ) ↦[arg8.view.set]{fullShare} (arg8.view.writes (Elt F) f8 (pieces8 c i arg1 harg1 arg2 harg2 arg3 harg3 arg4 harg4 arg5 harg5 arg6 harg6 arg7 harg7 arg8 harg8 arg9 harg9 arg10 harg10 X1 X2 X5 X6 X9 X10 X7 n))))

theorem step2 (f8 : BufTy.Contents (Elt F) arg8.view.ty) (k : Fin k0_t2_loop.trips) (acc : BitVec 32 × Mxu F) :
    inv2 c i arg1 harg1 arg2 harg2 arg3 harg3 arg4 harg4 arg5 harg5 arg6 harg6 arg7 harg7 arg8 harg8 arg9 harg9 arg10 harg10 X1 X2 X5 X6 X9 X10 X7 f8 k.val acc ⊢ wp frame (wpE (defs₀ (F := F)) Variants.none (c : Thread nD τ) none) Set.univ (k0_t2_body (F := F) i arg1 harg1 arg2 harg2 arg3 harg3 arg4 harg4 arg5 harg5 arg6 harg6 arg7 harg7 arg8 harg8 arg9 harg9 arg10 harg10 k acc) (inv2 c i arg1 harg1 arg2 harg2 arg3 harg3 arg4 harg4 arg5 harg5 arg6 harg6 arg7 harg7 arg8 harg8 arg9 harg9 arg10 harg10 X1 X2 X5 X6 X9 X10 X7 f8 (k.val + 1)) := by
  unfold inv2
  rw [pieces8_succ c i arg1 harg1 arg2 harg2 arg3 harg3 arg4 harg4 arg5 harg5 arg6 harg6 arg7 harg7 arg8 harg8 arg9 harg9 arg10 harg10 X1 X2 X5 X6 X9 X10 X7 k, stOuter_succ c i arg1 harg1 arg2 harg2 arg3 harg3 arg4 harg4 arg5 harg5 arg6 harg6 arg7 harg7 arg8 harg8 arg9 harg9 arg10 harg10 X1 X2 X5 X6 X9 X10 k]
  simp only [View.writes_append]
  have hd := drained_stOuter c i arg1 harg1 arg2 harg2 arg3 harg3 arg4 harg4 arg5 harg5 arg6 harg6 arg7 harg7 arg8 harg8 arg9 harg9 arg10 harg10 X1 X2 X5 X6 X9 X10 k.val
  generalize stOuter c i arg1 harg1 arg2 harg2 arg3 harg3 arg4 harg4 arg5 harg5 arg6 harg6 arg7 harg7 arg8 harg8 arg9 harg9 arg10 harg10 X1 X2 X5 X6 X9 X10 k.val = s at hd ⊢
  generalize arg8.view.writes (Elt F) f8 (pieces8 c i arg1 harg1 arg2 harg2 arg3 harg3 arg4 harg4 arg5 harg5 arg6 harg6 arg7 harg7 arg8 harg8 arg9 harg9 arg10 harg10 X1 X2 X5 X6 X9 X10 X7 k.val) = g8
  iintro ⟨%hv, H, H7, H8⟩
  subst hv
  unfold k0_t2_body
  dsimp only
  sl_for (inv3 c i arg1 harg1 arg2 harg2 arg3 harg3 arg4 harg4 arg5 harg5 arg6 harg6 arg7 harg7 arg8 harg8 arg9 harg9 arg10 harg10 X1 X2 X5 X6 X9 X10 k (Scalar.addi (Scalar.muli 2#32 (Scf.iv 0#32 1#32 k)) 0#32) s) $$ [H]
  case region => exact step3 c i arg1 harg1 arg2 harg2 arg3 harg3 arg4 harg4 arg5 harg5 arg6 harg6 arg7 harg7 arg8 harg8 arg9 harg9 arg10 harg10 X1 X2 X5 X6 X9 X10 k _ s (parked_of_drained 0 hd)
  · unfold inv3
    isplitr; · ipureintro; rfl
    iexact H
  iintro %acc HI
  unfold inv3
  icases HI with ⟨%ha, H⟩
  subst ha
  sl_exec
  sl_for (inv4 c i arg1 harg1 arg2 harg2 arg3 harg3 arg4 harg4 arg5 harg5 arg6 harg6 arg7 harg7 arg8 harg8 arg9 harg9 arg10 harg10 X1 X2 X5 X6 X9 X10 k (Scalar.addi (Scalar.muli 2#32 (Scf.iv 0#32 1#32 k)) 1#32) ((unit0 c i arg1 harg1 arg2 harg2 arg3 harg3 arg4 harg4 arg5 harg5 arg6 harg6 arg7 harg7 arg8 harg8 arg9 harg9 arg10 harg10 X1 X2 X5 X6 X9 X10 k s).pop 0 0 128 fits_0_128)) $$ [H]
  case region => exact step4 c i arg1 harg1 arg2 harg2 arg3 harg3 arg4 harg4 arg5 harg5 arg6 harg6 arg7 harg7 arg8 harg8 arg9 harg9 arg10 harg10 X1 X2 X5 X6 X9 X10 k _ _ (parked_of_drained 1 (drained0 c i arg1 harg1 arg2 harg2 arg3 harg3 arg4 harg4 arg5 harg5 arg6 harg6 arg7 harg7 arg8 harg8 arg9 harg9 arg10 harg10 X1 X2 X5 X6 X9 X10 k s hd))
  · unfold inv4
    isplitr; · ipureintro; rfl
    iexact H
  iintro %acc HI
  unfold inv4
  icases HI with ⟨%ha, H⟩
  subst ha
  sl_exec
  sl_step
  isplitr; · ipureintro; rfl
  isplitl [H]; · iexact H
  isplitl [H7]; · iexact H7
  iexact H8

end Main

/-! ## The body -/

section Body

variable (x1 : Vec F S128x7168 .bf16) (x2 : Vec F S3584x1024 .i8) (x3 : Vec F S448x1024 .bf16) (x4 : Vec F S448x1024 .i8) (x5 : Vec F S1792x128 .i32) (x6 : Vec F S896x128 .i32) (x7 : Vec F S1024x128 .f32)

/-- The output block the body leaves, from the blocks of its inputs. -/
def out8 : Vec F S128x1024 .bf16 :=
  View.canon (pieces8 c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 c i arg1 harg1 arg2 harg2 arg3 harg3 arg4 harg4 arg5 harg5 arg6 harg6 arg7 harg7 arg8 harg8 arg9 harg9 arg10 harg10 (harg3.unread x3) (harg4.unread x4))) (harg10.unread (scr10 c i arg1 harg1 arg2 harg2 arg3 harg3 arg4 harg4 arg5 harg5 arg6 harg6 arg7 harg7 arg8 harg8 arg9 harg9 arg10 harg10 (harg3.unread x3) (harg4.unread x4))) (harg7.unread x7) k0_t2_loop.trips)

/-- The body on whole memrefs: the inputs stay as they were, the output is left at `out8`. -/
theorem sound_kernel (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out8 c i arg1 harg1 arg2 harg2 arg3 harg3 arg4 harg4 arg5 harg5 arg6 harg6 arg7 harg7 arg8 harg8 arg9 harg9 arg10 harg10 x1 x2 x3 x4 x5 x6 x7) ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) Set.univ (cc0_dequant_matmul (F := F) i arg1 harg1 arg2 harg2 arg3 harg3 arg4 harg4 arg5 harg5 arg6 harg6 arg7 harg7 arg8 harg8 arg9 harg9 arg10 harg10) K := by
  simp only [cc0_dequant_matmul_eq_skeleton]; unfold cc0_dequant_matmul_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  dsimp only
  sl_for (inv1 c i arg1 harg1 arg2 harg2 arg3 harg3 arg4 harg4 arg5 harg5 arg6 harg6 arg7 harg7 arg8 harg8 arg9 harg9 arg10 harg10 (harg3.unread x3) (harg4.unread x4) f9 f10) $$ [H3 H4 H9 H10]
  case region => exact step1 c i arg1 harg1 arg2 harg2 arg3 harg3 arg4 harg4 arg5 harg5 arg6 harg6 arg7 harg7 arg8 harg8 arg9 harg9 arg10 harg10 (harg3.unread x3) (harg4.unread x4) f9 f10
  · unfold inv1
    isplitr; · ipureintro; rfl
    isplitl [H3]; · iexact H3
    isplitl [H4]; · iexact H4
    isplitl [H9]; · iexact H9
    iexact H10
  iintro %v HI
  unfold inv1
  icases HI with ⟨%hv, H3, H4, H9, H10⟩
  subst hv
  rw [writes_scr9 c i arg1 harg1 arg2 harg2 arg3 harg3 arg4 harg4 arg5 harg5 arg6 harg6 arg7 harg7 arg8 harg8 arg9 harg9 arg10 harg10 (harg3.unread x3) (harg4.unread x4) f9, writes_scr10 c i arg1 harg1 arg2 harg2 arg3 harg3 arg4 harg4 arg5 harg5 arg6 harg6 arg7 harg7 arg8 harg8 arg9 harg9 arg10 harg10 (harg3.unread x3) (harg4.unread x4) f10]
  sl_for (inv2 c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 c i arg1 harg1 arg2 harg2 arg3 harg3 arg4 harg4 arg5 harg5 arg6 harg6 arg7 harg7 arg8 harg8 arg9 harg9 arg10 harg10 (harg3.unread x3) (harg4.unread x4))) (harg10.unread (scr10 c i arg1 harg1 arg2 harg2 arg3 harg3 arg4 harg4 arg5 harg5 arg6 harg6 arg7 harg7 arg8 harg8 arg9 harg9 arg10 harg10 (harg3.unread x3) (harg4.unread x4))) (harg7.unread x7) f8) $$ [H1 H2 H5 H6 H7 H8 H9 H10]
  case region => exact step2 c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 c i arg1 harg1 arg2 harg2 arg3 harg3 arg4 harg4 arg5 harg5 arg6 harg6 arg7 harg7 arg8 harg8 arg9 harg9 arg10 harg10 (harg3.unread x3) (harg4.unread x4))) (harg10.unread (scr10 c i arg1 harg1 arg2 harg2 arg3 harg3 arg4 harg4 arg5 harg5 arg6 harg6 arg7 harg7 arg8 harg8 arg9 harg9 arg10 harg10 (harg3.unread x3) (harg4.unread x4))) (harg7.unread x7) f8
  · unfold inv2
    isplitr; · ipureintro; rfl
    isplitl [H1 H2 H5 H6 H9 H10]
    · isplitl [H1]; · iexact H1
      isplitl [H2]; · iexact H2
      isplitl [H5]; · iexact H5
      isplitl [H6]; · iexact H6
      isplitl [H9]; · iexact H9
      iexact H10
    isplitl [H7]; · iexact H7
    iexact H8
  iintro %acc HI
  unfold inv2
  icases HI with ⟨%ha, ⟨H1, H2, H5, H6, H9, H10⟩, H7, H8⟩
  subst ha
  have hd := drained_stOuter c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 c i arg1 harg1 arg2 harg2 arg3 harg3 arg4 harg4 arg5 harg5 arg6 harg6 arg7 harg7 arg8 harg8 arg9 harg9 arg10 harg10 (harg3.unread x3) (harg4.unread x4))) (harg10.unread (scr10 c i arg1 harg1 arg2 harg2 arg3 harg3 arg4 harg4 arg5 harg5 arg6 harg6 arg7 harg7 arg8 harg8 arg9 harg9 arg10 harg10 (harg3.unread x3) (harg4.unread x4))) k0_t2_loop.trips
  sl_exec
  sl_step
  iapply Hk
  isplitl [H1]
  · iexists (harg1.unread x1); isplitr; · ipureintro; exact hf1
    iexact H1
  isplitl [H2]
  · iexists (harg2.unread x2); isplitr; · ipureintro; exact hf2
    iexact H2
  isplitl [H3]
  · iexists (harg3.unread x3); isplitr; · ipureintro; exact hf3
    iexact H3
  isplitl [H4]
  · iexists (harg4.unread x4); isplitr; · ipureintro; exact hf4
    iexact H4
  isplitl [H5]
  · iexists (harg5.unread x5); isplitr; · ipureintro; exact hf5
    iexact H5
  isplitl [H6]
  · iexists (harg6.unread x6); isplitr; · ipureintro; exact hf6
    iexact H6
  isplitl [H7]
  · iexists (harg7.unread x7); isplitr; · ipureintro; exact hf7
    iexact H7
  isplitl [H8]
  · iexists _; isplitr
    swap; · iexact H8
    ipureintro
    exact View.read_writes_eq_canon _ _ _ (cover8 c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 c i arg1 harg1 arg2 harg2 arg3 harg3 arg4 harg4 arg5 harg5 arg6 harg6 arg7 harg7 arg8 harg8 arg9 harg9 arg10 harg10 (harg3.unread x3) (harg4.unread x4))) (harg10.unread (scr10 c i arg1 harg1 arg2 harg2 arg3 harg3 arg4 harg4 arg5 harg5 arg6 harg6 arg7 harg7 arg8 harg8 arg9 harg9 arg10 harg10 (harg3.unread x3) (harg4.unread x4))) (harg7.unread x7))
  isplitl [H9]
  · iexists _; iexists _; isplitr
    swap; · iexact H9
    ipureintro; rfl
  iexists _; iexists _; isplitr
  swap; · iexact H10
  ipureintro; rfl

end Body

end Cert.Proof.Kernel

end
-- ==== Proof.KernelRun.lean ====
module

public import proofs.«01_k».proof.Proof.KernelBody

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The output block the body leaves at grid point `t`. -/
def outBlk (c : Dev nD) (t : Fin cfg0.N) : Vec F S128x1024 .bf16 :=
  out8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t)

/-- The proof data of the pipeline on core `c`: the arrays as the region finds them; after the body at point `t` each input's
    buffer at its block and the output's at `outBlk`; the scratch buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The scratch buffers out of the class's invariant. -/
theorem ΦA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, ΦA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitr [Hg]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline ends at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.Kernel

end
-- ==== Proof.KernelIdealTrip.lean ====
module

public import proofs.«01_k».proof.Proof.Gen.KernelIdeal.Frame
public import proofs.«01_k».proof.Proof.Gen.KernelIdeal.Loops
public import proofs.«01_k».proof.Proof.Passes
public import Idealize.ShloMosaic.Lib.Mxu.Walk
public import Idealize.ShloMosaic.Lib.Claim

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S128x7168 .bf16) (harg1 : arg1.IsWhole) (arg2 : Memref sig .tc .vmem S3584x1024 .i8) (harg2 : arg2.IsWhole) (arg3 : Memref sig .tc .vmem S448x1024 .bf16) (harg3 : arg3.IsWhole) (arg4 : Memref sig .tc .vmem S448x1024 .i8) (harg4 : arg4.IsWhole) (arg5 : Memref sig .tc .vmem S1792x128 .i32) (harg5 : arg5.IsWhole) (arg6 : Memref sig .tc .vmem S896x128 .i32) (harg6 : arg6.IsWhole) (arg7 : Memref sig .tc .vmem S1024x128 .f32) (harg7 : arg7.IsWhole) (arg8 : Memref sig .tc .vmem S128x1024 .bf16) (harg8 : arg8.IsWhole) (arg9 : Memref sig .tc .vmem S2x224x2x1024 .bf16) (harg9 : arg9.IsWhole) (arg10 : Memref sig .tc .vmem S2x224x2x1024 .bf16) (harg10 : arg10.IsWhole)
variable (X3 : BufTy.Contents (Elt F) arg3.view.ty) (X4 : BufTy.Contents (Elt F) arg4.view.ty)

/-- One trip of the preparation loop: it writes the two planes of sixteen rows of either scratch buffer. The four values are
    those that the run finds. -/
@[irreducible] def trip1 (k : Fin k0_t1_loop.trips) :
    Σ' (P0 : Vec F S1x16x2x1024 .bf16) (P1 : Vec F S1x16x2x1024 .bf16) (Q0 : Vec F S1x16x2x1024 .bf16),
      { Q1 : Vec F S1x16x2x1024 .bf16 // ∀ (v : BitVec 32) (f9 : BufTy.Contents (Elt F) arg9.view.ty) (f10 : BufTy.Contents (Elt F) arg10.view.ty),
        (iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} f9) ∗ (arg10.view.loc (c : Thread nD τ) ↦[arg10.view.set]{fullShare} f10)) : sProp 𝕄)
          ⊢ wp frame (wpE (defs₀ (F := F)) Variants.none (c : Thread nD τ) none) Set.univ
              (k0_t1_body (F := F) i arg1 harg1 arg2 harg2 arg3 harg3 arg4 harg4 arg5 harg5 arg6 harg6 arg7 harg7 arg8 harg8 arg9 harg9 arg10 harg10 k v)
              (fun y => iprop(⌜y = 0#32⌝ ∗ (arg3.view.loc (c : Thread nD τ) ↦[arg3.view.set]{fullShare} X3) ∗ (arg4.view.loc (c : Thread nD τ) ↦[arg4.view.set]{fullShare} X4)
                ∗ (arg9.view.loc (c : Thread nD τ) ↦[arg9.view.set]{fullShare} (arg9.view.writes (Elt F) f9 [⟨Rect.unit (k0_off3 k) S1x16x2x1024.size (k0_off3_inb k), P1⟩, ⟨Rect.unit (k0_off2 k) S1x16x2x1024.size (k0_off2_inb k), P0⟩]))
                ∗ (arg10.view.loc (c : Thread nD τ) ↦[arg10.view.set]{fullShare} (arg10.view.writes (Elt F) f10 [⟨Rect.unit (k0_off3 k) S1x16x2x1024.size (k0_off3_inb k), Q1⟩, ⟨Rect.unit (k0_off2 k) S1x16x2x1024.size (k0_off2_inb k), Q0⟩])))) } := by
  have hk : k.val < 14 := Nat.lt_of_lt_of_le k.isLt k0_t1_abs.2.1
  refine ⟨?_, ?_, ?_, ?_, fun v f9 f10 => ?run⟩
  case run =>
    unfold k0_t1_body
    iintro ⟨H3, H4, H9, H10⟩
    sl_exec
    sl_step
    isplitr; · ipureintro; rfl
    isplitl [H3]; · iexact H3
    isplitl [H4]; · iexact H4
    isplitl [H9]; · iexact H9
    iexact H10

variable (X1 : BufTy.Contents (Elt F) arg1.view.ty) (X2 : BufTy.Contents (Elt F) arg2.view.ty) (X5 : BufTy.Contents (Elt F) arg5.view.ty) (X6 : BufTy.Contents (Elt F) arg6.view.ty) (X9 : BufTy.Contents (Elt F) arg9.view.ty) (X10 : BufTy.Contents (Elt F) arg10.view.ty)

/-- What one trip of the window loop of unit 0 holds: the six buffers that it reads. -/
abbrev Held3 : sProp 𝕄 :=
  iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10))

/-- One trip of the window loop of unit 0: it pushes two tiles and accumulates two slabs of the left operand. The four
    values are those that the run finds. -/
@[irreducible] def trip3 (k0_t2 : Fin k0_t2_loop.trips) (w : BitVec 32) (k : Fin k0_t3_loop.trips) :
    Σ' (B0 : FVec F (Mxu.STile 256) .bf16) (A0 : FVec F (Mxu.STile 128) .bf16) (B1 : FVec F (Mxu.STile 256) .bf16),
      { A1 : FVec F (Mxu.STile 128) .bf16 // ∀ (v : BitVec 32) (s : Mxu F), s.reg 0 0 = none → s.reg 0 1 = none →
        Held3 c arg1 arg2 arg5 arg6 arg9 arg10 X1 X2 X5 X6 X9 X10
          ⊢ wp frame (wpE (defs₀ (F := F)) Variants.none (c : Thread nD τ) none) Set.univ
              (k0_t3_body (F := F) i arg1 harg1 arg2 harg2 arg3 harg3 arg4 harg4 arg5 harg5 arg6 harg6 arg7 harg7 arg8 harg8 arg9 harg9 arg10 harg10 k0_t2 w k (v, s))
              (fun y => iprop(⌜y = (0#32, twoPasses 0 B0 A0 B1 A1 s)⌝ ∗ Held3 c arg1 arg2 arg5 arg6 arg9 arg10 X1 X2 X5 X6 X9 X10)) } := by
  refine ⟨?_, ?_, ?_, ?_, fun v s h0 h1 => ?run⟩
  case run =>
    have hp : s.PushOk 0 0 false := Mxu.pushOk_of_none _ _ _ _ h0
    unfold k0_t3_body
    iintro ⟨H1, H2, H5, H6, H9, H10⟩
    sl_exec (disch := (mxu_pushok_peel; exact Mxu.pushOk_of_none _ _ _ _ h1))
    sl_step
    isplitr; · ipureintro; rfl
    isplitl [H1]; · iexact H1
    isplitl [H2]; · iexact H2
    isplitl [H5]; · iexact H5
    isplitl [H6]; · iexact H6
    isplitl [H9]; · iexact H9
    iexact H10

/-- What one trip of the window loop of unit 1 holds: the six buffers that it reads. -/
abbrev Held4 : sProp 𝕄 :=
  iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10))

/-- One trip of the window loop of unit 1: it pushes two tiles and accumulates two slabs of the left operand. The four
    values are those that the run finds. -/
@[irreducible] def trip4 (k0_t2 : Fin k0_t2_loop.trips) (w : BitVec 32) (k : Fin k0_t4_loop.trips) :
    Σ' (B0 : FVec F (Mxu.STile 256) .bf16) (A0 : FVec F (Mxu.STile 128) .bf16) (B1 : FVec F (Mxu.STile 256) .bf16),
      { A1 : FVec F (Mxu.STile 128) .bf16 // ∀ (v : BitVec 32) (s : Mxu F), s.reg 1 0 = none → s.reg 1 1 = none →
        Held4 c arg1 arg2 arg5 arg6 arg9 arg10 X1 X2 X5 X6 X9 X10
          ⊢ wp frame (wpE (defs₀ (F := F)) Variants.none (c : Thread nD τ) none) Set.univ
              (k0_t4_body (F := F) i arg1 harg1 arg2 harg2 arg3 harg3 arg4 harg4 arg5 harg5 arg6 harg6 arg7 harg7 arg8 harg8 arg9 harg9 arg10 harg10 k0_t2 w k (v, s))
              (fun y => iprop(⌜y = (0#32, twoPasses 1 B0 A0 B1 A1 s)⌝ ∗ Held4 c arg1 arg2 arg5 arg6 arg9 arg10 X1 X2 X5 X6 X9 X10)) } := by
  refine ⟨?_, ?_, ?_, ?_, fun v s h0 h1 => ?run⟩
  case run =>
    have hp : s.PushOk 1 0 false := Mxu.pushOk_of_none _ _ _ _ h0
    unfold k0_t4_body
    iintro ⟨H1, H2, H5, H6, H9, H10⟩
    sl_exec (disch := (mxu_pushok_peel; exact Mxu.pushOk_of_none _ _ _ _ h1))
    sl_step
    isplitr; · ipureintro; rfl
    isplitl [H1]; · iexact H1
    isplitl [H2]; · iexact H2
    isplitl [H5]; · iexact H5
    isplitl [H6]; · iexact H6
    isplitl [H9]; · iexact H9
    iexact H10

end Cert.Proof.KernelIdeal

end
-- ==== Proof.KernelIdealBody.lean ====
module

public import proofs.«01_k».proof.Proof.KernelIdealTrip

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S128x7168 .bf16) (harg1 : arg1.IsWhole) (arg2 : Memref sig .tc .vmem S3584x1024 .i8) (harg2 : arg2.IsWhole) (arg3 : Memref sig .tc .vmem S448x1024 .bf16) (harg3 : arg3.IsWhole) (arg4 : Memref sig .tc .vmem S448x1024 .i8) (harg4 : arg4.IsWhole) (arg5 : Memref sig .tc .vmem S1792x128 .i32) (harg5 : arg5.IsWhole) (arg6 : Memref sig .tc .vmem S896x128 .i32) (harg6 : arg6.IsWhole) (arg7 : Memref sig .tc .vmem S1024x128 .f32) (harg7 : arg7.IsWhole) (arg8 : Memref sig .tc .vmem S128x1024 .bf16) (harg8 : arg8.IsWhole) (arg9 : Memref sig .tc .vmem S2x224x2x1024 .bf16) (harg9 : arg9.IsWhole) (arg10 : Memref sig .tc .vmem S2x224x2x1024 .bf16) (harg10 : arg10.IsWhole)

section Prep

variable (X3 : BufTy.Contents (Elt F) arg3.view.ty) (X4 : BufTy.Contents (Elt F) arg4.view.ty)

/-- What the preparation loop has written into the two scratch buffers before trip `n`, last write first. -/
def pieces9 : ℕ → List (View.Piece (Elt F) S2x224x2x1024 .bf16)
  | 0 => []
  | n + 1 => (if h : n < k0_t1_loop.trips then
      [⟨Rect.unit (k0_off3 ⟨n, h⟩) S1x16x2x1024.size (k0_off3_inb ⟨n, h⟩), (trip1 c i arg1 harg1 arg2 harg2 arg3 harg3 arg4 harg4 arg5 harg5 arg6 harg6 arg7 harg7 arg8 harg8 arg9 harg9 arg10 harg10 X3 X4 ⟨n, h⟩).2.1⟩,
        ⟨Rect.unit (k0_off2 ⟨n, h⟩) S1x16x2x1024.size (k0_off2_inb ⟨n, h⟩), (trip1 c i arg1 harg1 arg2 harg2 arg3 harg3 arg4 harg4 arg5 harg5 arg6 harg6 arg7 harg7 arg8 harg8 arg9 harg9 arg10 harg10 X3 X4 ⟨n, h⟩).1⟩] else []) ++ pieces9 n
def pieces10 : ℕ → List (View.Piece (Elt F) S2x224x2x1024 .bf16)
  | 0 => []
  | n + 1 => (if h : n < k0_t1_loop.trips then
      [⟨Rect.unit (k0_off3 ⟨n, h⟩) S1x16x2x1024.size (k0_off3_inb ⟨n, h⟩), (trip1 c i arg1 harg1 arg2 harg2 arg3 harg3 arg4 harg4 arg5 harg5 arg6 harg6 arg7 harg7 arg8 harg8 arg9 harg9 arg10 harg10 X3 X4 ⟨n, h⟩).2.2.2.1⟩,
        ⟨Rect.unit (k0_off2 ⟨n, h⟩) S1x16x2x1024.size (k0_off2_inb ⟨n, h⟩), (trip1 c i arg1 harg1 arg2 harg2 arg3 harg3 arg4 harg4 arg5 harg5 arg6 harg6 arg7 harg7 arg8 harg8 arg9 harg9 arg10 harg10 X3 X4 ⟨n, h⟩).2.2.1⟩] else []) ++ pieces10 n

theorem pieces9_succ (k : Fin k0_t1_loop.trips) : pieces9 c i arg1 harg1 arg2 harg2 arg3 harg3 arg4 harg4 arg5 harg5 arg6 harg6 arg7 harg7 arg8 harg8 arg9 harg9 arg10 harg10 X3 X4 (k.val + 1) =
    [⟨Rect.unit (k0_off3 k) S1x16x2x1024.size (k0_off3_inb k), (trip1 c i arg1 harg1 arg2 harg2 arg3 harg3 arg4 harg4 arg5 harg5 arg6 harg6 arg7 harg7 arg8 harg8 arg9 harg9 arg10 harg10 X3 X4 k).2.1⟩,
      ⟨Rect.unit (k0_off2 k) S1x16x2x1024.size (k0_off2_inb k), (trip1 c i arg1 harg1 arg2 harg2 arg3 harg3 arg4 harg4 arg5 harg5 arg6 harg6 arg7 harg7 arg8 harg8 arg9 harg9 arg10 harg10 X3 X4 k).1⟩] ++ pieces9 c i arg1 harg1 arg2 harg2 arg3 harg3 arg4 harg4 arg5 harg5 arg6 harg6 arg7 harg7 arg8 harg8 arg9 harg9 arg10 harg10 X3 X4 k.val := by
  rw [pieces9, dif_pos k.isLt]
theorem pieces10_succ (k : Fin k0_t1_loop.trips) : pieces10 c i arg1 harg1 arg2 harg2 arg3 harg3 arg4 harg4 arg5 harg5 arg6 harg6 arg7 harg7 arg8 harg8 arg9 harg9 arg10 harg10 X3 X4 (k.val + 1) =
    [⟨Rect.unit (k0_off3 k) S1x16x2x1024.size (k0_off3_inb k), (trip1 c i arg1 harg1 arg2 harg2 arg3 harg3 arg4 harg4 arg5 harg5 arg6 harg6 arg7 harg7 arg8 harg8 arg9 harg9 arg10 harg10 X3 X4 k).2.2.2.1⟩,
      ⟨Rect.unit (k0_off2 k) S1x16x2x1024.size (k0_off2_inb k), (trip1 c i arg1 harg1 arg2 harg2 arg3 harg3 arg4 harg4 arg5 harg5 arg6 harg6 arg7 harg7 arg8 harg8 arg9 harg9 arg10 harg10 X3 X4 k).2.2.1⟩] ++ pieces10 c i arg1 harg1 arg2 harg2 arg3 harg3 arg4 harg4 arg5 harg5 arg6 harg6 arg7 harg7 arg8 harg8 arg9 harg9 arg10 harg10 X3 X4 k.val := by
  rw [pieces10, dif_pos k.isLt]

theorem trips1 : k0_t1_loop.trips = 14 := by decide

/-- The two planes of trip `k` hold every index of its sixteen rows. -/
theorem mem_plane (k : Fin k0_t1_loop.trips) (y : S2x224x2x1024.Idx) (h1 : 16 * k.val ≤ (y 1).val) (h2 : (y 1).val < 16 * k.val + 16) :
    y ∈ (Rect.unit (s := S2x224x2x1024) (k0_off3 k) S1x16x2x1024.size (k0_off3_inb k)).set ∨ y ∈ (Rect.unit (s := S2x224x2x1024) (k0_off2 k) S1x16x2x1024.size (k0_off2_inb k)).set := by
  have hy0 : (y 0).val < 2 := (y 0).isLt
  have hy2 : (y 2).val < 2 := (y 2).isLt
  have hy3 : (y 3).val < 1024 := (y 3).isLt
  rcases Nat.lt_or_ge (y 0).val 1 with h0 | h0
  · right
    rw [Rect.mem_set_unit, k0_off2_eq]
    intro a
    fin_cases a
    · exact ⟨Nat.zero_le _, h0⟩
    · exact ⟨h1, h2⟩
    · exact ⟨Nat.zero_le _, by show (y 2).val < 0 + _; rw [Nat.zero_add]; exact hy2⟩
    · exact ⟨Nat.zero_le _, by show (y 3).val < 0 + _; rw [Nat.zero_add]; exact hy3⟩
  · left
    rw [Rect.mem_set_unit, k0_off3_eq]
    intro a
    fin_cases a
    · exact ⟨h0, hy0⟩
    · exact ⟨h1, h2⟩
    · exact ⟨Nat.zero_le _, by show (y 2).val < 0 + _; rw [Nat.zero_add]; exact hy2⟩
    · exact ⟨Nat.zero_le _, by show (y 3).val < 0 + _; rw [Nat.zero_add]; exact hy3⟩

theorem cover9_aux : ∀ n, n ≤ k0_t1_loop.trips → ∀ y : S2x224x2x1024.Idx, (y 1).val < 16 * n → ∃ p ∈ pieces9 c i arg1 harg1 arg2 harg2 arg3 harg3 arg4 harg4 arg5 harg5 arg6 harg6 arg7 harg7 arg8 harg8 arg9 harg9 arg10 harg10 X3 X4 n, y ∈ p.1.set
  | 0, _, y, h => absurd h (Nat.not_lt_zero _)
  | n + 1, hn, y, h => by
    rw [pieces9_succ c i arg1 harg1 arg2 harg2 arg3 harg3 arg4 harg4 arg5 harg5 arg6 harg6 arg7 harg7 arg8 harg8 arg9 harg9 arg10 harg10 X3 X4 ⟨n, hn⟩]
    rcases Nat.lt_or_ge (y 1).val (16 * n) with hl | hg
    · obtain ⟨p, hp, hy⟩ := cover9_aux n (Nat.le_of_lt hn) y hl
      exact ⟨p, List.mem_append_right _ hp, hy⟩
    · rcases mem_plane ⟨n, hn⟩ y hg (by show _ < 16 * n + 16; omega) with hm | hm
      · exact ⟨_, List.mem_append_left _ List.mem_cons_self, hm⟩
      · exact ⟨_, List.mem_append_left _ (List.mem_cons_of_mem _ List.mem_cons_self), hm⟩

/-- The pieces cover the scratch buffer. -/
theorem cover9 (y : S2x224x2x1024.Idx) : ∃ p ∈ pieces9 c i arg1 harg1 arg2 harg2 arg3 harg3 arg4 harg4 arg5 harg5 arg6 harg6 arg7 harg7 arg8 harg8 arg9 harg9 arg10 harg10 X3 X4 k0_t1_loop.trips, y ∈ p.1.set :=
  cover9_aux c i arg1 harg1 arg2 harg2 arg3 harg3 arg4 harg4 arg5 harg5 arg6 harg6 arg7 harg7 arg8 harg8 arg9 harg9 arg10 harg10 X3 X4 _ le_rfl y (by have := (y 1).isLt; rw [trips1]; exact this)

/-- What the scratch buffer holds after the preparation loop. -/
def scr9 : Vec F S2x224x2x1024 .bf16 := View.canon (pieces9 c i arg1 harg1 arg2 harg2 arg3 harg3 arg4 harg4 arg5 harg5 arg6 harg6 arg7 harg7 arg8 harg8 arg9 harg9 arg10 harg10 X3 X4 k0_t1_loop.trips)

theorem writes_scr9 (f : BufTy.Contents (Elt F) arg9.view.ty) :
    arg9.view.writes (Elt F) f (pieces9 c i arg1 harg1 arg2 harg2 arg3 harg3 arg4 harg4 arg5 harg5 arg6 harg6 arg7 harg7 arg8 harg8 arg9 harg9 arg10 harg10 X3 X4 k0_t1_loop.trips) = harg9.unread (scr9 c i arg1 harg1 arg2 harg2 arg3 harg3 arg4 harg4 arg5 harg5 arg6 harg6 arg7 harg7 arg8 harg8 arg9 harg9 arg10 harg10 X3 X4) :=
  harg9.eq_unread (View.read_writes_eq_canon _ _ _ (cover9 c i arg1 harg1 arg2 harg2 arg3 harg3 arg4 harg4 arg5 harg5 arg6 harg6 arg7 harg7 arg8 harg8 arg9 harg9 arg10 harg10 X3 X4))

theorem cover10_aux : ∀ n, n ≤ k0_t1_loop.trips → ∀ y : S2x224x2x1024.Idx, (y 1).val < 16 * n → ∃ p ∈ pieces10 c i arg1 harg1 arg2 harg2 arg3 harg3 arg4 harg4 arg5 harg5 arg6 harg6 arg7 harg7 arg8 harg8 arg9 harg9 arg10 harg10 X3 X4 n, y ∈ p.1.set
  | 0, _, y, h => absurd h (Nat.not_lt_zero _)
  | n + 1, hn, y, h => by
    rw [pieces10_succ c i arg1 harg1 arg2 harg2 arg3 harg3 arg4 harg4 arg5 harg5 arg6 harg6 arg7 harg7 arg8 harg8 arg9 harg9 arg10 harg10 X3 X4 ⟨n, hn⟩]
    rcases Nat.lt_or_ge (y 1).val (16 * n) with hl | hg
    · obtain ⟨p, hp, hy⟩ := cover10_aux n (Nat.le_of_lt hn) y hl
      exact ⟨p, List.mem_append_right _ hp, hy⟩
    · rcases mem_plane ⟨n, hn⟩ y hg (by show _ < 16 * n + 16; omega) with hm | hm
      · exact ⟨_, List.mem_append_left _ List.mem_cons_self, hm⟩
      · exact ⟨_, List.mem_append_left _ (List.mem_cons_of_mem _ List.mem_cons_self), hm⟩

/-- The pieces cover the scratch buffer. -/
theorem cover10 (y : S2x224x2x1024.Idx) : ∃ p ∈ pieces10 c i arg1 harg1 arg2 harg2 arg3 harg3 arg4 harg4 arg5 harg5 arg6 harg6 arg7 harg7 arg8 harg8 arg9 harg9 arg10 harg10 X3 X4 k0_t1_loop.trips, y ∈ p.1.set :=
  cover10_aux c i arg1 harg1 arg2 harg2 arg3 harg3 arg4 harg4 arg5 harg5 arg6 harg6 arg7 harg7 arg8 harg8 arg9 harg9 arg10 harg10 X3 X4 _ le_rfl y (by have := (y 1).isLt; rw [trips1]; exact this)

/-- What the scratch buffer holds after the preparation loop. -/
def scr10 : Vec F S2x224x2x1024 .bf16 := View.canon (pieces10 c i arg1 harg1 arg2 harg2 arg3 harg3 arg4 harg4 arg5 harg5 arg6 harg6 arg7 harg7 arg8 harg8 arg9 harg9 arg10 harg10 X3 X4 k0_t1_loop.trips)

theorem writes_scr10 (f : BufTy.Contents (Elt F) arg10.view.ty) :
    arg10.view.writes (Elt F) f (pieces10 c i arg1 harg1 arg2 harg2 arg3 harg3 arg4 harg4 arg5 harg5 arg6 harg6 arg7 harg7 arg8 harg8 arg9 harg9 arg10 harg10 X3 X4 k0_t1_loop.trips) = harg10.unread (scr10 c i arg1 harg1 arg2 harg2 arg3 harg3 arg4 harg4 arg5 harg5 arg6 harg6 arg7 harg7 arg8 harg8 arg9 harg9 arg10 harg10 X3 X4) :=
  harg10.eq_unread (View.read_writes_eq_canon _ _ _ (cover10 c i arg1 harg1 arg2 harg2 arg3 harg3 arg4 harg4 arg5 harg5 arg6 harg6 arg7 harg7 arg8 harg8 arg9 harg9 arg10 harg10 X3 X4))

/-- Before trip `n` of the preparation loop: what it reads, and the scratch buffers with the pieces of the trips before. -/
def inv1 (f9 : BufTy.Contents (Elt F) arg9.view.ty) (f10 : BufTy.Contents (Elt F) arg10.view.ty) (n : ℕ) (v : BitVec 32) : sProp 𝕄 :=
  iprop(⌜v = 0#32⌝ ∗ (arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} (arg9.view.writes (Elt F) f9 (pieces9 c i arg1 harg1 arg2 harg2 arg3 harg3 arg4 harg4 arg5 harg5 arg6 harg6 arg7 harg7 arg8 harg8 arg9 harg9 arg10 harg10 X3 X4 n)))
    ∗ (arg10.view.loc (c : Thread nD τ) ↦[arg10.view.set]{fullShare} (arg10.view.writes (Elt F) f10 (pieces10 c i arg1 harg1 arg2 harg2 arg3 harg3 arg4 harg4 arg5 harg5 arg6 harg6 arg7 harg7 arg8 harg8 arg9 harg9 arg10 harg10 X3 X4 n))))

theorem step1 (f9 : BufTy.Contents (Elt F) arg9.view.ty) (f10 : BufTy.Contents (Elt F) arg10.view.ty) (k : Fin k0_t1_loop.trips) (v : BitVec 32) :
    inv1 c i arg1 harg1 arg2 harg2 arg3 harg3 arg4 harg4 arg5 harg5 arg6 harg6 arg7 harg7 arg8 harg8 arg9 harg9 arg10 harg10 X3 X4 f9 f10 k.val v ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 k v) (inv1 c i arg1 harg1 arg2 harg2 arg3 harg3 arg4 harg4 arg5 harg5 arg6 harg6 arg7 harg7 arg8 harg8 arg9 harg9 arg10 harg10 X3 X4 f9 f10 (k.val + 1)) := by
  unfold inv1
  rw [pieces9_succ c i arg1 harg1 arg2 harg2 arg3 harg3 arg4 harg4 arg5 harg5 arg6 harg6 arg7 harg7 arg8 harg8 arg9 harg9 arg10 harg10 X3 X4 k, pieces10_succ c i arg1 harg1 arg2 harg2 arg3 harg3 arg4 harg4 arg5 harg5 arg6 harg6 arg7 harg7 arg8 harg8 arg9 harg9 arg10 harg10 X3 X4 k]
  simp only [View.writes_append]
  iintro ⟨%hv, H3, H4, H9, H10⟩
  iapply ((trip1 c i arg1 harg1 arg2 harg2 arg3 harg3 arg4 harg4 arg5 harg5 arg6 harg6 arg7 harg7 arg8 harg8 arg9 harg9 arg10 harg10 X3 X4 k).2.2.2.2 v _ _)
  isplitl [H3]; · iexact H3
  isplitl [H4]; · iexact H4
  isplitl [H9]; · iexact H9
  iexact H10

end Prep

section Main

variable (X1 : BufTy.Contents (Elt F) arg1.view.ty) (X2 : BufTy.Contents (Elt F) arg2.view.ty) (X5 : BufTy.Contents (Elt F) arg5.view.ty) (X6 : BufTy.Contents (Elt F) arg6.view.ty) (X9 : BufTy.Contents (Elt F) arg9.view.ty) (X10 : BufTy.Contents (Elt F) arg10.view.ty)

/-- The matrix units' state before trip `n` of the window loop of unit 0, entered at `s`. -/
def st3 (k0_t2 : Fin k0_t2_loop.trips) (w : BitVec 32) (s : Mxu F) : ℕ → Mxu F
  | 0 => s
  | n + 1 => if h : n < k0_t3_loop.trips then
      twoPasses 0 (trip3 c i arg1 harg1 arg2 harg2 arg3 harg3 arg4 harg4 arg5 harg5 arg6 harg6 arg7 harg7 arg8 harg8 arg9 harg9 arg10 harg10 X1 X2 X5 X6 X9 X10 k0_t2 w ⟨n, h⟩).1 (trip3 c i arg1 harg1 arg2 harg2 arg3 harg3 arg4 harg4 arg5 harg5 arg6 harg6 arg7 harg7 arg8 harg8 arg9 harg9 arg10 harg10 X1 X2 X5 X6 X9 X10 k0_t2 w ⟨n, h⟩).2.1
        (trip3 c i arg1 harg1 arg2 harg2 arg3 harg3 arg4 harg4 arg5 harg5 arg6 harg6 arg7 harg7 arg8 harg8 arg9 harg9 arg10 harg10 X1 X2 X5 X6 X9 X10 k0_t2 w ⟨n, h⟩).2.2.1 (trip3 c i arg1 harg1 arg2 harg2 arg3 harg3 arg4 harg4 arg5 harg5 arg6 harg6 arg7 harg7 arg8 harg8 arg9 harg9 arg10 harg10 X1 X2 X5 X6 X9 X10 k0_t2 w ⟨n, h⟩).2.2.2.1 (st3 k0_t2 w s n)
    else st3 k0_t2 w s n

theorem st3_succ (k0_t2 : Fin k0_t2_loop.trips) (w : BitVec 32) (s : Mxu F) (k : Fin k0_t3_loop.trips) :
    st3 c i arg1 harg1 arg2 harg2 arg3 harg3 arg4 harg4 arg5 harg5 arg6 harg6 arg7 harg7 arg8 harg8 arg9 harg9 arg10 harg10 X1 X2 X5 X6 X9 X10 k0_t2 w s (k.val + 1) =
      twoPasses 0 (trip3 c i arg1 harg1 arg2 harg2 arg3 harg3 arg4 harg4 arg5 harg5 arg6 harg6 arg7 harg7 arg8 harg8 arg9 harg9 arg10 harg10 X1 X2 X5 X6 X9 X10 k0_t2 w k).1 (trip3 c i arg1 harg1 arg2 harg2 arg3 harg3 arg4 harg4 arg5 harg5 arg6 harg6 arg7 harg7 arg8 harg8 arg9 harg9 arg10 harg10 X1 X2 X5 X6 X9 X10 k0_t2 w k).2.1
        (trip3 c i arg1 harg1 arg2 harg2 arg3 harg3 arg4 harg4 arg5 harg5 arg6 harg6 arg7 harg7 arg8 harg8 arg9 harg9 arg10 harg10 X1 X2 X5 X6 X9 X10 k0_t2 w k).2.2.1 (trip3 c i arg1 harg1 arg2 harg2 arg3 harg3 arg4 harg4 arg5 harg5 arg6 harg6 arg7 harg7 arg8 harg8 arg9 harg9 arg10 harg10 X1 X2 X5 X6 X9 X10 k0_t2 w k).2.2.2.1 (st3 c i arg1 harg1 arg2 harg2 arg3 harg3 arg4 harg4 arg5 harg5 arg6 harg6 arg7 harg7 arg8 harg8 arg9 harg9 arg10 harg10 X1 X2 X5 X6 X9 X10 k0_t2 w s k.val) := by
  rw [st3, dif_pos k.isLt]

theorem parked_st3 (k0_t2 : Fin k0_t2_loop.trips) (w : BitVec 32) (s : Mxu F) (h : Parked 0 s) : ∀ n, Parked 0 (st3 c i arg1 harg1 arg2 harg2 arg3 harg3 arg4 harg4 arg5 harg5 arg6 harg6 arg7 harg7 arg8 harg8 arg9 harg9 arg10 harg10 X1 X2 X5 X6 X9 X10 k0_t2 w s n)
  | 0 => h
  | n + 1 => by
    rw [st3]
    split
    · exact parked_twoPasses _ _ _ _ _ _ (parked_st3 k0_t2 w s h n)
    · exact parked_st3 k0_t2 w s h n

/-- Before trip `n` of the window loop of unit 0: the state, and what the loop reads. -/
def inv3 (k0_t2 : Fin k0_t2_loop.trips) (w : BitVec 32) (s : Mxu F) (n : ℕ) (acc : BitVec 32 × Mxu F) : sProp 𝕄 :=
  iprop(⌜acc = (0#32, st3 c i arg1 harg1 arg2 harg2 arg3 harg3 arg4 harg4 arg5 harg5 arg6 harg6 arg7 harg7 arg8 harg8 arg9 harg9 arg10 harg10 X1 X2 X5 X6 X9 X10 k0_t2 w s n)⌝ ∗ Held3 c arg1 arg2 arg5 arg6 arg9 arg10 X1 X2 X5 X6 X9 X10)

theorem step3 (k0_t2 : Fin k0_t2_loop.trips) (w : BitVec 32) (s : Mxu F) (hs : Parked 0 s) (k : Fin k0_t3_loop.trips) (acc : BitVec 32 × Mxu F) :
    inv3 c i arg1 harg1 arg2 harg2 arg3 harg3 arg4 harg4 arg5 harg5 arg6 harg6 arg7 harg7 arg8 harg8 arg9 harg9 arg10 harg10 X1 X2 X5 X6 X9 X10 k0_t2 w s k.val acc ⊢ wp frame (wpE (defs₀ (F := F)) Variants.none (c : Thread nD τ) none) Set.univ (k0_t3_body (F := F) i arg1 harg1 arg2 harg2 arg3 harg3 arg4 harg4 arg5 harg5 arg6 harg6 arg7 harg7 arg8 harg8 arg9 harg9 arg10 harg10 k0_t2 w k acc) (inv3 c i arg1 harg1 arg2 harg2 arg3 harg3 arg4 harg4 arg5 harg5 arg6 harg6 arg7 harg7 arg8 harg8 arg9 harg9 arg10 harg10 X1 X2 X5 X6 X9 X10 k0_t2 w s (k.val + 1)) := by
  unfold inv3
  rw [st3_succ c i arg1 harg1 arg2 harg2 arg3 harg3 arg4 harg4 arg5 harg5 arg6 harg6 arg7 harg7 arg8 harg8 arg9 harg9 arg10 harg10 X1 X2 X5 X6 X9 X10 k0_t2 w s k]
  iintro ⟨%hv, H⟩
  subst hv
  iapply ((trip3 c i arg1 harg1 arg2 harg2 arg3 harg3 arg4 harg4 arg5 harg5 arg6 harg6 arg7 harg7 arg8 harg8 arg9 harg9 arg10 harg10 X1 X2 X5 X6 X9 X10 k0_t2 w k).2.2.2.2 (0#32) (st3 c i arg1 harg1 arg2 harg2 arg3 harg3 arg4 harg4 arg5 harg5 arg6 harg6 arg7 harg7 arg8 harg8 arg9 harg9 arg10 harg10 X1 X2 X5 X6 X9 X10 k0_t2 w s k.val) ((parked_st3 c i arg1 harg1 arg2 harg2 arg3 harg3 arg4 harg4 arg5 harg5 arg6 harg6 arg7 harg7 arg8 harg8 arg9 harg9 arg10 harg10 X1 X2 X5 X6 X9 X10 k0_t2 w s hs k.val).1 0 0) ((parked_st3 c i arg1 harg1 arg2 harg2 arg3 harg3 arg4 harg4 arg5 harg5 arg6 harg6 arg7 harg7 arg8 harg8 arg9 harg9 arg10 harg10 X1 X2 X5 X6 X9 X10 k0_t2 w s hs k.val).1 0 1))
  iexact H

/-- The matrix units' state before trip `n` of the window loop of unit 1, entered at `s`. -/
def st4 (k0_t2 : Fin k0_t2_loop.trips) (w : BitVec 32) (s : Mxu F) : ℕ → Mxu F
  | 0 => s
  | n + 1 => if h : n < k0_t4_loop.trips then
      twoPasses 1 (trip4 c i arg1 harg1 arg2 harg2 arg3 harg3 arg4 harg4 arg5 harg5 arg6 harg6 arg7 harg7 arg8 harg8 arg9 harg9 arg10 harg10 X1 X2 X5 X6 X9 X10 k0_t2 w ⟨n, h⟩).1 (trip4 c i arg1 harg1 arg2 harg2 arg3 harg3 arg4 harg4 arg5 harg5 arg6 harg6 arg7 harg7 arg8 harg8 arg9 harg9 arg10 harg10 X1 X2 X5 X6 X9 X10 k0_t2 w ⟨n, h⟩).2.1
        (trip4 c i arg1 harg1 arg2 harg2 arg3 harg3 arg4 harg4 arg5 harg5 arg6 harg6 arg7 harg7 arg8 harg8 arg9 harg9 arg10 harg10 X1 X2 X5 X6 X9 X10 k0_t2 w ⟨n, h⟩).2.2.1 (trip4 c i arg1 harg1 arg2 harg2 arg3 harg3 arg4 harg4 arg5 harg5 arg6 harg6 arg7 harg7 arg8 harg8 arg9 harg9 arg10 harg10 X1 X2 X5 X6 X9 X10 k0_t2 w ⟨n, h⟩).2.2.2.1 (st4 k0_t2 w s n)
    else st4 k0_t2 w s n

theorem st4_succ (k0_t2 : Fin k0_t2_loop.trips) (w : BitVec 32) (s : Mxu F) (k : Fin k0_t4_loop.trips) :
    st4 c i arg1 harg1 arg2 harg2 arg3 harg3 arg4 harg4 arg5 harg5 arg6 harg6 arg7 harg7 arg8 harg8 arg9 harg9 arg10 harg10 X1 X2 X5 X6 X9 X10 k0_t2 w s (k.val + 1) =
      twoPasses 1 (trip4 c i arg1 harg1 arg2 harg2 arg3 harg3 arg4 harg4 arg5 harg5 arg6 harg6 arg7 harg7 arg8 harg8 arg9 harg9 arg10 harg10 X1 X2 X5 X6 X9 X10 k0_t2 w k).1 (trip4 c i arg1 harg1 arg2 harg2 arg3 harg3 arg4 harg4 arg5 harg5 arg6 harg6 arg7 harg7 arg8 harg8 arg9 harg9 arg10 harg10 X1 X2 X5 X6 X9 X10 k0_t2 w k).2.1
        (trip4 c i arg1 harg1 arg2 harg2 arg3 harg3 arg4 harg4 arg5 harg5 arg6 harg6 arg7 harg7 arg8 harg8 arg9 harg9 arg10 harg10 X1 X2 X5 X6 X9 X10 k0_t2 w k).2.2.1 (trip4 c i arg1 harg1 arg2 harg2 arg3 harg3 arg4 harg4 arg5 harg5 arg6 harg6 arg7 harg7 arg8 harg8 arg9 harg9 arg10 harg10 X1 X2 X5 X6 X9 X10 k0_t2 w k).2.2.2.1 (st4 c i arg1 harg1 arg2 harg2 arg3 harg3 arg4 harg4 arg5 harg5 arg6 harg6 arg7 harg7 arg8 harg8 arg9 harg9 arg10 harg10 X1 X2 X5 X6 X9 X10 k0_t2 w s k.val) := by
  rw [st4, dif_pos k.isLt]

theorem parked_st4 (k0_t2 : Fin k0_t2_loop.trips) (w : BitVec 32) (s : Mxu F) (h : Parked 1 s) : ∀ n, Parked 1 (st4 c i arg1 harg1 arg2 harg2 arg3 harg3 arg4 harg4 arg5 harg5 arg6 harg6 arg7 harg7 arg8 harg8 arg9 harg9 arg10 harg10 X1 X2 X5 X6 X9 X10 k0_t2 w s n)
  | 0 => h
  | n + 1 => by
    rw [st4]
    split
    · exact parked_twoPasses _ _ _ _ _ _ (parked_st4 k0_t2 w s h n)
    · exact parked_st4 k0_t2 w s h n

/-- Before trip `n` of the window loop of unit 1: the state, and what the loop reads. -/
def inv4 (k0_t2 : Fin k0_t2_loop.trips) (w : BitVec 32) (s : Mxu F) (n : ℕ) (acc : BitVec 32 × Mxu F) : sProp 𝕄 :=
  iprop(⌜acc = (0#32, st4 c i arg1 harg1 arg2 harg2 arg3 harg3 arg4 harg4 arg5 harg5 arg6 harg6 arg7 harg7 arg8 harg8 arg9 harg9 arg10 harg10 X1 X2 X5 X6 X9 X10 k0_t2 w s n)⌝ ∗ Held4 c arg1 arg2 arg5 arg6 arg9 arg10 X1 X2 X5 X6 X9 X10)

theorem step4 (k0_t2 : Fin k0_t2_loop.trips) (w : BitVec 32) (s : Mxu F) (hs : Parked 1 s) (k : Fin k0_t4_loop.trips) (acc : BitVec 32 × Mxu F) :
    inv4 c i arg1 harg1 arg2 harg2 arg3 harg3 arg4 harg4 arg5 harg5 arg6 harg6 arg7 harg7 arg8 harg8 arg9 harg9 arg10 harg10 X1 X2 X5 X6 X9 X10 k0_t2 w s k.val acc ⊢ wp frame (wpE (defs₀ (F := F)) Variants.none (c : Thread nD τ) none) Set.univ (k0_t4_body (F := F) i arg1 harg1 arg2 harg2 arg3 harg3 arg4 harg4 arg5 harg5 arg6 harg6 arg7 harg7 arg8 harg8 arg9 harg9 arg10 harg10 k0_t2 w k acc) (inv4 c i arg1 harg1 arg2 harg2 arg3 harg3 arg4 harg4 arg5 harg5 arg6 harg6 arg7 harg7 arg8 harg8 arg9 harg9 arg10 harg10 X1 X2 X5 X6 X9 X10 k0_t2 w s (k.val + 1)) := by
  unfold inv4
  rw [st4_succ c i arg1 harg1 arg2 harg2 arg3 harg3 arg4 harg4 arg5 harg5 arg6 harg6 arg7 harg7 arg8 harg8 arg9 harg9 arg10 harg10 X1 X2 X5 X6 X9 X10 k0_t2 w s k]
  iintro ⟨%hv, H⟩
  subst hv
  iapply ((trip4 c i arg1 harg1 arg2 harg2 arg3 harg3 arg4 harg4 arg5 harg5 arg6 harg6 arg7 harg7 arg8 harg8 arg9 harg9 arg10 harg10 X1 X2 X5 X6 X9 X10 k0_t2 w k).2.2.2.2 (0#32) (st4 c i arg1 harg1 arg2 harg2 arg3 harg3 arg4 harg4 arg5 harg5 arg6 harg6 arg7 harg7 arg8 harg8 arg9 harg9 arg10 harg10 X1 X2 X5 X6 X9 X10 k0_t2 w s k.val) ((parked_st4 c i arg1 harg1 arg2 harg2 arg3 harg3 arg4 harg4 arg5 harg5 arg6 harg6 arg7 harg7 arg8 harg8 arg9 harg9 arg10 harg10 X1 X2 X5 X6 X9 X10 k0_t2 w s hs k.val).1 1 0) ((parked_st4 c i arg1 harg1 arg2 harg2 arg3 harg3 arg4 harg4 arg5 harg5 arg6 harg6 arg7 harg7 arg8 harg8 arg9 harg9 arg10 harg10 X1 X2 X5 X6 X9 X10 k0_t2 w s hs k.val).1 1 1))
  iexact H

/-- The state after the window loop of unit 0 in outer trip `k0_t2` entered at `s`, -/
def unit0 (k0_t2 : Fin k0_t2_loop.trips) (s : Mxu F) : Mxu F :=
  st3 c i arg1 harg1 arg2 harg2 arg3 harg3 arg4 harg4 arg5 harg5 arg6 harg6 arg7 harg7 arg8 harg8 arg9 harg9 arg10 harg10 X1 X2 X5 X6 X9 X10 k0_t2 (Scalar.addi (Scalar.muli 2#32 (Scf.iv 0#32 1#32 k0_t2)) 0#32) s k0_t3_loop.trips
/-- and after the window loop of unit 1, entered with unit 0 popped. -/
def unit1 (k0_t2 : Fin k0_t2_loop.trips) (s : Mxu F) : Mxu F :=
  st4 c i arg1 harg1 arg2 harg2 arg3 harg3 arg4 harg4 arg5 harg5 arg6 harg6 arg7 harg7 arg8 harg8 arg9 harg9 arg10 harg10 X1 X2 X5 X6 X9 X10 k0_t2 (Scalar.addi (Scalar.muli 2#32 (Scf.iv 0#32 1#32 k0_t2)) 1#32) ((unit0 c i arg1 harg1 arg2 harg2 arg3 harg3 arg4 harg4 arg5 harg5 arg6 harg6 arg7 harg7 arg8 harg8 arg9 harg9 arg10 harg10 X1 X2 X5 X6 X9 X10 k0_t2 s).pop 0 0 128 fits_0_128) k0_t4_loop.trips

theorem drained0 (k0_t2 : Fin k0_t2_loop.trips) (s : Mxu F) (h : s.Drained) : ((unit0 c i arg1 harg1 arg2 harg2 arg3 harg3 arg4 harg4 arg5 harg5 arg6 harg6 arg7 harg7 arg8 harg8 arg9 harg9 arg10 harg10 X1 X2 X5 X6 X9 X10 k0_t2 s).pop 0 0 128 fits_0_128).Drained :=
  drained_pop (parked_st3 c i arg1 harg1 arg2 harg2 arg3 harg3 arg4 harg4 arg5 harg5 arg6 harg6 arg7 harg7 arg8 harg8 arg9 harg9 arg10 harg10 X1 X2 X5 X6 X9 X10 k0_t2 _ s (parked_of_drained 0 h) _) _
theorem drained1 (k0_t2 : Fin k0_t2_loop.trips) (s : Mxu F) (h : s.Drained) : ((unit1 c i arg1 harg1 arg2 harg2 arg3 harg3 arg4 harg4 arg5 harg5 arg6 harg6 arg7 harg7 arg8 harg8 arg9 harg9 arg10 harg10 X1 X2 X5 X6 X9 X10 k0_t2 s).pop 1 0 128 fits_0_128).Drained :=
  drained_pop (parked_st4 c i arg1 harg1 arg2 harg2 arg3 harg3 arg4 harg4 arg5 harg5 arg6 harg6 arg7 harg7 arg8 harg8 arg9 harg9 arg10 harg10 X1 X2 X5 X6 X9 X10 k0_t2 _ _ (parked_of_drained 1 (drained0 c i arg1 harg1 arg2 harg2 arg3 harg3 arg4 harg4 arg5 harg5 arg6 harg6 arg7 harg7 arg8 harg8 arg9 harg9 arg10 harg10 X1 X2 X5 X6 X9 X10 k0_t2 s h)) _) _

/-- The state before outer trip `n`. -/
def stOuter : ℕ → Mxu F
  | 0 => Mxu.init
  | n + 1 => if h : n < k0_t2_loop.trips then (unit1 c i arg1 harg1 arg2 harg2 arg3 harg3 arg4 harg4 arg5 harg5 arg6 harg6 arg7 harg7 arg8 harg8 arg9 harg9 arg10 harg10 X1 X2 X5 X6 X9 X10 ⟨n, h⟩ (stOuter n)).pop 1 0 128 fits_0_128 else stOuter n

theorem stOuter_succ (k : Fin k0_t2_loop.trips) : stOuter c i arg1 harg1 arg2 harg2 arg3 harg3 arg4 harg4 arg5 harg5 arg6 harg6 arg7 harg7 arg8 harg8 arg9 harg9 arg10 harg10 X1 X2 X5 X6 X9 X10 (k.val + 1) = (unit1 c i arg1 harg1 arg2 harg2 arg3 harg3 arg4 harg4 arg5 harg5 arg6 harg6 arg7 harg7 arg8 harg8 arg9 harg9 arg10 harg10 X1 X2 X5 X6 X9 X10 k (stOuter c i arg1 harg1 arg2 harg2 arg3 harg3 arg4 harg4 arg5 harg5 arg6 harg6 arg7 harg7 arg8 harg8 arg9 harg9 arg10 harg10 X1 X2 X5 X6 X9 X10 k.val)).pop 1 0 128 fits_0_128 := by
  rw [stOuter, dif_pos k.isLt]

theorem drained_stOuter : ∀ n, (stOuter c i arg1 harg1 arg2 harg2 arg3 harg3 arg4 harg4 arg5 harg5 arg6 harg6 arg7 harg7 arg8 harg8 arg9 harg9 arg10 harg10 X1 X2 X5 X6 X9 X10 n).Drained
  | 0 => Mxu.init_drained
  | n + 1 => by
    rw [stOuter]
    split
    · exact drained1 c i arg1 harg1 arg2 harg2 arg3 harg3 arg4 harg4 arg5 harg5 arg6 harg6 arg7 harg7 arg8 harg8 arg9 harg9 arg10 harg10 X1 X2 X5 X6 X9 X10 _ _ (drained_stOuter n)
    · exact drained_stOuter n

variable (X7 : BufTy.Contents (Elt F) arg7.view.ty)

/-- The two stores of outer trip `k0_t2` entered at `s`, last first. -/
def stores (k0_t2 : Fin k0_t2_loop.trips) (s : Mxu F) : List (View.Piece (Elt F) S128x1024 .bf16) :=
  [⟨Rect.unit (s := S128x1024) (k0_off16 k0_t2 1#32) S128x256.size (k0_off16_inb k0_t2 1),
      k0_pay8 ((unit1 c i arg1 harg1 arg2 harg2 arg3 harg3 arg4 harg4 arg5 harg5 arg6 harg6 arg7 harg7 arg8 harg8 arg9 harg9 arg10 harg10 X1 X2 X5 X6 X9 X10 k0_t2 s).read 1 0 fits_0_128)
        (arg7.view.readAt (Elt F) (Rect.unit (s := S1024x128) (k0_off15 k0_t2 1#32) S256x128.size (k0_off15_inb k0_t2 1)).toLoadRect X7)⟩,
    ⟨Rect.unit (s := S128x1024) (k0_off16 k0_t2 0#32) S128x256.size (k0_off16_inb k0_t2 0),
      k0_pay5 ((unit0 c i arg1 harg1 arg2 harg2 arg3 harg3 arg4 harg4 arg5 harg5 arg6 harg6 arg7 harg7 arg8 harg8 arg9 harg9 arg10 harg10 X1 X2 X5 X6 X9 X10 k0_t2 s).read 0 0 fits_0_128)
        (arg7.view.readAt (Elt F) (Rect.unit (s := S1024x128) (k0_off15 k0_t2 0#32) S256x128.size (k0_off15_inb k0_t2 0)).toLoadRect X7)⟩]

/-- What the outer loop has stored before trip `n`, last store first. -/
def pieces8 : ℕ → List (View.Piece (Elt F) S128x1024 .bf16)
  | 0 => []
  | n + 1 => (if h : n < k0_t2_loop.trips then stores c i arg1 harg1 arg2 harg2 arg3 harg3 arg4 harg4 arg5 harg5 arg6 harg6 arg7 harg7 arg8 harg8 arg9 harg9 arg10 harg10 X1 X2 X5 X6 X9 X10 X7 ⟨n, h⟩ (stOuter c i arg1 harg1 arg2 harg2 arg3 harg3 arg4 harg4 arg5 harg5 arg6 harg6 arg7 harg7 arg8 harg8 arg9 harg9 arg10 harg10 X1 X2 X5 X6 X9 X10 n) else []) ++ pieces8 n

theorem pieces8_succ (k : Fin k0_t2_loop.trips) : pieces8 c i arg1 harg1 arg2 harg2 arg3 harg3 arg4 harg4 arg5 harg5 arg6 harg6 arg7 harg7 arg8 harg8 arg9 harg9 arg10 harg10 X1 X2 X5 X6 X9 X10 X7 (k.val + 1) = stores c i arg1 harg1 arg2 harg2 arg3 harg3 arg4 harg4 arg5 harg5 arg6 harg6 arg7 harg7 arg8 harg8 arg9 harg9 arg10 harg10 X1 X2 X5 X6 X9 X10 X7 k (stOuter c i arg1 harg1 arg2 harg2 arg3 harg3 arg4 harg4 arg5 harg5 arg6 harg6 arg7 harg7 arg8 harg8 arg9 harg9 arg10 harg10 X1 X2 X5 X6 X9 X10 k.val) ++ pieces8 c i arg1 harg1 arg2 harg2 arg3 harg3 arg4 harg4 arg5 harg5 arg6 harg6 arg7 harg7 arg8 harg8 arg9 harg9 arg10 harg10 X1 X2 X5 X6 X9 X10 X7 k.val := by
  rw [pieces8, dif_pos k.isLt]

theorem trips2 : k0_t2_loop.trips = 2 := by decide

theorem cover8_aux : ∀ n, n ≤ k0_t2_loop.trips → ∀ y : S128x1024.Idx, (y 1).val < 512 * n → ∃ p ∈ pieces8 c i arg1 harg1 arg2 harg2 arg3 harg3 arg4 harg4 arg5 harg5 arg6 harg6 arg7 harg7 arg8 harg8 arg9 harg9 arg10 harg10 X1 X2 X5 X6 X9 X10 X7 n, y ∈ p.1.set
  | 0, _, y, h => absurd h (Nat.not_lt_zero _)
  | n + 1, hn, y, h => by
    rw [pieces8_succ c i arg1 harg1 arg2 harg2 arg3 harg3 arg4 harg4 arg5 harg5 arg6 harg6 arg7 harg7 arg8 harg8 arg9 harg9 arg10 harg10 X1 X2 X5 X6 X9 X10 X7 ⟨n, hn⟩]
    have hy0 : (y 0).val < 128 := (y 0).isLt
    rcases Nat.lt_or_ge (y 1).val (512 * n) with hl | hg
    · obtain ⟨p, hp, hy⟩ := cover8_aux n (Nat.le_of_lt hn) y hl
      exact ⟨p, List.mem_append_right _ hp, hy⟩
    rcases Nat.lt_or_ge (y 1).val (512 * n + 256) with hm | hm
    · refine ⟨_, List.mem_append_left _ (List.mem_cons_of_mem _ List.mem_cons_self), ?_⟩
      show y ∈ (Rect.unit (s := S128x1024) (k0_off16 ⟨n, hn⟩ (BitVec.ofNat 32 (0 : Fin 2).val)) S128x256.size (k0_off16_inb ⟨n, hn⟩ 0)).set
      rw [Rect.mem_set_unit, k0_off16_eq]
      intro a
      fin_cases a
      · exact ⟨Nat.zero_le _, by show (y 0).val < 0 + _; rw [Nat.zero_add]; exact hy0⟩
      · exact ⟨by show 512 * n + 256 * 0 ≤ (y 1).val; omega, by show (y 1).val < 512 * n + 256 * 0 + 256; omega⟩
    · refine ⟨_, List.mem_append_left _ List.mem_cons_self, ?_⟩
      show y ∈ (Rect.unit (s := S128x1024) (k0_off16 ⟨n, hn⟩ (BitVec.ofNat 32 (1 : Fin 2).val)) S128x256.size (k0_off16_inb ⟨n, hn⟩ 1)).set
      rw [Rect.mem_set_unit, k0_off16_eq]
      intro a
      fin_cases a
      · exact ⟨Nat.zero_le _, by show (y 0).val < 0 + _; rw [Nat.zero_add]; exact hy0⟩
      · exact ⟨by show 512 * n + 256 * 1 ≤ (y 1).val; omega, by show (y 1).val < 512 * n + 256 * 1 + 256; omega⟩

theorem cover8 (y : S128x1024.Idx) : ∃ p ∈ pieces8 c i arg1 harg1 arg2 harg2 arg3 harg3 arg4 harg4 arg5 harg5 arg6 harg6 arg7 harg7 arg8 harg8 arg9 harg9 arg10 harg10 X1 X2 X5 X6 X9 X10 X7 k0_t2_loop.trips, y ∈ p.1.set :=
  cover8_aux c i arg1 harg1 arg2 harg2 arg3 harg3 arg4 harg4 arg5 harg5 arg6 harg6 arg7 harg7 arg8 harg8 arg9 harg9 arg10 harg10 X1 X2 X5 X6 X9 X10 X7 _ le_rfl y (by have := (y 1).isLt; rw [trips2]; exact this)

/-- Before outer trip `n`: the state, what the trips read, and the output block with the stores of the trips before. -/
def inv2 (f8 : BufTy.Contents (Elt F) arg8.view.ty) (n : ℕ) (acc : BitVec 32 × Mxu F) : sProp 𝕄 :=
  iprop(⌜acc = (0#32, stOuter c i arg1 harg1 arg2 harg2 arg3 harg3 arg4 harg4 arg5 harg5 arg6 harg6 arg7 harg7 arg8 harg8 arg9 harg9 arg10 harg10 X1 X2 X5 X6 X9 X10 n)⌝ ∗ Held3 c arg1 arg2 arg5 arg6 arg9 arg10 X1 X2 X5 X6 X9 X10 ∗ (arg7.view.loc (c : Thread nD τ) ↦[arg7.view.set]{fullShare} X7)
    ∗ (arg8.view.loc (c : Thread nD τ) ↦[arg8.view.set]{fullShare} (arg8.view.writes (Elt F) f8 (pieces8 c i arg1 harg1 arg2 harg2 arg3 harg3 arg4 harg4 arg5 harg5 arg6 harg6 arg7 harg7 arg8 harg8 arg9 harg9 arg10 harg10 X1 X2 X5 X6 X9 X10 X7 n))))

theorem step2 (f8 : BufTy.Contents (Elt F) arg8.view.ty) (k : Fin k0_t2_loop.trips) (acc : BitVec 32 × Mxu F) :
    inv2 c i arg1 harg1 arg2 harg2 arg3 harg3 arg4 harg4 arg5 harg5 arg6 harg6 arg7 harg7 arg8 harg8 arg9 harg9 arg10 harg10 X1 X2 X5 X6 X9 X10 X7 f8 k.val acc ⊢ wp frame (wpE (defs₀ (F := F)) Variants.none (c : Thread nD τ) none) Set.univ (k0_t2_body (F := F) i arg1 harg1 arg2 harg2 arg3 harg3 arg4 harg4 arg5 harg5 arg6 harg6 arg7 harg7 arg8 harg8 arg9 harg9 arg10 harg10 k acc) (inv2 c i arg1 harg1 arg2 harg2 arg3 harg3 arg4 harg4 arg5 harg5 arg6 harg6 arg7 harg7 arg8 harg8 arg9 harg9 arg10 harg10 X1 X2 X5 X6 X9 X10 X7 f8 (k.val + 1)) := by
  unfold inv2
  rw [pieces8_succ c i arg1 harg1 arg2 harg2 arg3 harg3 arg4 harg4 arg5 harg5 arg6 harg6 arg7 harg7 arg8 harg8 arg9 harg9 arg10 harg10 X1 X2 X5 X6 X9 X10 X7 k, stOuter_succ c i arg1 harg1 arg2 harg2 arg3 harg3 arg4 harg4 arg5 harg5 arg6 harg6 arg7 harg7 arg8 harg8 arg9 harg9 arg10 harg10 X1 X2 X5 X6 X9 X10 k]
  simp only [View.writes_append]
  have hd := drained_stOuter c i arg1 harg1 arg2 harg2 arg3 harg3 arg4 harg4 arg5 harg5 arg6 harg6 arg7 harg7 arg8 harg8 arg9 harg9 arg10 harg10 X1 X2 X5 X6 X9 X10 k.val
  generalize stOuter c i arg1 harg1 arg2 harg2 arg3 harg3 arg4 harg4 arg5 harg5 arg6 harg6 arg7 harg7 arg8 harg8 arg9 harg9 arg10 harg10 X1 X2 X5 X6 X9 X10 k.val = s at hd ⊢
  generalize arg8.view.writes (Elt F) f8 (pieces8 c i arg1 harg1 arg2 harg2 arg3 harg3 arg4 harg4 arg5 harg5 arg6 harg6 arg7 harg7 arg8 harg8 arg9 harg9 arg10 harg10 X1 X2 X5 X6 X9 X10 X7 k.val) = g8
  iintro ⟨%hv, H, H7, H8⟩
  subst hv
  unfold k0_t2_body
  dsimp only
  sl_for (inv3 c i arg1 harg1 arg2 harg2 arg3 harg3 arg4 harg4 arg5 harg5 arg6 harg6 arg7 harg7 arg8 harg8 arg9 harg9 arg10 harg10 X1 X2 X5 X6 X9 X10 k (Scalar.addi (Scalar.muli 2#32 (Scf.iv 0#32 1#32 k)) 0#32) s) $$ [H]
  case region => exact step3 c i arg1 harg1 arg2 harg2 arg3 harg3 arg4 harg4 arg5 harg5 arg6 harg6 arg7 harg7 arg8 harg8 arg9 harg9 arg10 harg10 X1 X2 X5 X6 X9 X10 k _ s (parked_of_drained 0 hd)
  · unfold inv3
    isplitr; · ipureintro; rfl
    iexact H
  iintro %acc HI
  unfold inv3
  icases HI with ⟨%ha, H⟩
  subst ha
  sl_exec
  sl_for (inv4 c i arg1 harg1 arg2 harg2 arg3 harg3 arg4 harg4 arg5 harg5 arg6 harg6 arg7 harg7 arg8 harg8 arg9 harg9 arg10 harg10 X1 X2 X5 X6 X9 X10 k (Scalar.addi (Scalar.muli 2#32 (Scf.iv 0#32 1#32 k)) 1#32) ((unit0 c i arg1 harg1 arg2 harg2 arg3 harg3 arg4 harg4 arg5 harg5 arg6 harg6 arg7 harg7 arg8 harg8 arg9 harg9 arg10 harg10 X1 X2 X5 X6 X9 X10 k s).pop 0 0 128 fits_0_128)) $$ [H]
  case region => exact step4 c i arg1 harg1 arg2 harg2 arg3 harg3 arg4 harg4 arg5 harg5 arg6 harg6 arg7 harg7 arg8 harg8 arg9 harg9 arg10 harg10 X1 X2 X5 X6 X9 X10 k _ _ (parked_of_drained 1 (drained0 c i arg1 harg1 arg2 harg2 arg3 harg3 arg4 harg4 arg5 harg5 arg6 harg6 arg7 harg7 arg8 harg8 arg9 harg9 arg10 harg10 X1 X2 X5 X6 X9 X10 k s hd))
  · unfold inv4
    isplitr; · ipureintro; rfl
    iexact H
  iintro %acc HI
  unfold inv4
  icases HI with ⟨%ha, H⟩
  subst ha
  sl_exec
  sl_step
  isplitr; · ipureintro; rfl
  isplitl [H]; · iexact H
  isplitl [H7]; · iexact H7
  iexact H8

end Main

/-! ## The body -/

section Body

variable (x1 : Vec F S128x7168 .bf16) (x2 : Vec F S3584x1024 .i8) (x3 : Vec F S448x1024 .bf16) (x4 : Vec F S448x1024 .i8) (x5 : Vec F S1792x128 .i32) (x6 : Vec F S896x128 .i32) (x7 : Vec F S1024x128 .f32)

/-- The output block the body leaves, from the blocks of its inputs. -/
def out8 : Vec F S128x1024 .bf16 :=
  View.canon (pieces8 c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 c i arg1 harg1 arg2 harg2 arg3 harg3 arg4 harg4 arg5 harg5 arg6 harg6 arg7 harg7 arg8 harg8 arg9 harg9 arg10 harg10 (harg3.unread x3) (harg4.unread x4))) (harg10.unread (scr10 c i arg1 harg1 arg2 harg2 arg3 harg3 arg4 harg4 arg5 harg5 arg6 harg6 arg7 harg7 arg8 harg8 arg9 harg9 arg10 harg10 (harg3.unread x3) (harg4.unread x4))) (harg7.unread x7) k0_t2_loop.trips)

/-- The body on whole memrefs: the inputs stay as they were, the output is left at `out8`. -/
theorem sound_kernel (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out8 c i arg1 harg1 arg2 harg2 arg3 harg3 arg4 harg4 arg5 harg5 arg6 harg6 arg7 harg7 arg8 harg8 arg9 harg9 arg10 harg10 x1 x2 x3 x4 x5 x6 x7) ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) Set.univ (cc0_dequant_matmul (F := F) i arg1 harg1 arg2 harg2 arg3 harg3 arg4 harg4 arg5 harg5 arg6 harg6 arg7 harg7 arg8 harg8 arg9 harg9 arg10 harg10) K := by
  simp only [cc0_dequant_matmul_eq_skeleton]; unfold cc0_dequant_matmul_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  dsimp only
  sl_for (inv1 c i arg1 harg1 arg2 harg2 arg3 harg3 arg4 harg4 arg5 harg5 arg6 harg6 arg7 harg7 arg8 harg8 arg9 harg9 arg10 harg10 (harg3.unread x3) (harg4.unread x4) f9 f10) $$ [H3 H4 H9 H10]
  case region => exact step1 c i arg1 harg1 arg2 harg2 arg3 harg3 arg4 harg4 arg5 harg5 arg6 harg6 arg7 harg7 arg8 harg8 arg9 harg9 arg10 harg10 (harg3.unread x3) (harg4.unread x4) f9 f10
  · unfold inv1
    isplitr; · ipureintro; rfl
    isplitl [H3]; · iexact H3
    isplitl [H4]; · iexact H4
    isplitl [H9]; · iexact H9
    iexact H10
  iintro %v HI
  unfold inv1
  icases HI with ⟨%hv, H3, H4, H9, H10⟩
  subst hv
  rw [writes_scr9 c i arg1 harg1 arg2 harg2 arg3 harg3 arg4 harg4 arg5 harg5 arg6 harg6 arg7 harg7 arg8 harg8 arg9 harg9 arg10 harg10 (harg3.unread x3) (harg4.unread x4) f9, writes_scr10 c i arg1 harg1 arg2 harg2 arg3 harg3 arg4 harg4 arg5 harg5 arg6 harg6 arg7 harg7 arg8 harg8 arg9 harg9 arg10 harg10 (harg3.unread x3) (harg4.unread x4) f10]
  sl_for (inv2 c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 c i arg1 harg1 arg2 harg2 arg3 harg3 arg4 harg4 arg5 harg5 arg6 harg6 arg7 harg7 arg8 harg8 arg9 harg9 arg10 harg10 (harg3.unread x3) (harg4.unread x4))) (harg10.unread (scr10 c i arg1 harg1 arg2 harg2 arg3 harg3 arg4 harg4 arg5 harg5 arg6 harg6 arg7 harg7 arg8 harg8 arg9 harg9 arg10 harg10 (harg3.unread x3) (harg4.unread x4))) (harg7.unread x7) f8) $$ [H1 H2 H5 H6 H7 H8 H9 H10]
  case region => exact step2 c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 c i arg1 harg1 arg2 harg2 arg3 harg3 arg4 harg4 arg5 harg5 arg6 harg6 arg7 harg7 arg8 harg8 arg9 harg9 arg10 harg10 (harg3.unread x3) (harg4.unread x4))) (harg10.unread (scr10 c i arg1 harg1 arg2 harg2 arg3 harg3 arg4 harg4 arg5 harg5 arg6 harg6 arg7 harg7 arg8 harg8 arg9 harg9 arg10 harg10 (harg3.unread x3) (harg4.unread x4))) (harg7.unread x7) f8
  · unfold inv2
    isplitr; · ipureintro; rfl
    isplitl [H1 H2 H5 H6 H9 H10]
    · isplitl [H1]; · iexact H1
      isplitl [H2]; · iexact H2
      isplitl [H5]; · iexact H5
      isplitl [H6]; · iexact H6
      isplitl [H9]; · iexact H9
      iexact H10
    isplitl [H7]; · iexact H7
    iexact H8
  iintro %acc HI
  unfold inv2
  icases HI with ⟨%ha, ⟨H1, H2, H5, H6, H9, H10⟩, H7, H8⟩
  subst ha
  have hd := drained_stOuter c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 c i arg1 harg1 arg2 harg2 arg3 harg3 arg4 harg4 arg5 harg5 arg6 harg6 arg7 harg7 arg8 harg8 arg9 harg9 arg10 harg10 (harg3.unread x3) (harg4.unread x4))) (harg10.unread (scr10 c i arg1 harg1 arg2 harg2 arg3 harg3 arg4 harg4 arg5 harg5 arg6 harg6 arg7 harg7 arg8 harg8 arg9 harg9 arg10 harg10 (harg3.unread x3) (harg4.unread x4))) k0_t2_loop.trips
  sl_exec
  sl_step
  iapply Hk
  isplitl [H1]
  · iexists (harg1.unread x1); isplitr; · ipureintro; exact hf1
    iexact H1
  isplitl [H2]
  · iexists (harg2.unread x2); isplitr; · ipureintro; exact hf2
    iexact H2
  isplitl [H3]
  · iexists (harg3.unread x3); isplitr; · ipureintro; exact hf3
    iexact H3
  isplitl [H4]
  · iexists (harg4.unread x4); isplitr; · ipureintro; exact hf4
    iexact H4
  isplitl [H5]
  · iexists (harg5.unread x5); isplitr; · ipureintro; exact hf5
    iexact H5
  isplitl [H6]
  · iexists (harg6.unread x6); isplitr; · ipureintro; exact hf6
    iexact H6
  isplitl [H7]
  · iexists (harg7.unread x7); isplitr; · ipureintro; exact hf7
    iexact H7
  isplitl [H8]
  · iexists _; isplitr
    swap; · iexact H8
    ipureintro
    exact View.read_writes_eq_canon _ _ _ (cover8 c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 c i arg1 harg1 arg2 harg2 arg3 harg3 arg4 harg4 arg5 harg5 arg6 harg6 arg7 harg7 arg8 harg8 arg9 harg9 arg10 harg10 (harg3.unread x3) (harg4.unread x4))) (harg10.unread (scr10 c i arg1 harg1 arg2 harg2 arg3 harg3 arg4 harg4 arg5 harg5 arg6 harg6 arg7 harg7 arg8 harg8 arg9 harg9 arg10 harg10 (harg3.unread x3) (harg4.unread x4))) (harg7.unread x7))
  isplitl [H9]
  · iexists _; iexists _; isplitr
    swap; · iexact H9
    ipureintro; rfl
  iexists _; iexists _; isplitr
  swap; · iexact H10
  ipureintro; rfl

end Body

end Cert.Proof.KernelIdeal

end
-- ==== Proof.KernelIdealRun.lean ====
module

public import proofs.«01_k».proof.Proof.KernelIdealBody

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block the body leaves at grid point `t`. -/
def outBlk (c : Dev nD) (t : Fin cfg0.N) : Vec F S128x1024 .bf16 :=
  out8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t)

/-- The proof data of the pipeline on core `c`: the arrays as the region finds them; after the body at point `t` each input's
    buffer at its block and the output's at `outBlk`; the scratch buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The scratch buffers out of the class's invariant. -/
theorem ΦA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, ΦA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitr [Hg]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline ends at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.KernelIdeal

end
-- ==== Proof.KernelIdealTile.lean ====
/-
  What one trip of the window loop pushes and multiplies, as functions of the buffers that it reads: a tile of 256 rows by
  two lane blocks, each block a column of sixteen groups, each group dequantised and patched with the outliers.
-/
module

public import proofs.«01_k».proof.Proof.KernelIdealTrip

@[expose] public section

set_option maxRecDepth 16384
set_option maxHeartbeats 4000000

noncomputable section

namespace Cert.Proof.KernelIdeal

open Cert.KernelIdeal Cert.KernelIdeal.Gen
open Idealize.ShloMosaic

variable {F : FTy → Type} [FloatOps F]

/-- One row of pairs as sixteen equal rows: what is read of the scratch buffers for one group. -/
def spread (raw : Vec F S1x1x2x128 .bf16) : FVec F S16x128 .bf16 :=
  have lo : FVec F S1x128 .bf16 := shapeCast S1x128 (shapeCast S1x1x128 (rowsOfParity 0 S1x1x1x128 raw bitcasts_S1x1x2x128_w16_S1x1x1x128_w32) shapeCasts_S1x1x1x128_S1x1x128) shapeCasts_S1x1x128_S1x128
  have hi : FVec F S1x128 .bf16 := shapeCast S1x128 (shapeCast S1x1x128 (rowsOfParity 1 S1x1x1x128 raw bitcasts_S1x1x2x128_w16_S1x1x1x128_w32) shapeCasts_S1x1x1x128_S1x1x128) shapeCasts_S1x1x128_S1x128
  interleaveRows S16x128
    (concatenate S8x128 0 [⟨S1x128, lo⟩, ⟨S1x128, lo⟩, ⟨S1x128, lo⟩, ⟨S1x128, lo⟩, ⟨S1x128, lo⟩, ⟨S1x128, lo⟩, ⟨S1x128, lo⟩, ⟨S1x128, lo⟩] concatenates_S1x128_S1x128_S1x128_S1x128_S1x128_S1x128_S1x128_S1x128_S8x128_d0)
    (concatenate S8x128 0 [⟨S1x128, hi⟩, ⟨S1x128, hi⟩, ⟨S1x128, hi⟩, ⟨S1x128, hi⟩, ⟨S1x128, hi⟩, ⟨S1x128, hi⟩, ⟨S1x128, hi⟩, ⟨S1x128, hi⟩] concatenates_S1x128_S1x128_S1x128_S1x128_S1x128_S1x128_S1x128_S1x128_S8x128_d0)
    bitcasts_S16x128_w16_S8x128_w32

/-- One group of a column: codes minus zero points, times scales, plus the value of every slot whose index is the group's. -/
def piece (codes : FVec F S16x128 .bf16) (group : BitVec 16) (ti tv : FVec F S16x128 .bf16)
    (z s : Vec F S1x1x2x128 .bf16) : FVec F S16x128 .bf16 :=
  have f : FVec F S16x128 .bf16 := mulf (subf codes (spread z)) (spread s)
  select (cmpf .oeq ti (broadcast S16x128 (Scalar.ofBits .bf16 group))) (addf f tv) f

/-- The sixteen groups of a column, group `v` with row `v / 2` of plane `v % 2`. -/
def column (wq : FVec F S256x128 .bf16) (ti tv : FVec F S16x128 .bf16) (z0 z1 s0 s1 : Fin 8 → Vec F S1x1x2x128 .bf16) :
    FVec F S256x128 .bf16 :=
  concatenate S256x128 0 [
    ⟨S16x128, piece (extractStridedSlice S16x128 ![0, 0] wq slices_S256x128_o0_0_S16x128) 0x3F80#16 ti tv (z0 0) (s0 0)⟩,
    ⟨S16x128, piece (extractStridedSlice S16x128 ![16, 0] wq slices_S256x128_o16_0_S16x128) 0x4000#16 ti tv (z1 0) (s1 0)⟩,
    ⟨S16x128, piece (extractStridedSlice S16x128 ![32, 0] wq slices_S256x128_o32_0_S16x128) 0x4040#16 ti tv (z0 1) (s0 1)⟩,
    ⟨S16x128, piece (extractStridedSlice S16x128 ![48, 0] wq slices_S256x128_o48_0_S16x128) 0x4080#16 ti tv (z1 1) (s1 1)⟩,
    ⟨S16x128, piece (extractStridedSlice S16x128 ![64, 0] wq slices_S256x128_o64_0_S16x128) 0x40A0#16 ti tv (z0 2) (s0 2)⟩,
    ⟨S16x128, piece (extractStridedSlice S16x128 ![80, 0] wq slices_S256x128_o80_0_S16x128) 0x40C0#16 ti tv (z1 2) (s1 2)⟩,
    ⟨S16x128, piece (extractStridedSlice S16x128 ![96, 0] wq slices_S256x128_o96_0_S16x128) 0x40E0#16 ti tv (z0 3) (s0 3)⟩,
    ⟨S16x128, piece (extractStridedSlice S16x128 ![112, 0] wq slices_S256x128_o112_0_S16x128) 0x4100#16 ti tv (z1 3) (s1 3)⟩,
    ⟨S16x128, piece (extractStridedSlice S16x128 ![128, 0] wq slices_S256x128_o128_0_S16x128) 0x4110#16 ti tv (z0 4) (s0 4)⟩,
    ⟨S16x128, piece (extractStridedSlice S16x128 ![144, 0] wq slices_S256x128_o144_0_S16x128) 0x4120#16 ti tv (z1 4) (s1 4)⟩,
    ⟨S16x128, piece (extractStridedSlice S16x128 ![160, 0] wq slices_S256x128_o160_0_S16x128) 0x4130#16 ti tv (z0 5) (s0 5)⟩,
    ⟨S16x128, piece (extractStridedSlice S16x128 ![176, 0] wq slices_S256x128_o176_0_S16x128) 0x4140#16 ti tv (z1 5) (s1 5)⟩,
    ⟨S16x128, piece (extractStridedSlice S16x128 ![192, 0] wq slices_S256x128_o192_0_S16x128) 0x4150#16 ti tv (z0 6) (s0 6)⟩,
    ⟨S16x128, piece (extractStridedSlice S16x128 ![208, 0] wq slices_S256x128_o208_0_S16x128) 0x4160#16 ti tv (z1 6) (s1 6)⟩,
    ⟨S16x128, piece (extractStridedSlice S16x128 ![224, 0] wq slices_S256x128_o224_0_S16x128) 0x4170#16 ti tv (z0 7) (s0 7)⟩,
    ⟨S16x128, piece (extractStridedSlice S16x128 ![240, 0] wq slices_S256x128_o240_0_S16x128) 0x4180#16 ti tv (z1 7) (s1 7)⟩]
    concatenates_S16x128_S16x128_S16x128_S16x128_S16x128_S16x128_S16x128_S16x128_S16x128_S16x128_S16x128_S16x128_S16x128_S16x128_S16x128_S16x128_S256x128_d0

/-- The codes of a block of packed bytes, the low one of a byte above the high one. -/
def weights (v : Vec F S128x128 .i8) : FVec F S256x128 .bf16 := k0_pay16 v

/-- The values of a window's slots. -/
def values (v : Vec F S8x128 .i32) : FVec F S16x128 .bf16 := k0_pay14 v

/-- The index bytes of the even window of two, and of the odd one. -/
def slots0 (v : Vec F S8x128 .i32) : FVec F S16x128 .bf16 := k0_pay15 v
def slots1 (v : Vec F S8x128 .i32) : FVec F S16x128 .bf16 := k0_pay89 v

variable (c : Dev nD) (i : grid0.Coords) (arg1 : Memref sig .tc .vmem S128x7168 .bf16) (harg1 : arg1.IsWhole) (arg2 : Memref sig .tc .vmem S3584x1024 .i8) (harg2 : arg2.IsWhole) (arg3 : Memref sig .tc .vmem S448x1024 .bf16) (harg3 : arg3.IsWhole) (arg4 : Memref sig .tc .vmem S448x1024 .i8) (harg4 : arg4.IsWhole) (arg5 : Memref sig .tc .vmem S1792x128 .i32) (harg5 : arg5.IsWhole) (arg6 : Memref sig .tc .vmem S896x128 .i32) (harg6 : arg6.IsWhole) (arg7 : Memref sig .tc .vmem S1024x128 .f32) (harg7 : arg7.IsWhole) (arg8 : Memref sig .tc .vmem S128x1024 .bf16) (harg8 : arg8.IsWhole) (arg9 : Memref sig .tc .vmem S2x224x2x1024 .bf16) (harg9 : arg9.IsWhole) (arg10 : Memref sig .tc .vmem S2x224x2x1024 .bf16) (harg10 : arg10.IsWhole)
variable (X1 : BufTy.Contents (Elt F) arg1.view.ty) (X2 : BufTy.Contents (Elt F) arg2.view.ty) (X5 : BufTy.Contents (Elt F) arg5.view.ty) (X6 : BufTy.Contents (Elt F) arg6.view.ty) (X9 : BufTy.Contents (Elt F) arg9.view.ty) (X10 : BufTy.Contents (Elt F) arg10.view.ty)

/-- The tile that trip `k` pushes for its window 0. -/
def tile30 (k0_t2 : Fin k0_t2_loop.trips) (k : Fin k0_t3_loop.trips) : FVec F (Mxu.STile 256) .bf16 :=
  concatenate S256x256 1 [
    ⟨S256x128, (column (weights (arg2.view.readAt (Elt F) (Rect.unit (s := S3584x1024) (k0_off6 k0_t2 k 0#32) S128x128.size (k0_off6_inb k0_t2 k 0)).toLoadRect X2))
        (slots0 (arg6.view.readAt (Elt F) (Rect.unit (s := S896x128) (k0_off5 k0_t2 k 0#32) S8x128.size (k0_off5_inb k0_t2 k 0)).toLoadRect X6))
        (values (arg5.view.readAt (Elt F) (Rect.unit (s := S1792x128) (k0_off4 k0_t2 k 0#32) S8x128.size (k0_off4_inb k0_t2 k 0)).toLoadRect X5))
        (fun u => arg10.view.readAt (Elt F) (Rect.unit (s := S2x224x2x1024) (k0_off7 k0_t2 k 0#32 (BitVec.ofNat 32 u.val)) S1x1x2x128.size (k0_off7_inb k0_t2 k 0 u)).toLoadRect X10)
        (fun u => arg10.view.readAt (Elt F) (Rect.unit (s := S2x224x2x1024) (k0_off8 k0_t2 k 0#32 (BitVec.ofNat 32 u.val)) S1x1x2x128.size (k0_off8_inb k0_t2 k 0 u)).toLoadRect X10)
        (fun u => arg9.view.readAt (Elt F) (Rect.unit (s := S2x224x2x1024) (k0_off7 k0_t2 k 0#32 (BitVec.ofNat 32 u.val)) S1x1x2x128.size (k0_off7_inb k0_t2 k 0 u)).toLoadRect X9)
        (fun u => arg9.view.readAt (Elt F) (Rect.unit (s := S2x224x2x1024) (k0_off8 k0_t2 k 0#32 (BitVec.ofNat 32 u.val)) S1x1x2x128.size (k0_off8_inb k0_t2 k 0 u)).toLoadRect X9))⟩,
    ⟨S256x128, (column (weights (arg2.view.readAt (Elt F) (Rect.unit (s := S3584x1024) (k0_off11 k0_t2 k 0#32) S128x128.size (k0_off11_inb k0_t2 k 0)).toLoadRect X2))
        (slots0 (arg6.view.readAt (Elt F) (Rect.unit (s := S896x128) (k0_off10 k0_t2 k 0#32) S8x128.size (k0_off10_inb k0_t2 k 0)).toLoadRect X6))
        (values (arg5.view.readAt (Elt F) (Rect.unit (s := S1792x128) (k0_off9 k0_t2 k 0#32) S8x128.size (k0_off9_inb k0_t2 k 0)).toLoadRect X5))
        (fun u => arg10.view.readAt (Elt F) (Rect.unit (s := S2x224x2x1024) (k0_off12 k0_t2 k 0#32 (BitVec.ofNat 32 u.val)) S1x1x2x128.size (k0_off12_inb k0_t2 k 0 u)).toLoadRect X10)
        (fun u => arg10.view.readAt (Elt F) (Rect.unit (s := S2x224x2x1024) (k0_off13 k0_t2 k 0#32 (BitVec.ofNat 32 u.val)) S1x1x2x128.size (k0_off13_inb k0_t2 k 0 u)).toLoadRect X10)
        (fun u => arg9.view.readAt (Elt F) (Rect.unit (s := S2x224x2x1024) (k0_off12 k0_t2 k 0#32 (BitVec.ofNat 32 u.val)) S1x1x2x128.size (k0_off12_inb k0_t2 k 0 u)).toLoadRect X9)
        (fun u => arg9.view.readAt (Elt F) (Rect.unit (s := S2x224x2x1024) (k0_off13 k0_t2 k 0#32 (BitVec.ofNat 32 u.val)) S1x1x2x128.size (k0_off13_inb k0_t2 k 0 u)).toLoadRect X9))⟩] concatenates_S256x128_S256x128_S256x256_d1

/-- The slab of the left operand that trip `k` multiplies by that tile. -/
def slab30 (k : Fin k0_t3_loop.trips) : FVec F (Mxu.STile 128) .bf16 :=
  arg1.view.readAt (Elt F) (Rect.unit (s := S128x7168) (k0_off14 k 0#32) S128x256.size (k0_off14_inb k 0)).toLoadRect X1

/-- The tile that trip `k` pushes for its window 1. -/
def tile31 (k0_t2 : Fin k0_t2_loop.trips) (k : Fin k0_t3_loop.trips) : FVec F (Mxu.STile 256) .bf16 :=
  concatenate S256x256 1 [
    ⟨S256x128, (column (weights (arg2.view.readAt (Elt F) (Rect.unit (s := S3584x1024) (k0_off6 k0_t2 k 1#32) S128x128.size (k0_off6_inb k0_t2 k 1)).toLoadRect X2))
        (slots1 (arg6.view.readAt (Elt F) (Rect.unit (s := S896x128) (k0_off5 k0_t2 k 1#32) S8x128.size (k0_off5_inb k0_t2 k 1)).toLoadRect X6))
        (values (arg5.view.readAt (Elt F) (Rect.unit (s := S1792x128) (k0_off4 k0_t2 k 1#32) S8x128.size (k0_off4_inb k0_t2 k 1)).toLoadRect X5))
        (fun u => arg10.view.readAt (Elt F) (Rect.unit (s := S2x224x2x1024) (k0_off7 k0_t2 k 1#32 (BitVec.ofNat 32 u.val)) S1x1x2x128.size (k0_off7_inb k0_t2 k 1 u)).toLoadRect X10)
        (fun u => arg10.view.readAt (Elt F) (Rect.unit (s := S2x224x2x1024) (k0_off8 k0_t2 k 1#32 (BitVec.ofNat 32 u.val)) S1x1x2x128.size (k0_off8_inb k0_t2 k 1 u)).toLoadRect X10)
        (fun u => arg9.view.readAt (Elt F) (Rect.unit (s := S2x224x2x1024) (k0_off7 k0_t2 k 1#32 (BitVec.ofNat 32 u.val)) S1x1x2x128.size (k0_off7_inb k0_t2 k 1 u)).toLoadRect X9)
        (fun u => arg9.view.readAt (Elt F) (Rect.unit (s := S2x224x2x1024) (k0_off8 k0_t2 k 1#32 (BitVec.ofNat 32 u.val)) S1x1x2x128.size (k0_off8_inb k0_t2 k 1 u)).toLoadRect X9))⟩,
    ⟨S256x128, (column (weights (arg2.view.readAt (Elt F) (Rect.unit (s := S3584x1024) (k0_off11 k0_t2 k 1#32) S128x128.size (k0_off11_inb k0_t2 k 1)).toLoadRect X2))
        (slots1 (arg6.view.readAt (Elt F) (Rect.unit (s := S896x128) (k0_off10 k0_t2 k 1#32) S8x128.size (k0_off10_inb k0_t2 k 1)).toLoadRect X6))
        (values (arg5.view.readAt (Elt F) (Rect.unit (s := S1792x128) (k0_off9 k0_t2 k 1#32) S8x128.size (k0_off9_inb k0_t2 k 1)).toLoadRect X5))
        (fun u => arg10.view.readAt (Elt F) (Rect.unit (s := S2x224x2x1024) (k0_off12 k0_t2 k 1#32 (BitVec.ofNat 32 u.val)) S1x1x2x128.size (k0_off12_inb k0_t2 k 1 u)).toLoadRect X10)
        (fun u => arg10.view.readAt (Elt F) (Rect.unit (s := S2x224x2x1024) (k0_off13 k0_t2 k 1#32 (BitVec.ofNat 32 u.val)) S1x1x2x128.size (k0_off13_inb k0_t2 k 1 u)).toLoadRect X10)
        (fun u => arg9.view.readAt (Elt F) (Rect.unit (s := S2x224x2x1024) (k0_off12 k0_t2 k 1#32 (BitVec.ofNat 32 u.val)) S1x1x2x128.size (k0_off12_inb k0_t2 k 1 u)).toLoadRect X9)
        (fun u => arg9.view.readAt (Elt F) (Rect.unit (s := S2x224x2x1024) (k0_off13 k0_t2 k 1#32 (BitVec.ofNat 32 u.val)) S1x1x2x128.size (k0_off13_inb k0_t2 k 1 u)).toLoadRect X9))⟩] concatenates_S256x128_S256x128_S256x256_d1

/-- The slab of the left operand that trip `k` multiplies by that tile. -/
def slab31 (k : Fin k0_t3_loop.trips) : FVec F (Mxu.STile 128) .bf16 :=
  arg1.view.readAt (Elt F) (Rect.unit (s := S128x7168) (k0_off14 k 1#32) S128x256.size (k0_off14_inb k 1)).toLoadRect X1

theorem trip3_0 (k0_t2 : Fin k0_t2_loop.trips) (w : BitVec 32) (k : Fin k0_t3_loop.trips) :
    (trip3 c i arg1 harg1 arg2 harg2 arg3 harg3 arg4 harg4 arg5 harg5 arg6 harg6 arg7 harg7 arg8 harg8 arg9 harg9 arg10 harg10 X1 X2 X5 X6 X9 X10 k0_t2 w k).1 = tile30 arg2 arg5 arg6 arg9 arg10 X2 X5 X6 X9 X10 k0_t2 k := by
  unfold trip3; rfl

theorem trip3_1 (k0_t2 : Fin k0_t2_loop.trips) (w : BitVec 32) (k : Fin k0_t3_loop.trips) :
    (trip3 c i arg1 harg1 arg2 harg2 arg3 harg3 arg4 harg4 arg5 harg5 arg6 harg6 arg7 harg7 arg8 harg8 arg9 harg9 arg10 harg10 X1 X2 X5 X6 X9 X10 k0_t2 w k).2.1 = slab30 arg1 X1 k := by
  unfold trip3; rfl

theorem trip3_2 (k0_t2 : Fin k0_t2_loop.trips) (w : BitVec 32) (k : Fin k0_t3_loop.trips) :
    (trip3 c i arg1 harg1 arg2 harg2 arg3 harg3 arg4 harg4 arg5 harg5 arg6 harg6 arg7 harg7 arg8 harg8 arg9 harg9 arg10 harg10 X1 X2 X5 X6 X9 X10 k0_t2 w k).2.2.1 = tile31 arg2 arg5 arg6 arg9 arg10 X2 X5 X6 X9 X10 k0_t2 k := by
  unfold trip3; rfl

theorem trip3_3 (k0_t2 : Fin k0_t2_loop.trips) (w : BitVec 32) (k : Fin k0_t3_loop.trips) :
    (trip3 c i arg1 harg1 arg2 harg2 arg3 harg3 arg4 harg4 arg5 harg5 arg6 harg6 arg7 harg7 arg8 harg8 arg9 harg9 arg10 harg10 X1 X2 X5 X6 X9 X10 k0_t2 w k).2.2.2.1 = slab31 arg1 X1 k := by
  unfold trip3; rfl

/-- The tile that trip `k` pushes for its window 0. -/
def tile40 (k0_t2 : Fin k0_t2_loop.trips) (k : Fin k0_t4_loop.trips) : FVec F (Mxu.STile 256) .bf16 :=
  concatenate S256x256 1 [
    ⟨S256x128, (column (weights (arg2.view.readAt (Elt F) (Rect.unit (s := S3584x1024) (k0_off19 k0_t2 k 0#32) S128x128.size (k0_off19_inb k0_t2 k 0)).toLoadRect X2))
        (slots0 (arg6.view.readAt (Elt F) (Rect.unit (s := S896x128) (k0_off18 k0_t2 k 0#32) S8x128.size (k0_off18_inb k0_t2 k 0)).toLoadRect X6))
        (values (arg5.view.readAt (Elt F) (Rect.unit (s := S1792x128) (k0_off17 k0_t2 k 0#32) S8x128.size (k0_off17_inb k0_t2 k 0)).toLoadRect X5))
        (fun u => arg10.view.readAt (Elt F) (Rect.unit (s := S2x224x2x1024) (k0_off20 k0_t2 k 0#32 (BitVec.ofNat 32 u.val)) S1x1x2x128.size (k0_off20_inb k0_t2 k 0 u)).toLoadRect X10)
        (fun u => arg10.view.readAt (Elt F) (Rect.unit (s := S2x224x2x1024) (k0_off21 k0_t2 k 0#32 (BitVec.ofNat 32 u.val)) S1x1x2x128.size (k0_off21_inb k0_t2 k 0 u)).toLoadRect X10)
        (fun u => arg9.view.readAt (Elt F) (Rect.unit (s := S2x224x2x1024) (k0_off20 k0_t2 k 0#32 (BitVec.ofNat 32 u.val)) S1x1x2x128.size (k0_off20_inb k0_t2 k 0 u)).toLoadRect X9)
        (fun u => arg9.view.readAt (Elt F) (Rect.unit (s := S2x224x2x1024) (k0_off21 k0_t2 k 0#32 (BitVec.ofNat 32 u.val)) S1x1x2x128.size (k0_off21_inb k0_t2 k 0 u)).toLoadRect X9))⟩,
    ⟨S256x128, (column (weights (arg2.view.readAt (Elt F) (Rect.unit (s := S3584x1024) (k0_off24 k0_t2 k 0#32) S128x128.size (k0_off24_inb k0_t2 k 0)).toLoadRect X2))
        (slots0 (arg6.view.readAt (Elt F) (Rect.unit (s := S896x128) (k0_off23 k0_t2 k 0#32) S8x128.size (k0_off23_inb k0_t2 k 0)).toLoadRect X6))
        (values (arg5.view.readAt (Elt F) (Rect.unit (s := S1792x128) (k0_off22 k0_t2 k 0#32) S8x128.size (k0_off22_inb k0_t2 k 0)).toLoadRect X5))
        (fun u => arg10.view.readAt (Elt F) (Rect.unit (s := S2x224x2x1024) (k0_off25 k0_t2 k 0#32 (BitVec.ofNat 32 u.val)) S1x1x2x128.size (k0_off25_inb k0_t2 k 0 u)).toLoadRect X10)
        (fun u => arg10.view.readAt (Elt F) (Rect.unit (s := S2x224x2x1024) (k0_off26 k0_t2 k 0#32 (BitVec.ofNat 32 u.val)) S1x1x2x128.size (k0_off26_inb k0_t2 k 0 u)).toLoadRect X10)
        (fun u => arg9.view.readAt (Elt F) (Rect.unit (s := S2x224x2x1024) (k0_off25 k0_t2 k 0#32 (BitVec.ofNat 32 u.val)) S1x1x2x128.size (k0_off25_inb k0_t2 k 0 u)).toLoadRect X9)
        (fun u => arg9.view.readAt (Elt F) (Rect.unit (s := S2x224x2x1024) (k0_off26 k0_t2 k 0#32 (BitVec.ofNat 32 u.val)) S1x1x2x128.size (k0_off26_inb k0_t2 k 0 u)).toLoadRect X9))⟩] concatenates_S256x128_S256x128_S256x256_d1

/-- The slab of the left operand that trip `k` multiplies by that tile. -/
def slab40 (k : Fin k0_t4_loop.trips) : FVec F (Mxu.STile 128) .bf16 :=
  arg1.view.readAt (Elt F) (Rect.unit (s := S128x7168) (k0_off27 k 0#32) S128x256.size (k0_off27_inb k 0)).toLoadRect X1

/-- The tile that trip `k` pushes for its window 1. -/
def tile41 (k0_t2 : Fin k0_t2_loop.trips) (k : Fin k0_t4_loop.trips) : FVec F (Mxu.STile 256) .bf16 :=
  concatenate S256x256 1 [
    ⟨S256x128, (column (weights (arg2.view.readAt (Elt F) (Rect.unit (s := S3584x1024) (k0_off19 k0_t2 k 1#32) S128x128.size (k0_off19_inb k0_t2 k 1)).toLoadRect X2))
        (slots1 (arg6.view.readAt (Elt F) (Rect.unit (s := S896x128) (k0_off18 k0_t2 k 1#32) S8x128.size (k0_off18_inb k0_t2 k 1)).toLoadRect X6))
        (values (arg5.view.readAt (Elt F) (Rect.unit (s := S1792x128) (k0_off17 k0_t2 k 1#32) S8x128.size (k0_off17_inb k0_t2 k 1)).toLoadRect X5))
        (fun u => arg10.view.readAt (Elt F) (Rect.unit (s := S2x224x2x1024) (k0_off20 k0_t2 k 1#32 (BitVec.ofNat 32 u.val)) S1x1x2x128.size (k0_off20_inb k0_t2 k 1 u)).toLoadRect X10)
        (fun u => arg10.view.readAt (Elt F) (Rect.unit (s := S2x224x2x1024) (k0_off21 k0_t2 k 1#32 (BitVec.ofNat 32 u.val)) S1x1x2x128.size (k0_off21_inb k0_t2 k 1 u)).toLoadRect X10)
        (fun u => arg9.view.readAt (Elt F) (Rect.unit (s := S2x224x2x1024) (k0_off20 k0_t2 k 1#32 (BitVec.ofNat 32 u.val)) S1x1x2x128.size (k0_off20_inb k0_t2 k 1 u)).toLoadRect X9)
        (fun u => arg9.view.readAt (Elt F) (Rect.unit (s := S2x224x2x1024) (k0_off21 k0_t2 k 1#32 (BitVec.ofNat 32 u.val)) S1x1x2x128.size (k0_off21_inb k0_t2 k 1 u)).toLoadRect X9))⟩,
    ⟨S256x128, (column (weights (arg2.view.readAt (Elt F) (Rect.unit (s := S3584x1024) (k0_off24 k0_t2 k 1#32) S128x128.size (k0_off24_inb k0_t2 k 1)).toLoadRect X2))
        (slots1 (arg6.view.readAt (Elt F) (Rect.unit (s := S896x128) (k0_off23 k0_t2 k 1#32) S8x128.size (k0_off23_inb k0_t2 k 1)).toLoadRect X6))
        (values (arg5.view.readAt (Elt F) (Rect.unit (s := S1792x128) (k0_off22 k0_t2 k 1#32) S8x128.size (k0_off22_inb k0_t2 k 1)).toLoadRect X5))
        (fun u => arg10.view.readAt (Elt F) (Rect.unit (s := S2x224x2x1024) (k0_off25 k0_t2 k 1#32 (BitVec.ofNat 32 u.val)) S1x1x2x128.size (k0_off25_inb k0_t2 k 1 u)).toLoadRect X10)
        (fun u => arg10.view.readAt (Elt F) (Rect.unit (s := S2x224x2x1024) (k0_off26 k0_t2 k 1#32 (BitVec.ofNat 32 u.val)) S1x1x2x128.size (k0_off26_inb k0_t2 k 1 u)).toLoadRect X10)
        (fun u => arg9.view.readAt (Elt F) (Rect.unit (s := S2x224x2x1024) (k0_off25 k0_t2 k 1#32 (BitVec.ofNat 32 u.val)) S1x1x2x128.size (k0_off25_inb k0_t2 k 1 u)).toLoadRect X9)
        (fun u => arg9.view.readAt (Elt F) (Rect.unit (s := S2x224x2x1024) (k0_off26 k0_t2 k 1#32 (BitVec.ofNat 32 u.val)) S1x1x2x128.size (k0_off26_inb k0_t2 k 1 u)).toLoadRect X9))⟩] concatenates_S256x128_S256x128_S256x256_d1

/-- The slab of the left operand that trip `k` multiplies by that tile. -/
def slab41 (k : Fin k0_t4_loop.trips) : FVec F (Mxu.STile 128) .bf16 :=
  arg1.view.readAt (Elt F) (Rect.unit (s := S128x7168) (k0_off27 k 1#32) S128x256.size (k0_off27_inb k 1)).toLoadRect X1

theorem trip4_0 (k0_t2 : Fin k0_t2_loop.trips) (w : BitVec 32) (k : Fin k0_t4_loop.trips) :
    (trip4 c i arg1 harg1 arg2 harg2 arg3 harg3 arg4 harg4 arg5 harg5 arg6 harg6 arg7 harg7 arg8 harg8 arg9 harg9 arg10 harg10 X1 X2 X5 X6 X9 X10 k0_t2 w k).1 = tile40 arg2 arg5 arg6 arg9 arg10 X2 X5 X6 X9 X10 k0_t2 k := by
  unfold trip4; rfl

theorem trip4_1 (k0_t2 : Fin k0_t2_loop.trips) (w : BitVec 32) (k : Fin k0_t4_loop.trips) :
    (trip4 c i arg1 harg1 arg2 harg2 arg3 harg3 arg4 harg4 arg5 harg5 arg6 harg6 arg7 harg7 arg8 harg8 arg9 harg9 arg10 harg10 X1 X2 X5 X6 X9 X10 k0_t2 w k).2.1 = slab40 arg1 X1 k := by
  unfold trip4; rfl

theorem trip4_2 (k0_t2 : Fin k0_t2_loop.trips) (w : BitVec 32) (k : Fin k0_t4_loop.trips) :
    (trip4 c i arg1 harg1 arg2 harg2 arg3 harg3 arg4 harg4 arg5 harg5 arg6 harg6 arg7 harg7 arg8 harg8 arg9 harg9 arg10 harg10 X1 X2 X5 X6 X9 X10 k0_t2 w k).2.2.1 = tile41 arg2 arg5 arg6 arg9 arg10 X2 X5 X6 X9 X10 k0_t2 k := by
  unfold trip4; rfl

theorem trip4_3 (k0_t2 : Fin k0_t2_loop.trips) (w : BitVec 32) (k : Fin k0_t4_loop.trips) :
    (trip4 c i arg1 harg1 arg2 harg2 arg3 harg3 arg4 harg4 arg5 harg5 arg6 harg6 arg7 harg7 arg8 harg8 arg9 harg9 arg10 harg10 X1 X2 X5 X6 X9 X10 k0_t2 w k).2.2.2.1 = slab41 arg1 X1 k := by
  unfold trip4; rfl

end Cert.Proof.KernelIdeal

end
-- ==== Proof.Cell.lean ====
/-
  One entry of the dequantised and patched weight, as a function of the words that hold its parts, and the readings of those
  words: the four bits of a code, the byte of an index, the half of a value (untrusted, hand-written).
-/
module

public import Idealize.ShloMosaic.Lib.Pointwise
public import Idealize.ShloMosaic.Lib.BitcastPair

@[expose] public section

noncomputable section

namespace Cert.Proof

open Idealize.ShloMosaic

/-- The four-bit code number `h` of a byte, as a number. -/
def code (b : BitVec 8) (h : ℕ) : EReal := (((b.extractLsb' (4 * h) 4).toNat : ℝ) : EReal)

/-- A byte as a number. -/
def num (b : BitVec 8) : EReal := ((b.toNat : ℝ) : EReal)

/-- Byte `j` of a word. -/
def mark (w : BitVec 32) (j : ℕ) : ℕ := (w.extractLsb' (8 * j) 8).toNat

/-- Half `j` of a word, as a number. -/
def half (w : BitVec 32) (j : ℕ) : EReal := Ideal.ofBits .bf16 (w.extractLsb' (16 * j) 16)

/-- One entry of the weight: code minus zero point, times scale, plus the value of its slot when the slot's index, counted
    from one, is the entry's group `g`. -/
def cell (b : BitVec 8) (h : ℕ) (z : BitVec 8) (s : EReal) (v : BitVec 32) (hv : ℕ) (t : BitVec 32) (jt g : ℕ) : EReal :=
  (code b h - num z) * s + if mark t jt = g + 1 then half v hv else 0

/-- The low code of a byte, as a masked word. -/
theorem code_low (b : BitVec 8) : (((IntOp.andi (b.setWidth 32) 15#32).toInt : ℝ) : EReal) = code b 0 := by
  have h : ∀ b : BitVec 8, (IntOp.andi (b.setWidth 32) 15#32).toInt = ((b.extractLsb' (4 * 0) 4).toNat : ℤ) := by decide +kernel
  rw [h b]; rfl

/-- The high code of a byte, as a shifted and masked word. -/
theorem code_high (b : BitVec 8) : (((IntOp.andi (IntOp.shrsi .host (b.setWidth 32) 4#32) 15#32).toInt : ℝ) : EReal) = code b 1 := by
  have h : ∀ b : BitVec 8, (IntOp.andi ((b.setWidth 32).sshiftRight 4) 15#32).toInt = ((b.extractLsb' (4 * 1) 4).toNat : ℤ) := by decide +kernel
  exact congrArg (fun z : ℤ => ((z : ℝ) : EReal)) (h b)

/-- The two codes of a byte, spread over the halves of a word. -/
theorem code_pair (b : BitVec 8) (j : ℕ) (hj : j < 2) :
    ((((IntOp.ori (IntOp.andi (b.setWidth 32) 15#32)
      (IntOp.shli .vector (IntOp.shrsi .vector (b.setWidth 32) 4#32) 16#32)).extractLsb' (16 * j) 16).toInt : ℝ) : EReal) = code b j := by
  have h : ∀ (j : Fin 2) (b : BitVec 8), ((IntOp.ori (IntOp.andi (b.setWidth 32) 15#32)
      ((b.setWidth 32).sshiftRight 4 <<< 16)).extractLsb' (16 * j.val) 16).toInt = ((b.extractLsb' (4 * j.val) 4).toNat : ℤ) := by decide +kernel
  exact congrArg (fun z : ℤ => ((z : ℝ) : EReal)) (h ⟨j, hj⟩ b)

/-- A zero point read as a word. -/
theorem num_word (b : BitVec 8) : (((b.setWidth 32).toInt : ℝ) : EReal) = num b := by
  have h : ∀ b : BitVec 8, (b.setWidth 32).toInt = (b.toNat : ℤ) := by decide +kernel
  rw [h b]; rfl

/-- A byte of a word by a shift and a mask. -/
theorem mark_word (w : BitVec 32) (j : ℕ) (hj : j < 4) :
    IntOp.andi (IntOp.shrsi .host w (IntOp.muli 8#32 (BitVec.ofNat 32 j))) 255#32 = (w.extractLsb' (8 * j) 8).setWidth 32 := by
  interval_cases j
  · change (w.sshiftRight 0) &&& 255#32 = _
    ext i hi; interval_cases i <;> simp [BitVec.getElem_sshiftRight]
  · change (w.sshiftRight 8) &&& 255#32 = _
    ext i hi; interval_cases i <;> simp [BitVec.getElem_sshiftRight]
  · change (w.sshiftRight 16) &&& 255#32 = _
    ext i hi; interval_cases i <;> simp [BitVec.getElem_sshiftRight]
  · change (w.sshiftRight 24) &&& 255#32 = _
    ext i hi; interval_cases i <;> simp [BitVec.getElem_sshiftRight]

/-- The comparison of an index with a group, on words. -/
theorem mark_eq_word (w : BitVec 32) (j g : ℕ) (hg : g < 16) :
    ((w.extractLsb' (8 * j) 8).setWidth 32 = IntOp.addi 1#32 (BitVec.ofNat 32 g)) ↔ mark w j = g + 1 := by
  unfold mark
  have := (w.extractLsb' (8 * j) 8).isLt
  rw [← BitVec.toNat_inj]
  simp only [IntOp.addi, BitVec.toNat_setWidth, BitVec.toNat_add, BitVec.toNat_ofNat]
  omega

/-- The sixteen constants that the kernel compares an index with. -/
def group : ℕ → BitVec 16
  | 0 => 0x3F80#16 | 1 => 0x4000#16 | 2 => 0x4040#16 | 3 => 0x4080#16 | 4 => 0x40A0#16 | 5 => 0x40C0#16 | 6 => 0x40E0#16
  | 7 => 0x4100#16 | 8 => 0x4110#16 | 9 => 0x4120#16 | 10 => 0x4130#16 | 11 => 0x4140#16 | 12 => 0x4150#16 | 13 => 0x4160#16
  | 14 => 0x4170#16 | _ => 0x4180#16

/-- They are the numbers one to sixteen. -/
theorem group_eq (g : ℕ) (hg : g < 16) : Ideal.ofBits .bf16 (group g) = (((g + 1 : ℕ) : ℝ) : EReal) := by
  interval_cases g <;>
    (simp [group, Ideal.ofBits, Ideal.ieee, -EReal.coe_mul]; norm_num)

/-- Words read at eight bits: rows `4r` to `4r + 3` of a column are the bytes of source row `r`, the lowest first. -/
theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- The bytes of words at rank 2. -/
theorem bitcast_32_8_ix2 {R r n : ℕ} (x : (⟨2, ![R, n]⟩ : Shape).Idx → BitVec 32)
    (h : (⟨2, ![R, n]⟩ : Shape).Bitcasts 32 ⟨2, ![r, n]⟩ 8) (a : Fin r) (l : Fin n) (b : Fin R) (hb : b.val = a.val / 4) :
    bitcast ⟨2, ![r, n]⟩ 8 x h (ix2 a l) = (x (ix2 b l)).extractLsb' (8 * (a.val % 4)) 8 := by
  rw [bitcast_32_8]
  congr 2
  funext c
  match c with
  | ⟨0, _⟩ => exact Fin.ext ((h.srcIdx_row _ _ _ ⟨0, Nat.zero_lt_two⟩ rfl).trans hb.symm)
  | ⟨1, _⟩ => exact Fin.ext (h.srcIdx_other _ _ _ ⟨1, Nat.one_lt_two⟩ (by show ¬ 1 + 2 = 2; omega))

/-- The halves of words at rank 2. -/
theorem bitcast_32_16_ix2 {R r n : ℕ} (x : (⟨2, ![R, n]⟩ : Shape).Idx → BitVec 32)
    (h : (⟨2, ![R, n]⟩ : Shape).Bitcasts 32 ⟨2, ![r, n]⟩ 16) (a : Fin r) (l : Fin n) (b : Fin R) (hb : b.val = a.val / 2) :
    bitcast ⟨2, ![r, n]⟩ 16 x h (ix2 a l) = (x (ix2 b l)).extractLsb' (16 * (a.val % 2)) 16 := by
  rw [bitcast_32_16]
  congr 2
  funext c
  match c with
  | ⟨0, _⟩ => exact Fin.ext ((h.srcIdx_row _ _ _ ⟨0, Nat.zero_lt_two⟩ rfl).trans hb.symm)
  | ⟨1, _⟩ => exact Fin.ext (h.srcIdx_other _ _ _ ⟨1, Nat.one_lt_two⟩ (by show ¬ 1 + 2 = 2; omega))

/-- The comparison of an index with a group, on numbers. -/
theorem mark_eq_num (b : BitVec 8) (g : ℕ) (hg : g < 16) :
    (((b.toNat : ℝ) : EReal) = Ideal.ofBits .bf16 (group g)) ↔ b.toNat = g + 1 := by
  rw [group_eq g hg, EReal.coe_eq_coe_iff]
  exact_mod_cast Iff.rfl

end Cert.Proof

end
-- ==== Proof.KernelIdealColumn.lean ====
/-
  A column of the weight tile read at an index: every entry is a cell (untrusted, hand-written).
-/
module

public import proofs.«01_k».proof.Proof.KernelIdealTile
public import proofs.«01_k».proof.Proof.Cell
public import Idealize.ShloMosaic.Lib.Pipeline.Value

@[expose] public section

set_option maxRecDepth 16384
set_option maxHeartbeats 4000000

noncomputable section

namespace Cert.Proof.KernelIdeal

open Cert.KernelIdeal Cert.KernelIdeal.Gen
open Idealize.ShloMosaic

theorem spread_apply (raw : Vec Ideal S1x1x2x128 .bf16) (p : Fin 16) (l : Fin 128) :
    spread raw (ix2 p l) = raw (ix4 0 0 ⟨p.val % 2, by omega⟩ l) := by
  pointwise [spread]
  by_cases h : p.val % 2 = 0
  · have e : (⟨p.val % 2, by omega⟩ : Fin 2) = 0 := Fin.ext h
    rw [e]; simp [h]
  · have e : (⟨p.val % 2, by omega⟩ : Fin 2) = 1 := Fin.ext (by simp; omega)
    rw [e]; simp [h]

theorem weights_apply (raw : Vec Ideal S128x128 .i8) (R : Fin 256) (l : Fin 128) :
    weights raw (ix2 R l) = code (raw (ix2 ⟨R.val / 2, by omega⟩ l)) (R.val % 2) := by
  pointwise [weights, k0_pay16]
  rw [bitcast_32_16_ix2 _ _ R l ⟨R.val / 2, by omega⟩ rfl]
  exact code_pair _ _ (Nat.mod_lt _ (by norm_num))

theorem values_apply (raw : Vec Ideal S8x128 .i32) (p : Fin 16) (l : Fin 128) :
    values raw (ix2 p l) = half (raw (ix2 ⟨p.val / 2, by omega⟩ l)) (p.val % 2) := by
  pointwise [values, k0_pay14]
  rw [bitcast_32_16_ix2 _ _ p l ⟨p.val / 2, by omega⟩ rfl]
  rfl

theorem slots0_apply (raw : Vec Ideal S8x128 .i32) (p : Fin 16) (l : Fin 128) :
    slots0 raw (ix2 p l) = ((mark (raw (ix2 ⟨p.val / 4, by omega⟩ l)) (p.val % 4) : ℝ) : EReal) := by
  pointwise [slots0, k0_pay15]
  rw [bitcast_32_8_ix2 _ _ _ l ⟨p.val / 4, by omega⟩ (by simp)]
  rfl

theorem slots1_apply (raw : Vec Ideal S8x128 .i32) (p : Fin 16) (l : Fin 128) :
    slots1 raw (ix2 p l) = ((mark (raw (ix2 ⟨4 + p.val / 4, by omega⟩ l)) (p.val % 4) : ℝ) : EReal) := by
  pointwise [slots1, k0_pay89]
  rw [bitcast_32_8_ix2 _ _ _ l ⟨4 + p.val / 4, by omega⟩ (by simp; omega)]
  have e : (16 + p.val) % 4 = p.val % 4 := by omega
  simp only [e]
  rfl

theorem piece_apply (codes : FVec Ideal S16x128 .bf16) (g : ℕ) (hg : g < 16) (ti tv : FVec Ideal S16x128 .bf16)
    (z s : Vec Ideal S1x1x2x128 .bf16) (p : Fin 16) (l : Fin 128) (n : ℕ) (ht : ti (ix2 p l) = ((n : ℝ) : EReal)) :
    piece codes (group g) ti tv z s (ix2 p l)
      = (codes (ix2 p l) - z (ix4 0 0 ⟨p.val % 2, by omega⟩ l)) * s (ix4 0 0 ⟨p.val % 2, by omega⟩ l)
        + if n = g + 1 then tv (ix2 p l) else 0 := by
  pointwise [piece]
  simp only [spread_apply]
  have e : (ti (ix2 p l) = Ideal.ofBits FTy.bf16 (group g)) ↔ n = g + 1 := by
    rw [ht, group_eq g hg, EReal.coe_eq_coe_iff]; exact_mod_cast Iff.rfl
  by_cases h : n = g + 1
  · rw [if_pos (e.2 h), if_pos h]
  · rw [if_neg (fun h' => h (e.1 h')), if_neg h, add_zero]

/-- The plane that holds a group's row. -/
def plane {α : Type} (g : ℕ) (z0 z1 : Fin 8 → α) : α :=
  if g % 2 = 0 then z0 ⟨g / 2 % 8, by omega⟩ else z1 ⟨g / 2 % 8, by omega⟩

theorem column_apply (wq : FVec Ideal S256x128 .bf16) (ti tv : FVec Ideal S16x128 .bf16)
    (z0 z1 s0 s1 : Fin 8 → Vec Ideal S1x1x2x128 .bf16) (g : ℕ) (hg : g < 16) (p : Fin 16) (l : Fin 128) (n : ℕ)
    (ht : ti (ix2 p l) = ((n : ℝ) : EReal)) :
    column wq ti tv z0 z1 s0 s1 (ix2 ⟨16 * g + p.val, by omega⟩ l)
      = (wq (ix2 ⟨16 * g + p.val, by omega⟩ l) - plane g z0 z1 (ix4 0 0 ⟨p.val % 2, by omega⟩ l))
          * plane g s0 s1 (ix4 0 0 ⟨p.val % 2, by omega⟩ l)
        + if n = g + 1 then tv (ix2 p l) else 0 := by
  have off (b : Fin S16x128.rank) (hb : b.cast (rfl : S16x128.rank = S256x128.rank) ≠ 0) (m : Fin 256) :
      (ix2 p l b).val = (ix2 m l (b.cast (rfl : S16x128.rank = S256x128.rank))).val := by
    match b with
    | ⟨0, _⟩ => exact absurd rfl hb
    | ⟨1, _⟩ => rfl
  unfold column
  interval_cases g
  · refine Eq.trans (concatenate_apply_piece (t := S256x128) 0 _ _ _ 0 (by simp) S16x128 _ (by rfl) rfl (16 * 0) (by rfl) (ix2 p l) (fun b hb => off b hb _) (by rfl)) ?_
    refine Eq.trans (piece_apply _ 0 (by norm_num) ti tv (z0 0) (s0 0) p l n ht) ?_
    pointwise []
    rfl
  · refine Eq.trans (concatenate_apply_piece (t := S256x128) 0 _ _ _ 1 (by simp) S16x128 _ (by rfl) rfl (16 * 1) (by rfl) (ix2 p l) (fun b hb => off b hb _) (by rfl)) ?_
    refine Eq.trans (piece_apply _ 1 (by norm_num) ti tv (z1 0) (s1 0) p l n ht) ?_
    pointwise []
    rfl
  · refine Eq.trans (concatenate_apply_piece (t := S256x128) 0 _ _ _ 2 (by simp) S16x128 _ (by rfl) rfl (16 * 2) (by rfl) (ix2 p l) (fun b hb => off b hb _) (by rfl)) ?_
    refine Eq.trans (piece_apply _ 2 (by norm_num) ti tv (z0 1) (s0 1) p l n ht) ?_
    pointwise []
    rfl
  · refine Eq.trans (concatenate_apply_piece (t := S256x128) 0 _ _ _ 3 (by simp) S16x128 _ (by rfl) rfl (16 * 3) (by rfl) (ix2 p l) (fun b hb => off b hb _) (by rfl)) ?_
    refine Eq.trans (piece_apply _ 3 (by norm_num) ti tv (z1 1) (s1 1) p l n ht) ?_
    pointwise []
    rfl
  · refine Eq.trans (concatenate_apply_piece (t := S256x128) 0 _ _ _ 4 (by simp) S16x128 _ (by rfl) rfl (16 * 4) (by rfl) (ix2 p l) (fun b hb => off b hb _) (by rfl)) ?_
    refine Eq.trans (piece_apply _ 4 (by norm_num) ti tv (z0 2) (s0 2) p l n ht) ?_
    pointwise []
    rfl
  · refine Eq.trans (concatenate_apply_piece (t := S256x128) 0 _ _ _ 5 (by simp) S16x128 _ (by rfl) rfl (16 * 5) (by rfl) (ix2 p l) (fun b hb => off b hb _) (by rfl)) ?_
    refine Eq.trans (piece_apply _ 5 (by norm_num) ti tv (z1 2) (s1 2) p l n ht) ?_
    pointwise []
    rfl
  · refine Eq.trans (concatenate_apply_piece (t := S256x128) 0 _ _ _ 6 (by simp) S16x128 _ (by rfl) rfl (16 * 6) (by rfl) (ix2 p l) (fun b hb => off b hb _) (by rfl)) ?_
    refine Eq.trans (piece_apply _ 6 (by norm_num) ti tv (z0 3) (s0 3) p l n ht) ?_
    pointwise []
    rfl
  · refine Eq.trans (concatenate_apply_piece (t := S256x128) 0 _ _ _ 7 (by simp) S16x128 _ (by rfl) rfl (16 * 7) (by rfl) (ix2 p l) (fun b hb => off b hb _) (by rfl)) ?_
    refine Eq.trans (piece_apply _ 7 (by norm_num) ti tv (z1 3) (s1 3) p l n ht) ?_
    pointwise []
    rfl
  · refine Eq.trans (concatenate_apply_piece (t := S256x128) 0 _ _ _ 8 (by simp) S16x128 _ (by rfl) rfl (16 * 8) (by rfl) (ix2 p l) (fun b hb => off b hb _) (by rfl)) ?_
    refine Eq.trans (piece_apply _ 8 (by norm_num) ti tv (z0 4) (s0 4) p l n ht) ?_
    pointwise []
    rfl
  · refine Eq.trans (concatenate_apply_piece (t := S256x128) 0 _ _ _ 9 (by simp) S16x128 _ (by rfl) rfl (16 * 9) (by rfl) (ix2 p l) (fun b hb => off b hb _) (by rfl)) ?_
    refine Eq.trans (piece_apply _ 9 (by norm_num) ti tv (z1 4) (s1 4) p l n ht) ?_
    pointwise []
    rfl
  · refine Eq.trans (concatenate_apply_piece (t := S256x128) 0 _ _ _ 10 (by simp) S16x128 _ (by rfl) rfl (16 * 10) (by rfl) (ix2 p l) (fun b hb => off b hb _) (by rfl)) ?_
    refine Eq.trans (piece_apply _ 10 (by norm_num) ti tv (z0 5) (s0 5) p l n ht) ?_
    pointwise []
    rfl
  · refine Eq.trans (concatenate_apply_piece (t := S256x128) 0 _ _ _ 11 (by simp) S16x128 _ (by rfl) rfl (16 * 11) (by rfl) (ix2 p l) (fun b hb => off b hb _) (by rfl)) ?_
    refine Eq.trans (piece_apply _ 11 (by norm_num) ti tv (z1 5) (s1 5) p l n ht) ?_
    pointwise []
    rfl
  · refine Eq.trans (concatenate_apply_piece (t := S256x128) 0 _ _ _ 12 (by simp) S16x128 _ (by rfl) rfl (16 * 12) (by rfl) (ix2 p l) (fun b hb => off b hb _) (by rfl)) ?_
    refine Eq.trans (piece_apply _ 12 (by norm_num) ti tv (z0 6) (s0 6) p l n ht) ?_
    pointwise []
    rfl
  · refine Eq.trans (concatenate_apply_piece (t := S256x128) 0 _ _ _ 13 (by simp) S16x128 _ (by rfl) rfl (16 * 13) (by rfl) (ix2 p l) (fun b hb => off b hb _) (by rfl)) ?_
    refine Eq.trans (piece_apply _ 13 (by norm_num) ti tv (z1 6) (s1 6) p l n ht) ?_
    pointwise []
    rfl
  · refine Eq.trans (concatenate_apply_piece (t := S256x128) 0 _ _ _ 14 (by simp) S16x128 _ (by rfl) rfl (16 * 14) (by rfl) (ix2 p l) (fun b hb => off b hb _) (by rfl)) ?_
    refine Eq.trans (piece_apply _ 14 (by norm_num) ti tv (z0 7) (s0 7) p l n ht) ?_
    pointwise []
    rfl
  · refine Eq.trans (concatenate_apply_piece (t := S256x128) 0 _ _ _ 15 (by simp) S16x128 _ (by rfl) rfl (16 * 15) (by rfl) (ix2 p l) (fun b hb => off b hb _) (by rfl)) ?_
    refine Eq.trans (piece_apply _ 15 (by norm_num) ti tv (z1 7) (s1 7) p l n ht) ?_
    pointwise []
    rfl

end Cert.Proof.KernelIdeal

end
-- ==== Proof.KernelIdealEntry.lean ====
/-
  The tiles that the window loops push, read at an index: every entry is the cell of its row and column of the block
  (untrusted, hand-written).
-/
module

public import proofs.«01_k».proof.Proof.KernelIdealColumn
public import Idealize.ShloMosaic.Lib.WholeRead

@[expose] public section

set_option maxRecDepth 16384
set_option maxHeartbeats 4000000

noncomputable section

namespace Cert.Proof.KernelIdeal

open Cert.KernelIdeal Cert.KernelIdeal.Gen
open Idealize.ShloMosaic

theorem ix2_congr {m n : ℕ} {a a' : Fin m} {b b' : Fin n} (ha : a.val = a'.val) (hb : b.val = b'.val) : ix2 a b = ix2 a' b' := by
  rw [Fin.ext ha, Fin.ext hb]

theorem ix4_congr {m n o p : ℕ} {a a' : Fin m} {b b' : Fin n} {c c' : Fin o} {d d' : Fin p} (ha : a.val = a'.val)
    (hb : b.val = b'.val) (hc : c.val = c'.val) (hd : d.val = d'.val) : ix4 a b c d = ix4 a' b' c' d' := by
  rw [Fin.ext ha, Fin.ext hb, Fin.ext hc, Fin.ext hd]

/-- The group whose row a scratch buffer keeps in plane `a`, row `b`. -/
def groupAt (a : Fin 2) (b : Fin 224) : Fin 448 := ⟨2 * b.val + a.val, by omega⟩

/-- What a rank-2 load of a whole buffer reads. -/
theorem read2 {M N r n : ℕ} {e : EltTy} {m : Memref sig .tc .vmem ⟨2, ![M, N]⟩ e} (h : m.IsWhole)
    (x : (⟨2, ![M, N]⟩ : Shape).Idx → Elt Ideal e) (off : Fin 2 → ℕ) (a b : ℕ) (ho : off = ![a, b])
    (inb : ∀ d, off d + (⟨2, ![r, n]⟩ : Shape).size d ≤ (⟨2, ![M, N]⟩ : Shape).size d) (i : Fin r) (j : Fin n)
    (i' : Fin M) (j' : Fin N) (hi : i'.val = a + i.val) (hj : j'.val = b + j.val) :
    m.view.readAt (Elt Ideal) (Rect.unit (s := ⟨2, ![M, N]⟩) off (⟨2, ![r, n]⟩ : Shape).size inb).toLoadRect (h.unread x) (ix2 i j)
      = x (ix2 i' j') := by
  subst ho
  refine (h.readAt_unread x _ _).trans (congrArg x ?_)
  funext d
  match d with
  | ⟨0, _⟩ => exact Fin.ext (by show a + 1 * i.val = i'.val; omega)
  | ⟨1, _⟩ => exact Fin.ext (by show b + 1 * j.val = j'.val; omega)

/-- What a load of one row of pairs of a whole scratch buffer reads. -/
theorem read4 {m : Memref sig .tc .vmem S2x224x2x1024 .bf16} (h : m.IsWhole)
    (x : S2x224x2x1024.Idx → Elt Ideal .bf16) (off : Fin 4 → ℕ) (a b d : ℕ) (ho : off = ![a, b, 0, d])
    (inb : ∀ k, off k + S1x1x2x128.size k ≤ S2x224x2x1024.size k) (q : Fin 2) (l : Fin 128)
    (a' : Fin 2) (b' : Fin 224) (d' : Fin 1024) (ha : a'.val = a) (hb : b'.val = b) (hd : d'.val = d + l.val) :
    m.view.readAt (Elt Ideal) (Rect.unit (s := S2x224x2x1024) off S1x1x2x128.size inb).toLoadRect (h.unread x) (ix4 0 0 q l)
      = x (ix4 a' b' q d') := by
  subst ho
  refine (h.readAt_unread x _ _).trans (congrArg x ?_)
  funext k
  match k with
  | ⟨0, _⟩ => exact Fin.ext (by show a + 1 * 0 = a'.val; omega)
  | ⟨1, _⟩ => exact Fin.ext (by show b + 1 * 0 = b'.val; omega)
  | ⟨2, _⟩ => exact Fin.ext (by show 0 + 1 * q.val = q.val; omega)
  | ⟨3, _⟩ => exact Fin.ext (by show d + 1 * l.val = d'.val; omega)

/-- The entry of the weight at row `R` and column `C` of a block of 1024 columns. -/
def entry (x2 : S3584x1024.Idx → BitVec 8) (x3 : S448x1024.Idx → EReal) (x4 : S448x1024.Idx → BitVec 8)
    (x5 : S1792x128.Idx → BitVec 32) (x6 : S896x128.Idx → BitVec 32) (R : Fin 7168) (C : Fin 1024) : EReal :=
  cell (x2 (ix2 ⟨R.val / 2, by omega⟩ C)) (R.val % 2) (x4 (ix2 ⟨R.val / 16, by omega⟩ C)) (x3 (ix2 ⟨R.val / 16, by omega⟩ C))
    (x5 (ix2 ⟨224 * (C.val / 128) + 8 * (R.val / 256) + R.val % 16 / 2, by omega⟩ ⟨C.val % 128, by omega⟩)) (R.val % 16 % 2)
    (x6 (ix2 ⟨112 * (C.val / 128) + 4 * (R.val / 256) + R.val % 16 / 4, by omega⟩ ⟨C.val % 128, by omega⟩)) (R.val % 16 % 4)
    (R.val / 16 % 16)

section
variable (x2 : S3584x1024.Idx → BitVec 8) (x3 : S448x1024.Idx → EReal) (x4 : S448x1024.Idx → BitVec 8)
    (x5 : S1792x128.Idx → BitVec 32) (x6 : S896x128.Idx → BitVec 32)

/-- A column of window `K` and lane block `L` holds that window's entries. -/
theorem column_entry (w : Vec Ideal S128x128 .i8) (ti : FVec Ideal S16x128 .bf16) (v : Vec Ideal S8x128 .i32)
    (z0 z1 s0 s1 : Fin 8 → Vec Ideal S1x1x2x128 .bf16) (K L : ℕ) (hK : K < 28) (hL : L < 8)
    (hw : ∀ (a l : Fin 128), w (ix2 a l) = x2 (ix2 ⟨128 * K + a.val, by omega⟩ ⟨128 * L + l.val, by omega⟩))
    (ht : ∀ (p : Fin 16) (l : Fin 128), ti (ix2 p l) = ((mark (x6 (ix2 ⟨112 * L + 4 * K + p.val / 4, by omega⟩ l)) (p.val % 4) : ℝ) : EReal))
    (hv : ∀ (a : Fin 8) (l : Fin 128), v (ix2 a l) = x5 (ix2 ⟨224 * L + 8 * K + a.val, by omega⟩ l))
    (hz0 : ∀ (u : Fin 8) (q : Fin 2) (l : Fin 128), z0 u (ix4 0 0 q l) = num (x4 (ix2 ⟨16 * K + 2 * u.val, by omega⟩ ⟨128 * L + l.val, by omega⟩)))
    (hz1 : ∀ (u : Fin 8) (q : Fin 2) (l : Fin 128), z1 u (ix4 0 0 q l) = num (x4 (ix2 ⟨16 * K + 2 * u.val + 1, by omega⟩ ⟨128 * L + l.val, by omega⟩)))
    (hs0 : ∀ (u : Fin 8) (q : Fin 2) (l : Fin 128), s0 u (ix4 0 0 q l) = x3 (ix2 ⟨16 * K + 2 * u.val, by omega⟩ ⟨128 * L + l.val, by omega⟩))
    (hs1 : ∀ (u : Fin 8) (q : Fin 2) (l : Fin 128), s1 u (ix4 0 0 q l) = x3 (ix2 ⟨16 * K + 2 * u.val + 1, by omega⟩ ⟨128 * L + l.val, by omega⟩))
    (R : Fin 256) (l : Fin 128) (R' : Fin 7168) (C' : Fin 1024) (hR : R'.val = 256 * K + R.val) (hC : C'.val = 128 * L + l.val) :
    column (weights w) ti (values v) z0 z1 s0 s1 (ix2 R l) = entry x2 x3 x4 x5 x6 R' C' := by
  obtain ⟨g, p, hg, eR⟩ : ∃ (g : ℕ) (p : Fin 16) (hg : g < 16), R = ⟨16 * g + p.val, by omega⟩ :=
    ⟨R.val / 16, ⟨R.val % 16, by omega⟩, by omega, Fin.ext (by show _ = 16 * (R.val / 16) + R.val % 16; omega)⟩
  have hz (q : Fin 2) : plane g z0 z1 (ix4 0 0 q l) = num (x4 (ix2 ⟨16 * K + g, by omega⟩ C')) := by
    unfold plane
    split
    · rw [hz0]; exact congrArg num (congrArg x4 (ix2_congr (by show 16 * K + 2 * (g / 2 % 8) = 16 * K + g; omega) hC.symm))
    · rw [hz1]; exact congrArg num (congrArg x4 (ix2_congr (by show 16 * K + 2 * (g / 2 % 8) + 1 = 16 * K + g; omega) hC.symm))
  have hs (q : Fin 2) : plane g s0 s1 (ix4 0 0 q l) = x3 (ix2 ⟨16 * K + g, by omega⟩ C') := by
    unfold plane
    split
    · rw [hs0]; exact congrArg x3 (ix2_congr (by show 16 * K + 2 * (g / 2 % 8) = 16 * K + g; omega) hC.symm)
    · rw [hs1]; exact congrArg x3 (ix2_congr (by show 16 * K + 2 * (g / 2 % 8) + 1 = 16 * K + g; omega) hC.symm)
  have hR' : R'.val = 256 * K + (16 * g + p.val) := by rw [hR, eR]
  rw [eR, column_apply _ _ _ _ _ _ _ g hg p l _ (ht p l), weights_apply, values_apply, hz, hs, hw, hv]
  unfold entry cell
  have e1 : R'.val % 2 = (16 * g + p.val) % 2 := by omega
  have e2 : R'.val / 16 % 16 = g := by omega
  have e3 : R'.val % 16 = p.val := by omega
  have i2 : (ix2 ⟨R'.val / 2, by omega⟩ C' : S3584x1024.Idx) = ix2 ⟨128 * K + (16 * g + p.val) / 2, by omega⟩ ⟨128 * L + l.val, by omega⟩ :=
    ix2_congr (by show R'.val / 2 = 128 * K + (16 * g + p.val) / 2; omega) hC
  have i3 : (ix2 ⟨R'.val / 16, by omega⟩ C' : S448x1024.Idx) = ix2 ⟨16 * K + g, by omega⟩ C' :=
    ix2_congr (by show R'.val / 16 = 16 * K + g; omega) rfl
  have i5 : (ix2 ⟨224 * (C'.val / 128) + 8 * (R'.val / 256) + R'.val % 16 / 2, by omega⟩ ⟨C'.val % 128, by omega⟩ : S1792x128.Idx)
      = ix2 ⟨224 * L + 8 * K + p.val / 2, by omega⟩ l :=
    ix2_congr (by show 224 * (C'.val / 128) + 8 * (R'.val / 256) + R'.val % 16 / 2 = 224 * L + 8 * K + p.val / 2; omega)
      (by show C'.val % 128 = l.val; omega)
  have i6 : (ix2 ⟨112 * (C'.val / 128) + 4 * (R'.val / 256) + R'.val % 16 / 4, by omega⟩ ⟨C'.val % 128, by omega⟩ : S896x128.Idx)
      = ix2 ⟨112 * L + 4 * K + p.val / 4, by omega⟩ l :=
    ix2_congr (by show 112 * (C'.val / 128) + 4 * (R'.val / 256) + R'.val % 16 / 4 = 112 * L + 4 * K + p.val / 4; omega)
      (by show C'.val % 128 = l.val; omega)
  rw [i2, i3, i5, i6, e1, e2, e3]

end

end Cert.Proof.KernelIdeal

end
-- ==== Proof.KernelIdealTileValue.lean ====
/-
  The tiles that the window loops push, and the slabs that they multiply, read at an index (untrusted, hand-written).
-/
module

public import proofs.«01_k».proof.Proof.KernelIdealEntry

@[expose] public section

set_option maxRecDepth 16384
set_option maxHeartbeats 4000000

noncomputable section

namespace Cert.Proof.KernelIdeal

open Cert.KernelIdeal Cert.KernelIdeal.Gen
open Idealize.ShloMosaic

theorem off5_eq : ∀ (t : Fin k0_t2_loop.trips) (k : Fin k0_t3_loop.trips) (r : Fin 2),
    k0_off5 t k (BitVec.ofNat 32 r.val) = ![448 * t.val + 0 + 8 * k.val, 0] := by decide +kernel

theorem off10_eq : ∀ (t : Fin k0_t2_loop.trips) (k : Fin k0_t3_loop.trips) (r : Fin 2),
    k0_off10 t k (BitVec.ofNat 32 r.val) = ![448 * t.val + 112 + 8 * k.val, 0] := by decide +kernel

theorem off18_eq : ∀ (t : Fin k0_t2_loop.trips) (k : Fin k0_t4_loop.trips) (r : Fin 2),
    k0_off18 t k (BitVec.ofNat 32 r.val) = ![448 * t.val + 224 + 8 * k.val, 0] := by decide +kernel

theorem off23_eq : ∀ (t : Fin k0_t2_loop.trips) (k : Fin k0_t4_loop.trips) (r : Fin 2),
    k0_off23 t k (BitVec.ofNat 32 r.val) = ![448 * t.val + 336 + 8 * k.val, 0] := by decide +kernel

variable (arg1 : Memref sig .tc .vmem S128x7168 .bf16) (harg1 : arg1.IsWhole) (arg2 : Memref sig .tc .vmem S3584x1024 .i8) (harg2 : arg2.IsWhole) (arg5 : Memref sig .tc .vmem S1792x128 .i32) (harg5 : arg5.IsWhole) (arg6 : Memref sig .tc .vmem S896x128 .i32) (harg6 : arg6.IsWhole) (arg9 : Memref sig .tc .vmem S2x224x2x1024 .bf16) (harg9 : arg9.IsWhole) (arg10 : Memref sig .tc .vmem S2x224x2x1024 .bf16) (harg10 : arg10.IsWhole)
variable (x1 : S128x7168.Idx → EReal) (x2 : S3584x1024.Idx → BitVec 8) (x3 : S448x1024.Idx → EReal) (x4 : S448x1024.Idx → BitVec 8)
    (x5 : S1792x128.Idx → BitVec 32) (x6 : S896x128.Idx → BitVec 32)
    (S9 S10 : S2x224x2x1024.Idx → EReal)
    (h9 : ∀ (a : Fin 2) (b : Fin 224) (q : Fin 2) (d : Fin 1024), S9 (ix4 a b q d) = x3 (ix2 (groupAt a b) d))
    (h10 : ∀ (a : Fin 2) (b : Fin 224) (q : Fin 2) (d : Fin 1024), S10 (ix4 a b q d) = num (x4 (ix2 (groupAt a b) d)))

include h9 h10 in
theorem tile30_apply (t : Fin k0_t2_loop.trips) (k : Fin k0_t3_loop.trips) (R C : Fin 256) (R' : Fin 7168) (C' : Fin 1024)
    (hR : R'.val = 512 * k.val + 0 + R.val) (hC : C'.val = 512 * t.val + 0 + C.val) :
    tile30 (F := Ideal) arg2 arg5 arg6 arg9 arg10 (harg2.unread x2) (harg5.unread x5) (harg6.unread x6) (harg9.unread S9) (harg10.unread S10) t k (ix2 R C)
      = entry x2 x3 x4 x5 x6 R' C' := by
  have hk : k.val < 14 := Nat.lt_of_lt_of_le k.isLt (by decide)
  have ht : t.val < 2 := Nat.lt_of_lt_of_le t.isLt (by decide)
  unfold tile30
  by_cases hc : C.val < 128
  · refine Eq.trans (concatenate_apply_piece (t := S256x256) 1 _ _ (ix2 R C) 0 (by simp) S256x128 _ (by rfl) rfl 0 (by rfl) (ix2 R ⟨C.val, hc⟩)
      (fun b hb => by match b with | ⟨0, _⟩ => rfl | ⟨1, _⟩ => exact absurd rfl hb) (Nat.zero_add _)) ?_
    · refine column_entry x2 x3 x4 x5 x6 _ _ _ _ _ _ _ (2 * k.val + 0) (4 * t.val + 0) (by omega) (by omega) ?_ ?_ ?_ ?_ ?_ ?_ ?_ R ⟨C.val, by omega⟩ R' C' (by omega) (by show C'.val = 128 * (4 * t.val + 0) + (C.val); omega)
      · intro a l
        exact read2 harg2 x2 _ (256 * k.val + 128 * 0) (512 * t.val + 0) (k0_off6_eq t k 0) _ a l _ _
          (by show 128 * (2 * k.val + 0) + a.val = _; omega) (by show 128 * (4 * t.val + 0) + l.val = _; omega)
      · intro p l
        refine (slots0_apply _ p l).trans (congrArg (fun b => (((mark b (p.val % 4) : ℕ) : ℝ) : EReal)) ?_)
        exact read2 harg6 x6 _ (448 * t.val + 0 + 8 * k.val) 0 (off5_eq t k 0) _ ⟨p.val / 4, by omega⟩ l _ _
          (by show 112 * (4 * t.val + 0) + 4 * (2 * k.val + 0) + p.val / 4 = 448 * t.val + 0 + 8 * k.val + (p.val / 4); omega) (Nat.zero_add _).symm
      · intro a l
        exact read2 harg5 x5 _ (896 * t.val + 0 + 16 * k.val + 8 * 0) 0 ((k0_off4_eq t k 0).trans (by simp; try omega)) _ a l _ _
          (by show 224 * (4 * t.val + 0) + 8 * (2 * k.val + 0) + a.val = 896 * t.val + 0 + 16 * k.val + 8 * 0 + a.val; omega) (Nat.zero_add _).symm
      · intro u q l
        exact (read4 harg10 S10 _ 0 (16 * k.val + 8 * 0 + u.val) (512 * t.val + 0) (k0_off7_eq t k 0 u) _ q l 0 ⟨16 * k.val + 8 * 0 + u.val, by omega⟩
          ⟨128 * (4 * t.val + 0) + l.val, by omega⟩ rfl rfl (by show 128 * (4 * t.val + 0) + l.val = 512 * t.val + 0 + l.val; omega)).trans
          ((h10 _ _ _ _).trans (congrArg (num <| x4 ·) (ix2_congr (by show 2 * (16 * k.val + 8 * 0 + u.val) + 0 = 16 * (2 * k.val + 0) + 2 * u.val; omega) rfl)))
      · intro u q l
        exact (read4 harg10 S10 _ 1 (16 * k.val + 8 * 0 + u.val) (512 * t.val + 0) (k0_off8_eq t k 0 u) _ q l 1 ⟨16 * k.val + 8 * 0 + u.val, by omega⟩
          ⟨128 * (4 * t.val + 0) + l.val, by omega⟩ rfl rfl (by show 128 * (4 * t.val + 0) + l.val = 512 * t.val + 0 + l.val; omega)).trans
          ((h10 _ _ _ _).trans (congrArg (num <| x4 ·) (ix2_congr (by show 2 * (16 * k.val + 8 * 0 + u.val) + 1 = 16 * (2 * k.val + 0) + 2 * u.val + 1; omega) rfl)))
      · intro u q l
        exact (read4 harg9 S9 _ 0 (16 * k.val + 8 * 0 + u.val) (512 * t.val + 0) (k0_off7_eq t k 0 u) _ q l 0 ⟨16 * k.val + 8 * 0 + u.val, by omega⟩
          ⟨128 * (4 * t.val + 0) + l.val, by omega⟩ rfl rfl (by show 128 * (4 * t.val + 0) + l.val = 512 * t.val + 0 + l.val; omega)).trans
          ((h9 _ _ _ _).trans (congrArg x3 (ix2_congr (by show 2 * (16 * k.val + 8 * 0 + u.val) + 0 = 16 * (2 * k.val + 0) + 2 * u.val; omega) rfl)))
      · intro u q l
        exact (read4 harg9 S9 _ 1 (16 * k.val + 8 * 0 + u.val) (512 * t.val + 0) (k0_off8_eq t k 0 u) _ q l 1 ⟨16 * k.val + 8 * 0 + u.val, by omega⟩
          ⟨128 * (4 * t.val + 0) + l.val, by omega⟩ rfl rfl (by show 128 * (4 * t.val + 0) + l.val = 512 * t.val + 0 + l.val; omega)).trans
          ((h9 _ _ _ _).trans (congrArg x3 (ix2_congr (by show 2 * (16 * k.val + 8 * 0 + u.val) + 1 = 16 * (2 * k.val + 0) + 2 * u.val + 1; omega) rfl)))
  · refine Eq.trans (concatenate_apply_piece (t := S256x256) 1 _ _ (ix2 R C) 1 (by simp) S256x128 _ (by rfl) rfl 128 (by rfl) (ix2 R ⟨C.val - 128, by omega⟩)
      (fun b hb => by match b with | ⟨0, _⟩ => rfl | ⟨1, _⟩ => exact absurd rfl hb) (by show 128 + (C.val - 128) = C.val; omega)) ?_
    · refine column_entry x2 x3 x4 x5 x6 _ _ _ _ _ _ _ (2 * k.val + 0) (4 * t.val + 1) (by omega) (by omega) ?_ ?_ ?_ ?_ ?_ ?_ ?_ R ⟨C.val - 128, by omega⟩ R' C' (by omega) (by show C'.val = 128 * (4 * t.val + 1) + (C.val - 128); omega)
      · intro a l
        exact read2 harg2 x2 _ (256 * k.val + 128 * 0) (512 * t.val + 128) (k0_off11_eq t k 0) _ a l _ _
          (by show 128 * (2 * k.val + 0) + a.val = _; omega) (by show 128 * (4 * t.val + 1) + l.val = _; omega)
      · intro p l
        refine (slots0_apply _ p l).trans (congrArg (fun b => (((mark b (p.val % 4) : ℕ) : ℝ) : EReal)) ?_)
        exact read2 harg6 x6 _ (448 * t.val + 112 + 8 * k.val) 0 (off10_eq t k 0) _ ⟨p.val / 4, by omega⟩ l _ _
          (by show 112 * (4 * t.val + 1) + 4 * (2 * k.val + 0) + p.val / 4 = 448 * t.val + 112 + 8 * k.val + (p.val / 4); omega) (Nat.zero_add _).symm
      · intro a l
        exact read2 harg5 x5 _ (896 * t.val + 224 + 16 * k.val + 8 * 0) 0 ((k0_off9_eq t k 0).trans (by simp; try omega)) _ a l _ _
          (by show 224 * (4 * t.val + 1) + 8 * (2 * k.val + 0) + a.val = 896 * t.val + 224 + 16 * k.val + 8 * 0 + a.val; omega) (Nat.zero_add _).symm
      · intro u q l
        exact (read4 harg10 S10 _ 0 (16 * k.val + 8 * 0 + u.val) (512 * t.val + 128) (k0_off12_eq t k 0 u) _ q l 0 ⟨16 * k.val + 8 * 0 + u.val, by omega⟩
          ⟨128 * (4 * t.val + 1) + l.val, by omega⟩ rfl rfl (by show 128 * (4 * t.val + 1) + l.val = 512 * t.val + 128 + l.val; omega)).trans
          ((h10 _ _ _ _).trans (congrArg (num <| x4 ·) (ix2_congr (by show 2 * (16 * k.val + 8 * 0 + u.val) + 0 = 16 * (2 * k.val + 0) + 2 * u.val; omega) rfl)))
      · intro u q l
        exact (read4 harg10 S10 _ 1 (16 * k.val + 8 * 0 + u.val) (512 * t.val + 128) (k0_off13_eq t k 0 u) _ q l 1 ⟨16 * k.val + 8 * 0 + u.val, by omega⟩
          ⟨128 * (4 * t.val + 1) + l.val, by omega⟩ rfl rfl (by show 128 * (4 * t.val + 1) + l.val = 512 * t.val + 128 + l.val; omega)).trans
          ((h10 _ _ _ _).trans (congrArg (num <| x4 ·) (ix2_congr (by show 2 * (16 * k.val + 8 * 0 + u.val) + 1 = 16 * (2 * k.val + 0) + 2 * u.val + 1; omega) rfl)))
      · intro u q l
        exact (read4 harg9 S9 _ 0 (16 * k.val + 8 * 0 + u.val) (512 * t.val + 128) (k0_off12_eq t k 0 u) _ q l 0 ⟨16 * k.val + 8 * 0 + u.val, by omega⟩
          ⟨128 * (4 * t.val + 1) + l.val, by omega⟩ rfl rfl (by show 128 * (4 * t.val + 1) + l.val = 512 * t.val + 128 + l.val; omega)).trans
          ((h9 _ _ _ _).trans (congrArg x3 (ix2_congr (by show 2 * (16 * k.val + 8 * 0 + u.val) + 0 = 16 * (2 * k.val + 0) + 2 * u.val; omega) rfl)))
      · intro u q l
        exact (read4 harg9 S9 _ 1 (16 * k.val + 8 * 0 + u.val) (512 * t.val + 128) (k0_off13_eq t k 0 u) _ q l 1 ⟨16 * k.val + 8 * 0 + u.val, by omega⟩
          ⟨128 * (4 * t.val + 1) + l.val, by omega⟩ rfl rfl (by show 128 * (4 * t.val + 1) + l.val = 512 * t.val + 128 + l.val; omega)).trans
          ((h9 _ _ _ _).trans (congrArg x3 (ix2_congr (by show 2 * (16 * k.val + 8 * 0 + u.val) + 1 = 16 * (2 * k.val + 0) + 2 * u.val + 1; omega) rfl)))

theorem slab30_apply (k : Fin k0_t3_loop.trips) (i : Fin 128) (R : Fin 256) (R' : Fin 7168) (hR : R'.val = 512 * k.val + 0 + R.val) :
    slab30 (F := Ideal) arg1 (harg1.unread x1) k (ix2 i R) = x1 (ix2 i R') :=
  read2 harg1 x1 _ 0 (512 * k.val + 256 * 0) (k0_off14_eq k 0) _ i R i R' (Nat.zero_add _).symm (by omega)

include h9 h10 in
theorem tile31_apply (t : Fin k0_t2_loop.trips) (k : Fin k0_t3_loop.trips) (R C : Fin 256) (R' : Fin 7168) (C' : Fin 1024)
    (hR : R'.val = 512 * k.val + 256 + R.val) (hC : C'.val = 512 * t.val + 0 + C.val) :
    tile31 (F := Ideal) arg2 arg5 arg6 arg9 arg10 (harg2.unread x2) (harg5.unread x5) (harg6.unread x6) (harg9.unread S9) (harg10.unread S10) t k (ix2 R C)
      = entry x2 x3 x4 x5 x6 R' C' := by
  have hk : k.val < 14 := Nat.lt_of_lt_of_le k.isLt (by decide)
  have ht : t.val < 2 := Nat.lt_of_lt_of_le t.isLt (by decide)
  unfold tile31
  by_cases hc : C.val < 128
  · refine Eq.trans (concatenate_apply_piece (t := S256x256) 1 _ _ (ix2 R C) 0 (by simp) S256x128 _ (by rfl) rfl 0 (by rfl) (ix2 R ⟨C.val, hc⟩)
      (fun b hb => by match b with | ⟨0, _⟩ => rfl | ⟨1, _⟩ => exact absurd rfl hb) (Nat.zero_add _)) ?_
    · refine column_entry x2 x3 x4 x5 x6 _ _ _ _ _ _ _ (2 * k.val + 1) (4 * t.val + 0) (by omega) (by omega) ?_ ?_ ?_ ?_ ?_ ?_ ?_ R ⟨C.val, by omega⟩ R' C' (by omega) (by show C'.val = 128 * (4 * t.val + 0) + (C.val); omega)
      · intro a l
        exact read2 harg2 x2 _ (256 * k.val + 128 * 1) (512 * t.val + 0) (k0_off6_eq t k 1) _ a l _ _
          (by show 128 * (2 * k.val + 1) + a.val = _; omega) (by show 128 * (4 * t.val + 0) + l.val = _; omega)
      · intro p l
        refine (slots1_apply _ p l).trans (congrArg (fun b => (((mark b (p.val % 4) : ℕ) : ℝ) : EReal)) ?_)
        exact read2 harg6 x6 _ (448 * t.val + 0 + 8 * k.val) 0 (off5_eq t k 1) _ ⟨4 + p.val / 4, by omega⟩ l _ _
          (by show 112 * (4 * t.val + 0) + 4 * (2 * k.val + 1) + p.val / 4 = 448 * t.val + 0 + 8 * k.val + (4 + p.val / 4); omega) (Nat.zero_add _).symm
      · intro a l
        exact read2 harg5 x5 _ (896 * t.val + 0 + 16 * k.val + 8 * 1) 0 ((k0_off4_eq t k 1).trans (by simp; try omega)) _ a l _ _
          (by show 224 * (4 * t.val + 0) + 8 * (2 * k.val + 1) + a.val = 896 * t.val + 0 + 16 * k.val + 8 * 1 + a.val; omega) (Nat.zero_add _).symm
      · intro u q l
        exact (read4 harg10 S10 _ 0 (16 * k.val + 8 * 1 + u.val) (512 * t.val + 0) (k0_off7_eq t k 1 u) _ q l 0 ⟨16 * k.val + 8 * 1 + u.val, by omega⟩
          ⟨128 * (4 * t.val + 0) + l.val, by omega⟩ rfl rfl (by show 128 * (4 * t.val + 0) + l.val = 512 * t.val + 0 + l.val; omega)).trans
          ((h10 _ _ _ _).trans (congrArg (num <| x4 ·) (ix2_congr (by show 2 * (16 * k.val + 8 * 1 + u.val) + 0 = 16 * (2 * k.val + 1) + 2 * u.val; omega) rfl)))
      · intro u q l
        exact (read4 harg10 S10 _ 1 (16 * k.val + 8 * 1 + u.val) (512 * t.val + 0) (k0_off8_eq t k 1 u) _ q l 1 ⟨16 * k.val + 8 * 1 + u.val, by omega⟩
          ⟨128 * (4 * t.val + 0) + l.val, by omega⟩ rfl rfl (by show 128 * (4 * t.val + 0) + l.val = 512 * t.val + 0 + l.val; omega)).trans
          ((h10 _ _ _ _).trans (congrArg (num <| x4 ·) (ix2_congr (by show 2 * (16 * k.val + 8 * 1 + u.val) + 1 = 16 * (2 * k.val + 1) + 2 * u.val + 1; omega) rfl)))
      · intro u q l
        exact (read4 harg9 S9 _ 0 (16 * k.val + 8 * 1 + u.val) (512 * t.val + 0) (k0_off7_eq t k 1 u) _ q l 0 ⟨16 * k.val + 8 * 1 + u.val, by omega⟩
          ⟨128 * (4 * t.val + 0) + l.val, by omega⟩ rfl rfl (by show 128 * (4 * t.val + 0) + l.val = 512 * t.val + 0 + l.val; omega)).trans
          ((h9 _ _ _ _).trans (congrArg x3 (ix2_congr (by show 2 * (16 * k.val + 8 * 1 + u.val) + 0 = 16 * (2 * k.val + 1) + 2 * u.val; omega) rfl)))
      · intro u q l
        exact (read4 harg9 S9 _ 1 (16 * k.val + 8 * 1 + u.val) (512 * t.val + 0) (k0_off8_eq t k 1 u) _ q l 1 ⟨16 * k.val + 8 * 1 + u.val, by omega⟩
          ⟨128 * (4 * t.val + 0) + l.val, by omega⟩ rfl rfl (by show 128 * (4 * t.val + 0) + l.val = 512 * t.val + 0 + l.val; omega)).trans
          ((h9 _ _ _ _).trans (congrArg x3 (ix2_congr (by show 2 * (16 * k.val + 8 * 1 + u.val) + 1 = 16 * (2 * k.val + 1) + 2 * u.val + 1; omega) rfl)))
  · refine Eq.trans (concatenate_apply_piece (t := S256x256) 1 _ _ (ix2 R C) 1 (by simp) S256x128 _ (by rfl) rfl 128 (by rfl) (ix2 R ⟨C.val - 128, by omega⟩)
      (fun b hb => by match b with | ⟨0, _⟩ => rfl | ⟨1, _⟩ => exact absurd rfl hb) (by show 128 + (C.val - 128) = C.val; omega)) ?_
    · refine column_entry x2 x3 x4 x5 x6 _ _ _ _ _ _ _ (2 * k.val + 1) (4 * t.val + 1) (by omega) (by omega) ?_ ?_ ?_ ?_ ?_ ?_ ?_ R ⟨C.val - 128, by omega⟩ R' C' (by omega) (by show C'.val = 128 * (4 * t.val + 1) + (C.val - 128); omega)
      · intro a l
        exact read2 harg2 x2 _ (256 * k.val + 128 * 1) (512 * t.val + 128) (k0_off11_eq t k 1) _ a l _ _
          (by show 128 * (2 * k.val + 1) + a.val = _; omega) (by show 128 * (4 * t.val + 1) + l.val = _; omega)
      · intro p l
        refine (slots1_apply _ p l).trans (congrArg (fun b => (((mark b (p.val % 4) : ℕ) : ℝ) : EReal)) ?_)
        exact read2 harg6 x6 _ (448 * t.val + 112 + 8 * k.val) 0 (off10_eq t k 1) _ ⟨4 + p.val / 4, by omega⟩ l _ _
          (by show 112 * (4 * t.val + 1) + 4 * (2 * k.val + 1) + p.val / 4 = 448 * t.val + 112 + 8 * k.val + (4 + p.val / 4); omega) (Nat.zero_add _).symm
      · intro a l
        exact read2 harg5 x5 _ (896 * t.val + 224 + 16 * k.val + 8 * 1) 0 ((k0_off9_eq t k 1).trans (by simp; try omega)) _ a l _ _
          (by show 224 * (4 * t.val + 1) + 8 * (2 * k.val + 1) + a.val = 896 * t.val + 224 + 16 * k.val + 8 * 1 + a.val; omega) (Nat.zero_add _).symm
      · intro u q l
        exact (read4 harg10 S10 _ 0 (16 * k.val + 8 * 1 + u.val) (512 * t.val + 128) (k0_off12_eq t k 1 u) _ q l 0 ⟨16 * k.val + 8 * 1 + u.val, by omega⟩
          ⟨128 * (4 * t.val + 1) + l.val, by omega⟩ rfl rfl (by show 128 * (4 * t.val + 1) + l.val = 512 * t.val + 128 + l.val; omega)).trans
          ((h10 _ _ _ _).trans (congrArg (num <| x4 ·) (ix2_congr (by show 2 * (16 * k.val + 8 * 1 + u.val) + 0 = 16 * (2 * k.val + 1) + 2 * u.val; omega) rfl)))
      · intro u q l
        exact (read4 harg10 S10 _ 1 (16 * k.val + 8 * 1 + u.val) (512 * t.val + 128) (k0_off13_eq t k 1 u) _ q l 1 ⟨16 * k.val + 8 * 1 + u.val, by omega⟩
          ⟨128 * (4 * t.val + 1) + l.val, by omega⟩ rfl rfl (by show 128 * (4 * t.val + 1) + l.val = 512 * t.val + 128 + l.val; omega)).trans
          ((h10 _ _ _ _).trans (congrArg (num <| x4 ·) (ix2_congr (by show 2 * (16 * k.val + 8 * 1 + u.val) + 1 = 16 * (2 * k.val + 1) + 2 * u.val + 1; omega) rfl)))
      · intro u q l
        exact (read4 harg9 S9 _ 0 (16 * k.val + 8 * 1 + u.val) (512 * t.val + 128) (k0_off12_eq t k 1 u) _ q l 0 ⟨16 * k.val + 8 * 1 + u.val, by omega⟩
          ⟨128 * (4 * t.val + 1) + l.val, by omega⟩ rfl rfl (by show 128 * (4 * t.val + 1) + l.val = 512 * t.val + 128 + l.val; omega)).trans
          ((h9 _ _ _ _).trans (congrArg x3 (ix2_congr (by show 2 * (16 * k.val + 8 * 1 + u.val) + 0 = 16 * (2 * k.val + 1) + 2 * u.val; omega) rfl)))
      · intro u q l
        exact (read4 harg9 S9 _ 1 (16 * k.val + 8 * 1 + u.val) (512 * t.val + 128) (k0_off13_eq t k 1 u) _ q l 1 ⟨16 * k.val + 8 * 1 + u.val, by omega⟩
          ⟨128 * (4 * t.val + 1) + l.val, by omega⟩ rfl rfl (by show 128 * (4 * t.val + 1) + l.val = 512 * t.val + 128 + l.val; omega)).trans
          ((h9 _ _ _ _).trans (congrArg x3 (ix2_congr (by show 2 * (16 * k.val + 8 * 1 + u.val) + 1 = 16 * (2 * k.val + 1) + 2 * u.val + 1; omega) rfl)))

theorem slab31_apply (k : Fin k0_t3_loop.trips) (i : Fin 128) (R : Fin 256) (R' : Fin 7168) (hR : R'.val = 512 * k.val + 256 + R.val) :
    slab31 (F := Ideal) arg1 (harg1.unread x1) k (ix2 i R) = x1 (ix2 i R') :=
  read2 harg1 x1 _ 0 (512 * k.val + 256 * 1) (k0_off14_eq k 1) _ i R i R' (Nat.zero_add _).symm (by omega)

include h9 h10 in
theorem tile40_apply (t : Fin k0_t2_loop.trips) (k : Fin k0_t4_loop.trips) (R C : Fin 256) (R' : Fin 7168) (C' : Fin 1024)
    (hR : R'.val = 512 * k.val + 0 + R.val) (hC : C'.val = 512 * t.val + 256 + C.val) :
    tile40 (F := Ideal) arg2 arg5 arg6 arg9 arg10 (harg2.unread x2) (harg5.unread x5) (harg6.unread x6) (harg9.unread S9) (harg10.unread S10) t k (ix2 R C)
      = entry x2 x3 x4 x5 x6 R' C' := by
  have hk : k.val < 14 := Nat.lt_of_lt_of_le k.isLt (by decide)
  have ht : t.val < 2 := Nat.lt_of_lt_of_le t.isLt (by decide)
  unfold tile40
  by_cases hc : C.val < 128
  · refine Eq.trans (concatenate_apply_piece (t := S256x256) 1 _ _ (ix2 R C) 0 (by simp) S256x128 _ (by rfl) rfl 0 (by rfl) (ix2 R ⟨C.val, hc⟩)
      (fun b hb => by match b with | ⟨0, _⟩ => rfl | ⟨1, _⟩ => exact absurd rfl hb) (Nat.zero_add _)) ?_
    · refine column_entry x2 x3 x4 x5 x6 _ _ _ _ _ _ _ (2 * k.val + 0) (4 * t.val + 2) (by omega) (by omega) ?_ ?_ ?_ ?_ ?_ ?_ ?_ R ⟨C.val, by omega⟩ R' C' (by omega) (by show C'.val = 128 * (4 * t.val + 2) + (C.val); omega)
      · intro a l
        exact read2 harg2 x2 _ (256 * k.val + 128 * 0) (512 * t.val + 256) (k0_off19_eq t k 0) _ a l _ _
          (by show 128 * (2 * k.val + 0) + a.val = _; omega) (by show 128 * (4 * t.val + 2) + l.val = _; omega)
      · intro p l
        refine (slots0_apply _ p l).trans (congrArg (fun b => (((mark b (p.val % 4) : ℕ) : ℝ) : EReal)) ?_)
        exact read2 harg6 x6 _ (448 * t.val + 224 + 8 * k.val) 0 (off18_eq t k 0) _ ⟨p.val / 4, by omega⟩ l _ _
          (by show 112 * (4 * t.val + 2) + 4 * (2 * k.val + 0) + p.val / 4 = 448 * t.val + 224 + 8 * k.val + (p.val / 4); omega) (Nat.zero_add _).symm
      · intro a l
        exact read2 harg5 x5 _ (896 * t.val + 448 + 16 * k.val + 8 * 0) 0 ((k0_off17_eq t k 0).trans (by simp; try omega)) _ a l _ _
          (by show 224 * (4 * t.val + 2) + 8 * (2 * k.val + 0) + a.val = 896 * t.val + 448 + 16 * k.val + 8 * 0 + a.val; omega) (Nat.zero_add _).symm
      · intro u q l
        exact (read4 harg10 S10 _ 0 (16 * k.val + 8 * 0 + u.val) (512 * t.val + 256) (k0_off20_eq t k 0 u) _ q l 0 ⟨16 * k.val + 8 * 0 + u.val, by omega⟩
          ⟨128 * (4 * t.val + 2) + l.val, by omega⟩ rfl rfl (by show 128 * (4 * t.val + 2) + l.val = 512 * t.val + 256 + l.val; omega)).trans
          ((h10 _ _ _ _).trans (congrArg (num <| x4 ·) (ix2_congr (by show 2 * (16 * k.val + 8 * 0 + u.val) + 0 = 16 * (2 * k.val + 0) + 2 * u.val; omega) rfl)))
      · intro u q l
        exact (read4 harg10 S10 _ 1 (16 * k.val + 8 * 0 + u.val) (512 * t.val + 256) (k0_off21_eq t k 0 u) _ q l 1 ⟨16 * k.val + 8 * 0 + u.val, by omega⟩
          ⟨128 * (4 * t.val + 2) + l.val, by omega⟩ rfl rfl (by show 128 * (4 * t.val + 2) + l.val = 512 * t.val + 256 + l.val; omega)).trans
          ((h10 _ _ _ _).trans (congrArg (num <| x4 ·) (ix2_congr (by show 2 * (16 * k.val + 8 * 0 + u.val) + 1 = 16 * (2 * k.val + 0) + 2 * u.val + 1; omega) rfl)))
      · intro u q l
        exact (read4 harg9 S9 _ 0 (16 * k.val + 8 * 0 + u.val) (512 * t.val + 256) (k0_off20_eq t k 0 u) _ q l 0 ⟨16 * k.val + 8 * 0 + u.val, by omega⟩
          ⟨128 * (4 * t.val + 2) + l.val, by omega⟩ rfl rfl (by show 128 * (4 * t.val + 2) + l.val = 512 * t.val + 256 + l.val; omega)).trans
          ((h9 _ _ _ _).trans (congrArg x3 (ix2_congr (by show 2 * (16 * k.val + 8 * 0 + u.val) + 0 = 16 * (2 * k.val + 0) + 2 * u.val; omega) rfl)))
      · intro u q l
        exact (read4 harg9 S9 _ 1 (16 * k.val + 8 * 0 + u.val) (512 * t.val + 256) (k0_off21_eq t k 0 u) _ q l 1 ⟨16 * k.val + 8 * 0 + u.val, by omega⟩
          ⟨128 * (4 * t.val + 2) + l.val, by omega⟩ rfl rfl (by show 128 * (4 * t.val + 2) + l.val = 512 * t.val + 256 + l.val; omega)).trans
          ((h9 _ _ _ _).trans (congrArg x3 (ix2_congr (by show 2 * (16 * k.val + 8 * 0 + u.val) + 1 = 16 * (2 * k.val + 0) + 2 * u.val + 1; omega) rfl)))
  · refine Eq.trans (concatenate_apply_piece (t := S256x256) 1 _ _ (ix2 R C) 1 (by simp) S256x128 _ (by rfl) rfl 128 (by rfl) (ix2 R ⟨C.val - 128, by omega⟩)
      (fun b hb => by match b with | ⟨0, _⟩ => rfl | ⟨1, _⟩ => exact absurd rfl hb) (by show 128 + (C.val - 128) = C.val; omega)) ?_
    · refine column_entry x2 x3 x4 x5 x6 _ _ _ _ _ _ _ (2 * k.val + 0) (4 * t.val + 3) (by omega) (by omega) ?_ ?_ ?_ ?_ ?_ ?_ ?_ R ⟨C.val - 128, by omega⟩ R' C' (by omega) (by show C'.val = 128 * (4 * t.val + 3) + (C.val - 128); omega)
      · intro a l
        exact read2 harg2 x2 _ (256 * k.val + 128 * 0) (512 * t.val + 384) (k0_off24_eq t k 0) _ a l _ _
          (by show 128 * (2 * k.val + 0) + a.val = _; omega) (by show 128 * (4 * t.val + 3) + l.val = _; omega)
      · intro p l
        refine (slots0_apply _ p l).trans (congrArg (fun b => (((mark b (p.val % 4) : ℕ) : ℝ) : EReal)) ?_)
        exact read2 harg6 x6 _ (448 * t.val + 336 + 8 * k.val) 0 (off23_eq t k 0) _ ⟨p.val / 4, by omega⟩ l _ _
          (by show 112 * (4 * t.val + 3) + 4 * (2 * k.val + 0) + p.val / 4 = 448 * t.val + 336 + 8 * k.val + (p.val / 4); omega) (Nat.zero_add _).symm
      · intro a l
        exact read2 harg5 x5 _ (896 * t.val + 672 + 16 * k.val + 8 * 0) 0 ((k0_off22_eq t k 0).trans (by simp; try omega)) _ a l _ _
          (by show 224 * (4 * t.val + 3) + 8 * (2 * k.val + 0) + a.val = 896 * t.val + 672 + 16 * k.val + 8 * 0 + a.val; omega) (Nat.zero_add _).symm
      · intro u q l
        exact (read4 harg10 S10 _ 0 (16 * k.val + 8 * 0 + u.val) (512 * t.val + 384) (k0_off25_eq t k 0 u) _ q l 0 ⟨16 * k.val + 8 * 0 + u.val, by omega⟩
          ⟨128 * (4 * t.val + 3) + l.val, by omega⟩ rfl rfl (by show 128 * (4 * t.val + 3) + l.val = 512 * t.val + 384 + l.val; omega)).trans
          ((h10 _ _ _ _).trans (congrArg (num <| x4 ·) (ix2_congr (by show 2 * (16 * k.val + 8 * 0 + u.val) + 0 = 16 * (2 * k.val + 0) + 2 * u.val; omega) rfl)))
      · intro u q l
        exact (read4 harg10 S10 _ 1 (16 * k.val + 8 * 0 + u.val) (512 * t.val + 384) (k0_off26_eq t k 0 u) _ q l 1 ⟨16 * k.val + 8 * 0 + u.val, by omega⟩
          ⟨128 * (4 * t.val + 3) + l.val, by omega⟩ rfl rfl (by show 128 * (4 * t.val + 3) + l.val = 512 * t.val + 384 + l.val; omega)).trans
          ((h10 _ _ _ _).trans (congrArg (num <| x4 ·) (ix2_congr (by show 2 * (16 * k.val + 8 * 0 + u.val) + 1 = 16 * (2 * k.val + 0) + 2 * u.val + 1; omega) rfl)))
      · intro u q l
        exact (read4 harg9 S9 _ 0 (16 * k.val + 8 * 0 + u.val) (512 * t.val + 384) (k0_off25_eq t k 0 u) _ q l 0 ⟨16 * k.val + 8 * 0 + u.val, by omega⟩
          ⟨128 * (4 * t.val + 3) + l.val, by omega⟩ rfl rfl (by show 128 * (4 * t.val + 3) + l.val = 512 * t.val + 384 + l.val; omega)).trans
          ((h9 _ _ _ _).trans (congrArg x3 (ix2_congr (by show 2 * (16 * k.val + 8 * 0 + u.val) + 0 = 16 * (2 * k.val + 0) + 2 * u.val; omega) rfl)))
      · intro u q l
        exact (read4 harg9 S9 _ 1 (16 * k.val + 8 * 0 + u.val) (512 * t.val + 384) (k0_off26_eq t k 0 u) _ q l 1 ⟨16 * k.val + 8 * 0 + u.val, by omega⟩
          ⟨128 * (4 * t.val + 3) + l.val, by omega⟩ rfl rfl (by show 128 * (4 * t.val + 3) + l.val = 512 * t.val + 384 + l.val; omega)).trans
          ((h9 _ _ _ _).trans (congrArg x3 (ix2_congr (by show 2 * (16 * k.val + 8 * 0 + u.val) + 1 = 16 * (2 * k.val + 0) + 2 * u.val + 1; omega) rfl)))

theorem slab40_apply (k : Fin k0_t4_loop.trips) (i : Fin 128) (R : Fin 256) (R' : Fin 7168) (hR : R'.val = 512 * k.val + 0 + R.val) :
    slab40 (F := Ideal) arg1 (harg1.unread x1) k (ix2 i R) = x1 (ix2 i R') :=
  read2 harg1 x1 _ 0 (512 * k.val + 256 * 0) (k0_off27_eq k 0) _ i R i R' (Nat.zero_add _).symm (by omega)

include h9 h10 in
theorem tile41_apply (t : Fin k0_t2_loop.trips) (k : Fin k0_t4_loop.trips) (R C : Fin 256) (R' : Fin 7168) (C' : Fin 1024)
    (hR : R'.val = 512 * k.val + 256 + R.val) (hC : C'.val = 512 * t.val + 256 + C.val) :
    tile41 (F := Ideal) arg2 arg5 arg6 arg9 arg10 (harg2.unread x2) (harg5.unread x5) (harg6.unread x6) (harg9.unread S9) (harg10.unread S10) t k (ix2 R C)
      = entry x2 x3 x4 x5 x6 R' C' := by
  have hk : k.val < 14 := Nat.lt_of_lt_of_le k.isLt (by decide)
  have ht : t.val < 2 := Nat.lt_of_lt_of_le t.isLt (by decide)
  unfold tile41
  by_cases hc : C.val < 128
  · refine Eq.trans (concatenate_apply_piece (t := S256x256) 1 _ _ (ix2 R C) 0 (by simp) S256x128 _ (by rfl) rfl 0 (by rfl) (ix2 R ⟨C.val, hc⟩)
      (fun b hb => by match b with | ⟨0, _⟩ => rfl | ⟨1, _⟩ => exact absurd rfl hb) (Nat.zero_add _)) ?_
    · refine column_entry x2 x3 x4 x5 x6 _ _ _ _ _ _ _ (2 * k.val + 1) (4 * t.val + 2) (by omega) (by omega) ?_ ?_ ?_ ?_ ?_ ?_ ?_ R ⟨C.val, by omega⟩ R' C' (by omega) (by show C'.val = 128 * (4 * t.val + 2) + (C.val); omega)
      · intro a l
        exact read2 harg2 x2 _ (256 * k.val + 128 * 1) (512 * t.val + 256) (k0_off19_eq t k 1) _ a l _ _
          (by show 128 * (2 * k.val + 1) + a.val = _; omega) (by show 128 * (4 * t.val + 2) + l.val = _; omega)
      · intro p l
        refine (slots1_apply _ p l).trans (congrArg (fun b => (((mark b (p.val % 4) : ℕ) : ℝ) : EReal)) ?_)
        exact read2 harg6 x6 _ (448 * t.val + 224 + 8 * k.val) 0 (off18_eq t k 1) _ ⟨4 + p.val / 4, by omega⟩ l _ _
          (by show 112 * (4 * t.val + 2) + 4 * (2 * k.val + 1) + p.val / 4 = 448 * t.val + 224 + 8 * k.val + (4 + p.val / 4); omega) (Nat.zero_add _).symm
      · intro a l
        exact read2 harg5 x5 _ (896 * t.val + 448 + 16 * k.val + 8 * 1) 0 ((k0_off17_eq t k 1).trans (by simp; try omega)) _ a l _ _
          (by show 224 * (4 * t.val + 2) + 8 * (2 * k.val + 1) + a.val = 896 * t.val + 448 + 16 * k.val + 8 * 1 + a.val; omega) (Nat.zero_add _).symm
      · intro u q l
        exact (read4 harg10 S10 _ 0 (16 * k.val + 8 * 1 + u.val) (512 * t.val + 256) (k0_off20_eq t k 1 u) _ q l 0 ⟨16 * k.val + 8 * 1 + u.val, by omega⟩
          ⟨128 * (4 * t.val + 2) + l.val, by omega⟩ rfl rfl (by show 128 * (4 * t.val + 2) + l.val = 512 * t.val + 256 + l.val; omega)).trans
          ((h10 _ _ _ _).trans (congrArg (num <| x4 ·) (ix2_congr (by show 2 * (16 * k.val + 8 * 1 + u.val) + 0 = 16 * (2 * k.val + 1) + 2 * u.val; omega) rfl)))
      · intro u q l
        exact (read4 harg10 S10 _ 1 (16 * k.val + 8 * 1 + u.val) (512 * t.val + 256) (k0_off21_eq t k 1 u) _ q l 1 ⟨16 * k.val + 8 * 1 + u.val, by omega⟩
          ⟨128 * (4 * t.val + 2) + l.val, by omega⟩ rfl rfl (by show 128 * (4 * t.val + 2) + l.val = 512 * t.val + 256 + l.val; omega)).trans
          ((h10 _ _ _ _).trans (congrArg (num <| x4 ·) (ix2_congr (by show 2 * (16 * k.val + 8 * 1 + u.val) + 1 = 16 * (2 * k.val + 1) + 2 * u.val + 1; omega) rfl)))
      · intro u q l
        exact (read4 harg9 S9 _ 0 (16 * k.val + 8 * 1 + u.val) (512 * t.val + 256) (k0_off20_eq t k 1 u) _ q l 0 ⟨16 * k.val + 8 * 1 + u.val, by omega⟩
          ⟨128 * (4 * t.val + 2) + l.val, by omega⟩ rfl rfl (by show 128 * (4 * t.val + 2) + l.val = 512 * t.val + 256 + l.val; omega)).trans
          ((h9 _ _ _ _).trans (congrArg x3 (ix2_congr (by show 2 * (16 * k.val + 8 * 1 + u.val) + 0 = 16 * (2 * k.val + 1) + 2 * u.val; omega) rfl)))
      · intro u q l
        exact (read4 harg9 S9 _ 1 (16 * k.val + 8 * 1 + u.val) (512 * t.val + 256) (k0_off21_eq t k 1 u) _ q l 1 ⟨16 * k.val + 8 * 1 + u.val, by omega⟩
          ⟨128 * (4 * t.val + 2) + l.val, by omega⟩ rfl rfl (by show 128 * (4 * t.val + 2) + l.val = 512 * t.val + 256 + l.val; omega)).trans
          ((h9 _ _ _ _).trans (congrArg x3 (ix2_congr (by show 2 * (16 * k.val + 8 * 1 + u.val) + 1 = 16 * (2 * k.val + 1) + 2 * u.val + 1; omega) rfl)))
  · refine Eq.trans (concatenate_apply_piece (t := S256x256) 1 _ _ (ix2 R C) 1 (by simp) S256x128 _ (by rfl) rfl 128 (by rfl) (ix2 R ⟨C.val - 128, by omega⟩)
      (fun b hb => by match b with | ⟨0, _⟩ => rfl | ⟨1, _⟩ => exact absurd rfl hb) (by show 128 + (C.val - 128) = C.val; omega)) ?_
    · refine column_entry x2 x3 x4 x5 x6 _ _ _ _ _ _ _ (2 * k.val + 1) (4 * t.val + 3) (by omega) (by omega) ?_ ?_ ?_ ?_ ?_ ?_ ?_ R ⟨C.val - 128, by omega⟩ R' C' (by omega) (by show C'.val = 128 * (4 * t.val + 3) + (C.val - 128); omega)
      · intro a l
        exact read2 harg2 x2 _ (256 * k.val + 128 * 1) (512 * t.val + 384) (k0_off24_eq t k 1) _ a l _ _
          (by show 128 * (2 * k.val + 1) + a.val = _; omega) (by show 128 * (4 * t.val + 3) + l.val = _; omega)
      · intro p l
        refine (slots1_apply _ p l).trans (congrArg (fun b => (((mark b (p.val % 4) : ℕ) : ℝ) : EReal)) ?_)
        exact read2 harg6 x6 _ (448 * t.val + 336 + 8 * k.val) 0 (off23_eq t k 1) _ ⟨4 + p.val / 4, by omega⟩ l _ _
          (by show 112 * (4 * t.val + 3) + 4 * (2 * k.val + 1) + p.val / 4 = 448 * t.val + 336 + 8 * k.val + (4 + p.val / 4); omega) (Nat.zero_add _).symm
      · intro a l
        exact read2 harg5 x5 _ (896 * t.val + 672 + 16 * k.val + 8 * 1) 0 ((k0_off22_eq t k 1).trans (by simp; try omega)) _ a l _ _
          (by show 224 * (4 * t.val + 3) + 8 * (2 * k.val + 1) + a.val = 896 * t.val + 672 + 16 * k.val + 8 * 1 + a.val; omega) (Nat.zero_add _).symm
      · intro u q l
        exact (read4 harg10 S10 _ 0 (16 * k.val + 8 * 1 + u.val) (512 * t.val + 384) (k0_off25_eq t k 1 u) _ q l 0 ⟨16 * k.val + 8 * 1 + u.val, by omega⟩
          ⟨128 * (4 * t.val + 3) + l.val, by omega⟩ rfl rfl (by show 128 * (4 * t.val + 3) + l.val = 512 * t.val + 384 + l.val; omega)).trans
          ((h10 _ _ _ _).trans (congrArg (num <| x4 ·) (ix2_congr (by show 2 * (16 * k.val + 8 * 1 + u.val) + 0 = 16 * (2 * k.val + 1) + 2 * u.val; omega) rfl)))
      · intro u q l
        exact (read4 harg10 S10 _ 1 (16 * k.val + 8 * 1 + u.val) (512 * t.val + 384) (k0_off26_eq t k 1 u) _ q l 1 ⟨16 * k.val + 8 * 1 + u.val, by omega⟩
          ⟨128 * (4 * t.val + 3) + l.val, by omega⟩ rfl rfl (by show 128 * (4 * t.val + 3) + l.val = 512 * t.val + 384 + l.val; omega)).trans
          ((h10 _ _ _ _).trans (congrArg (num <| x4 ·) (ix2_congr (by show 2 * (16 * k.val + 8 * 1 + u.val) + 1 = 16 * (2 * k.val + 1) + 2 * u.val + 1; omega) rfl)))
      · intro u q l
        exact (read4 harg9 S9 _ 0 (16 * k.val + 8 * 1 + u.val) (512 * t.val + 384) (k0_off25_eq t k 1 u) _ q l 0 ⟨16 * k.val + 8 * 1 + u.val, by omega⟩
          ⟨128 * (4 * t.val + 3) + l.val, by omega⟩ rfl rfl (by show 128 * (4 * t.val + 3) + l.val = 512 * t.val + 384 + l.val; omega)).trans
          ((h9 _ _ _ _).trans (congrArg x3 (ix2_congr (by show 2 * (16 * k.val + 8 * 1 + u.val) + 0 = 16 * (2 * k.val + 1) + 2 * u.val; omega) rfl)))
      · intro u q l
        exact (read4 harg9 S9 _ 1 (16 * k.val + 8 * 1 + u.val) (512 * t.val + 384) (k0_off26_eq t k 1 u) _ q l 1 ⟨16 * k.val + 8 * 1 + u.val, by omega⟩
          ⟨128 * (4 * t.val + 3) + l.val, by omega⟩ rfl rfl (by show 128 * (4 * t.val + 3) + l.val = 512 * t.val + 384 + l.val; omega)).trans
          ((h9 _ _ _ _).trans (congrArg x3 (ix2_congr (by show 2 * (16 * k.val + 8 * 1 + u.val) + 1 = 16 * (2 * k.val + 1) + 2 * u.val + 1; omega) rfl)))

theorem slab41_apply (k : Fin k0_t4_loop.trips) (i : Fin 128) (R : Fin 256) (R' : Fin 7168) (hR : R'.val = 512 * k.val + 256 + R.val) :
    slab41 (F := Ideal) arg1 (harg1.unread x1) k (ix2 i R) = x1 (ix2 i R') :=
  read2 harg1 x1 _ 0 (512 * k.val + 256 * 1) (k0_off27_eq k 1) _ i R i R' (Nat.zero_add _).symm (by omega)

end Cert.Proof.KernelIdeal

end
-- ==== Proof.KernelIdealScratch.lean ====
/-
  The two scratch buffers after the preparation loop, read at an index: plane `p`, row `r` holds the scales (the zero points)
  of group `2 r + p`, twice (untrusted, hand-written).
-/
module

public import proofs.«01_k».proof.Proof.KernelIdealBody
public import proofs.«01_k».proof.Proof.KernelIdealEntry
public import Idealize.ShloMosaic.Lib.Pipeline.ValueKit

@[expose] public section

set_option maxRecDepth 16384
set_option maxHeartbeats 4000000

noncomputable section

namespace Cert.Proof.KernelIdeal

open Cert.KernelIdeal Cert.KernelIdeal.Gen
open Idealize.ShloMosaic Idealize.ShloMosaic.TcCoe

theorem pay12_apply (v : Vec Ideal S32x1024 .bf16) (u : Fin 16) (q : Fin 2) (d : Fin 1024) :
    k0_pay12 v (ix4 0 u q d) = v (ix2 ⟨2 * u.val, by omega⟩ d) := by
  pointwise [k0_pay12]
  try simp

theorem pay1_apply (v : Vec Ideal S32x1024 .bf16) (u : Fin 16) (q : Fin 2) (d : Fin 1024) :
    k0_pay1 (k0_pay9 v) (ix4 0 u q d) = v (ix2 ⟨2 * u.val + 1, by omega⟩ d) := by
  pointwise [k0_pay1, k0_pay9]
  try simp

theorem pay13_apply (v : Vec Ideal S32x1024 .i8) (u : Fin 16) (q : Fin 2) (d : Fin 1024) :
    k0_pay13 (F := Ideal) v (ix4 0 u q d) = num (v (ix2 ⟨2 * u.val, by omega⟩ d)) := by
  pointwise [k0_pay13, k0_pay10]
  try simp
  try rfl

theorem pay2_apply (v : Vec Ideal S32x1024 .i8) (u : Fin 16) (q : Fin 2) (d : Fin 1024) :
    k0_pay2 (k0_pay11 (F := Ideal) v) (ix4 0 u q d) = num (v (ix2 ⟨2 * u.val + 1, by omega⟩ d)) := by
  pointwise [k0_pay2, k0_pay11, k0_pay10]
  try simp
  try rfl

variable (c : Dev nD) (i : grid0.Coords) (arg1 : Memref sig .tc .vmem S128x7168 .bf16) (harg1 : arg1.IsWhole) (arg2 : Memref sig .tc .vmem S3584x1024 .i8) (harg2 : arg2.IsWhole) (arg3 : Memref sig .tc .vmem S448x1024 .bf16) (harg3 : arg3.IsWhole) (arg4 : Memref sig .tc .vmem S448x1024 .i8) (harg4 : arg4.IsWhole) (arg5 : Memref sig .tc .vmem S1792x128 .i32) (harg5 : arg5.IsWhole) (arg6 : Memref sig .tc .vmem S896x128 .i32) (harg6 : arg6.IsWhole) (arg7 : Memref sig .tc .vmem S1024x128 .f32) (harg7 : arg7.IsWhole) (arg8 : Memref sig .tc .vmem S128x1024 .bf16) (harg8 : arg8.IsWhole) (arg9 : Memref sig .tc .vmem S2x224x2x1024 .bf16) (harg9 : arg9.IsWhole) (arg10 : Memref sig .tc .vmem S2x224x2x1024 .bf16) (harg10 : arg10.IsWhole)

section
variable (X3 : BufTy.Contents (Elt Ideal) arg3.view.ty) (X4 : BufTy.Contents (Elt Ideal) arg4.view.ty)

theorem trip1_0 (k : Fin k0_t1_loop.trips) : (trip1 c i arg1 harg1 arg2 harg2 arg3 harg3 arg4 harg4 arg5 harg5 arg6 harg6 arg7 harg7 arg8 harg8 arg9 harg9 arg10 harg10 X3 X4 k).1
    = k0_pay12 (arg3.view.readAt (Elt Ideal) (Rect.unit (s := S448x1024) (k0_off1 k) S32x1024.size (k0_off1_inb k)).toLoadRect X3) := by
  unfold trip1; rfl

theorem trip1_1 (k : Fin k0_t1_loop.trips) : (trip1 c i arg1 harg1 arg2 harg2 arg3 harg3 arg4 harg4 arg5 harg5 arg6 harg6 arg7 harg7 arg8 harg8 arg9 harg9 arg10 harg10 X3 X4 k).2.1
    = k0_pay1 (k0_pay9 (arg3.view.readAt (Elt Ideal) (Rect.unit (s := S448x1024) (k0_off1 k) S32x1024.size (k0_off1_inb k)).toLoadRect X3)) := by
  unfold trip1; rfl

theorem trip1_2 (k : Fin k0_t1_loop.trips) : (trip1 c i arg1 harg1 arg2 harg2 arg3 harg3 arg4 harg4 arg5 harg5 arg6 harg6 arg7 harg7 arg8 harg8 arg9 harg9 arg10 harg10 X3 X4 k).2.2.1
    = k0_pay13 (arg4.view.readAt (Elt Ideal) (Rect.unit (s := S448x1024) (k0_off1 k) S32x1024.size (k0_off1_inb k)).toLoadRect X4) := by
  unfold trip1; rfl

theorem trip1_3 (k : Fin k0_t1_loop.trips) : (trip1 c i arg1 harg1 arg2 harg2 arg3 harg3 arg4 harg4 arg5 harg5 arg6 harg6 arg7 harg7 arg8 harg8 arg9 harg9 arg10 harg10 X3 X4 k).2.2.2.1
    = k0_pay2 (k0_pay11 (arg4.view.readAt (Elt Ideal) (Rect.unit (s := S448x1024) (k0_off1 k) S32x1024.size (k0_off1_inb k)).toLoadRect X4)) := by
  unfold trip1; rfl

end

variable (x3 : S448x1024.Idx → EReal) (x4 : S448x1024.Idx → BitVec 8)

/-- Where a store of sixteen rows of plane `p` puts its entry. -/
theorem plane_at (off : Fin 4 → ℕ) (p b : ℕ) (ho : off = ![p, b, 0, 0]) (inb : ∀ a, off a + S1x16x2x1024.size a ≤ S2x224x2x1024.size a)
    (y : S2x224x2x1024.Idx) (x : S1x16x2x1024.Idx) (hx : (Rect.unit (s := S2x224x2x1024) off S1x16x2x1024.size inb).emb x = y) :
    ∃ (u : Fin 16) (q : Fin 2) (d : Fin 1024), x = ix4 0 u q d ∧ (y 0).val = p ∧ (y 1).val = b + u.val ∧ y 3 = d := by
  subst ho hx
  refine ⟨x 1, x 2, x 3, ?_, ?_, ?_, ?_⟩
  · funext a
    match a with
    | ⟨0, _⟩ => exact Fin.ext (by have := (x 0).isLt; exact Nat.lt_one_iff.1 this)
    | ⟨1, _⟩ => rfl
    | ⟨2, _⟩ => rfl
    | ⟨3, _⟩ => rfl
  · have h : (x 0).val = 0 := Nat.lt_one_iff.1 (x 0).isLt
    show p + 1 * (x 0).val = p
    omega
  · show b + 1 * (x 1).val = b + (x 1).val
    omega
  · exact Fin.ext (by show 0 + 1 * (x 3).val = (x 3).val; omega)

/-- The value that the first scratch buffer holds at an index. -/
def at9 (y : S2x224x2x1024.Idx) : EReal := x3 (ix2 ⟨2 * (y 1).val + (y 0).val, by have h0 : (y 0).val < 2 := (y 0).isLt; have h1 : (y 1).val < 224 := (y 1).isLt; omega⟩ (y 3))
/-- The value that the second scratch buffer holds at an index. -/
def at10 (y : S2x224x2x1024.Idx) : EReal := num (x4 (ix2 ⟨2 * (y 1).val + (y 0).val, by have h0 : (y 0).val < 2 := (y 0).isLt; have h1 : (y 1).val < 224 := (y 1).isLt; omega⟩ (y 3)))

theorem all9 (y : S2x224x2x1024.Idx) : ∀ n, n ≤ k0_t1_loop.trips →
    View.AllAt (pieces9 (F := Ideal) c i arg1 harg1 arg2 harg2 arg3 harg3 arg4 harg4 arg5 harg5 arg6 harg6 arg7 harg7 arg8 harg8 arg9 harg9 arg10 harg10 (harg3.unread x3) (harg4.unread x4) n) y (at9 x3 y)
  | 0, _ => View.allAt_nil _ _
  | n + 1, hn => by
    have hn' : n < 14 := Nat.lt_of_lt_of_le hn (by decide)
    rw [pieces9_succ (F := Ideal) c i arg1 harg1 arg2 harg2 arg3 harg3 arg4 harg4 arg5 harg5 arg6 harg6 arg7 harg7 arg8 harg8 arg9 harg9 arg10 harg10 (harg3.unread x3) (harg4.unread x4) ⟨n, hn⟩]
    refine View.allAt_cons _ _ _ ?_ (View.allAt_cons _ _ _ ?_ (all9 y n (Nat.le_of_lt hn)))
    · intro x hx
      obtain ⟨u, q, d, rfl, h0, h1, h3⟩ := plane_at _ _ _ (k0_off3_eq ⟨n, hn⟩) _ y x hx
      rw [trip1_1, pay1_apply]
      refine id ((read2 harg3 x3 _ (32 * n) 0 (k0_off1_eq ⟨n, hn⟩) _ _ _ ⟨32 * n + (2 * u.val + 1), by omega⟩ d rfl (Nat.zero_add _).symm).trans
        (congrArg x3 (ix2_congr ?_ (by rw [h3]))))
      show 32 * n + (2 * u.val + 1) = 2 * (y 1).val + (y 0).val
      rw [h0, h1]; show _ = 2 * (16 * n + u.val) + 1; omega
    · intro x hx
      obtain ⟨u, q, d, rfl, h0, h1, h3⟩ := plane_at _ _ _ (k0_off2_eq ⟨n, hn⟩) _ y x hx
      rw [trip1_0, pay12_apply]
      refine id ((read2 harg3 x3 _ (32 * n) 0 (k0_off1_eq ⟨n, hn⟩) _ _ _ ⟨32 * n + 2 * u.val, by omega⟩ d rfl (Nat.zero_add _).symm).trans
        (congrArg x3 (ix2_congr ?_ (by rw [h3]))))
      show 32 * n + 2 * u.val = 2 * (y 1).val + (y 0).val
      rw [h0, h1]; show _ = 2 * (16 * n + u.val) + 0; omega

theorem scr9_at (y : S2x224x2x1024.Idx) :
    scr9 (F := Ideal) c i arg1 harg1 arg2 harg2 arg3 harg3 arg4 harg4 arg5 harg5 arg6 harg6 arg7 harg7 arg8 harg8 arg9 harg9 arg10 harg10 (harg3.unread x3) (harg4.unread x4) y = at9 x3 y := by
  have e : scr9 (F := Ideal) c i arg1 harg1 arg2 harg2 arg3 harg3 arg4 harg4 arg5 harg5 arg6 harg6 arg7 harg7 arg8 harg8 arg9 harg9 arg10 harg10 (harg3.unread x3) (harg4.unread x4) y = View.canon (pieces9 (F := Ideal) c i arg1 harg1 arg2 harg2 arg3 harg3 arg4 harg4 arg5 harg5 arg6 harg6 arg7 harg7 arg8 harg8 arg9 harg9 arg10 harg10 (harg3.unread x3) (harg4.unread x4) k0_t1_loop.trips) y := rfl
  refine e.trans ?_
  exact View.canon_eq_of_allAt (Val := Elt Ideal) (pieces9 (F := Ideal) c i arg1 harg1 arg2 harg2 arg3 harg3 arg4 harg4 arg5 harg5 arg6 harg6 arg7 harg7 arg8 harg8 arg9 harg9 arg10 harg10 (harg3.unread x3) (harg4.unread x4) k0_t1_loop.trips) y (at9 x3 y) (cover9 (F := Ideal) c i arg1 harg1 arg2 harg2 arg3 harg3 arg4 harg4 arg5 harg5 arg6 harg6 arg7 harg7 arg8 harg8 arg9 harg9 arg10 harg10 (harg3.unread x3) (harg4.unread x4) y) (all9 c i arg1 harg1 arg2 harg2 arg3 harg3 arg4 harg4 arg5 harg5 arg6 harg6 arg7 harg7 arg8 harg8 arg9 harg9 arg10 harg10 x3 x4 y k0_t1_loop.trips (Nat.le_refl _))

theorem scr9_apply (a : Fin 2) (b : Fin 224) (q : Fin 2) (d : Fin 1024) :
    scr9 (F := Ideal) c i arg1 harg1 arg2 harg2 arg3 harg3 arg4 harg4 arg5 harg5 arg6 harg6 arg7 harg7 arg8 harg8 arg9 harg9 arg10 harg10 (harg3.unread x3) (harg4.unread x4) (ix4 a b q d) = x3 (ix2 (groupAt a b) d) :=
  scr9_at c i arg1 harg1 arg2 harg2 arg3 harg3 arg4 harg4 arg5 harg5 arg6 harg6 arg7 harg7 arg8 harg8 arg9 harg9 arg10 harg10 x3 x4 (ix4 a b q d)

theorem all10 (y : S2x224x2x1024.Idx) : ∀ n, n ≤ k0_t1_loop.trips →
    View.AllAt (pieces10 (F := Ideal) c i arg1 harg1 arg2 harg2 arg3 harg3 arg4 harg4 arg5 harg5 arg6 harg6 arg7 harg7 arg8 harg8 arg9 harg9 arg10 harg10 (harg3.unread x3) (harg4.unread x4) n) y (at10 x4 y)
  | 0, _ => View.allAt_nil _ _
  | n + 1, hn => by
    have hn' : n < 14 := Nat.lt_of_lt_of_le hn (by decide)
    rw [pieces10_succ (F := Ideal) c i arg1 harg1 arg2 harg2 arg3 harg3 arg4 harg4 arg5 harg5 arg6 harg6 arg7 harg7 arg8 harg8 arg9 harg9 arg10 harg10 (harg3.unread x3) (harg4.unread x4) ⟨n, hn⟩]
    refine View.allAt_cons _ _ _ ?_ (View.allAt_cons _ _ _ ?_ (all10 y n (Nat.le_of_lt hn)))
    · intro x hx
      obtain ⟨u, q, d, rfl, h0, h1, h3⟩ := plane_at _ _ _ (k0_off3_eq ⟨n, hn⟩) _ y x hx
      rw [trip1_3, pay2_apply]
      refine congrArg num ((read2 harg4 x4 _ (32 * n) 0 (k0_off1_eq ⟨n, hn⟩) _ _ _ ⟨32 * n + (2 * u.val + 1), by omega⟩ d rfl (Nat.zero_add _).symm).trans
        (congrArg x4 (ix2_congr ?_ (by rw [h3]))))
      show 32 * n + (2 * u.val + 1) = 2 * (y 1).val + (y 0).val
      rw [h0, h1]; show _ = 2 * (16 * n + u.val) + 1; omega
    · intro x hx
      obtain ⟨u, q, d, rfl, h0, h1, h3⟩ := plane_at _ _ _ (k0_off2_eq ⟨n, hn⟩) _ y x hx
      rw [trip1_2, pay13_apply]
      refine congrArg num ((read2 harg4 x4 _ (32 * n) 0 (k0_off1_eq ⟨n, hn⟩) _ _ _ ⟨32 * n + 2 * u.val, by omega⟩ d rfl (Nat.zero_add _).symm).trans
        (congrArg x4 (ix2_congr ?_ (by rw [h3]))))
      show 32 * n + 2 * u.val = 2 * (y 1).val + (y 0).val
      rw [h0, h1]; show _ = 2 * (16 * n + u.val) + 0; omega

theorem scr10_at (y : S2x224x2x1024.Idx) :
    scr10 (F := Ideal) c i arg1 harg1 arg2 harg2 arg3 harg3 arg4 harg4 arg5 harg5 arg6 harg6 arg7 harg7 arg8 harg8 arg9 harg9 arg10 harg10 (harg3.unread x3) (harg4.unread x4) y = at10 x4 y := by
  have e : scr10 (F := Ideal) c i arg1 harg1 arg2 harg2 arg3 harg3 arg4 harg4 arg5 harg5 arg6 harg6 arg7 harg7 arg8 harg8 arg9 harg9 arg10 harg10 (harg3.unread x3) (harg4.unread x4) y = View.canon (pieces10 (F := Ideal) c i arg1 harg1 arg2 harg2 arg3 harg3 arg4 harg4 arg5 harg5 arg6 harg6 arg7 harg7 arg8 harg8 arg9 harg9 arg10 harg10 (harg3.unread x3) (harg4.unread x4) k0_t1_loop.trips) y := rfl
  refine e.trans ?_
  exact View.canon_eq_of_allAt (Val := Elt Ideal) (pieces10 (F := Ideal) c i arg1 harg1 arg2 harg2 arg3 harg3 arg4 harg4 arg5 harg5 arg6 harg6 arg7 harg7 arg8 harg8 arg9 harg9 arg10 harg10 (harg3.unread x3) (harg4.unread x4) k0_t1_loop.trips) y (at10 x4 y) (cover10 (F := Ideal) c i arg1 harg1 arg2 harg2 arg3 harg3 arg4 harg4 arg5 harg5 arg6 harg6 arg7 harg7 arg8 harg8 arg9 harg9 arg10 harg10 (harg3.unread x3) (harg4.unread x4) y) (all10 c i arg1 harg1 arg2 harg2 arg3 harg3 arg4 harg4 arg5 harg5 arg6 harg6 arg7 harg7 arg8 harg8 arg9 harg9 arg10 harg10 x3 x4 y k0_t1_loop.trips (Nat.le_refl _))

theorem scr10_apply (a : Fin 2) (b : Fin 224) (q : Fin 2) (d : Fin 1024) :
    scr10 (F := Ideal) c i arg1 harg1 arg2 harg2 arg3 harg3 arg4 harg4 arg5 harg5 arg6 harg6 arg7 harg7 arg8 harg8 arg9 harg9 arg10 harg10 (harg3.unread x3) (harg4.unread x4) (ix4 a b q d) = num (x4 (ix2 (groupAt a b) d)) :=
  scr10_at c i arg1 harg1 arg2 harg2 arg3 harg3 arg4 harg4 arg5 harg5 arg6 harg6 arg7 harg7 arg8 harg8 arg9 harg9 arg10 harg10 x3 x4 (ix4 a b q d)

end Cert.Proof.KernelIdeal

end
-- ==== Proof.KernelIdealSum.lean ====
/-
  What a run of the window loop leaves in a matrix unit's accumulator, over the extended reals: the sum, over all the
  rows the trips have walked, of the products of the left operand's entry and the tile's entry (untrusted, hand-written).
-/
module

public import proofs.«01_k».proof.Proof.Passes
public import Idealize.ShloMosaic.Lib.Mxu.PassChain
public import Idealize.ShloMosaic.Lib.MatmulPlain
public import Idealize.ShloMosaic.Lib.Pointwise

@[expose] public section

noncomputable section

namespace Cert.Proof

open Idealize.ShloMosaic

/-- One pass of a staged tile, at an entry: the sum over the tile's 256 rows. -/
theorem passOf_apply (B : FVec Ideal (Mxu.STile 256) .bf16) (A : FVec Ideal (Mxu.STile 128) .bf16) (i : Fin 128) (j : Fin 256) :
    Mxu.passOf (F := Ideal) false (B, A) (ix2 i j) = ∑ x : Fin 256, A (ix2 i x) * B (ix2 x j) := by
  have h := Ideal.matmul_plain_apply (M := 128) (K := 256) (N := 256) none A B (fun _ => (0 : EReal)) i j
  exact ((zero_add _).symm.trans h).trans (zero_add _)

/-- Two passes from rows that hold nothing. -/
theorem read_twoPasses_first (q : Fin 2) (B0 : FVec Ideal (Mxu.STile 256) .bf16) (A0 : FVec Ideal (Mxu.STile 128) .bf16)
    (B1 : FVec Ideal (Mxu.STile 256) .bf16) (A1 : FVec Ideal (Mxu.STile 128) .bf16) (s : Mxu Ideal) (h : Idle s)
    (hl : ∀ r : Fin 128, s.live q (Mxu.row fits r) = false) (i : Fin 128) (j : Fin 256) :
    (twoPasses q B0 A0 B1 A1 s).read q 0 fits (ix2 i j)
      = (∑ x : Fin 256, A0 (ix2 i x) * B0 (ix2 x j)) + ∑ x : Fin 256, A1 (ix2 i x) * B1 (ix2 x j) := by
  have e : twoPasses q B0 A0 B1 A1 s = Mxu.pushAcc q 1 false 0 fits (Mxu.pushAcc q 0 false 0 fits s B0 A0) B1 A1 := rfl
  have hr : (Mxu.pushAcc q 0 false 0 fits s B0 A0).reg q 1 = none := by
    unfold Mxu.pushAcc
    rw [Mxu.reg_accLhs_ne (hne := by simp), Mxu.reg_pushed_ne (hne := by simp)]; exact h q 1
  rw [e, Mxu.read_pushAcc_of_live q 1 false 0 fits _ B1 A1 hr (Mxu.live_pushAcc_row q 0 false 0 fits s B0 A0),
    Mxu.read_pushAcc_of_not_live q 0 false 0 fits s B0 A0 (h q 0) hl]
  exact congrArg₂ (· + ·) (passOf_apply B0 A0 i j) (passOf_apply B1 A1 i j)

/-- Two passes into rows that hold a result. -/
theorem read_twoPasses_next (q : Fin 2) (B0 : FVec Ideal (Mxu.STile 256) .bf16) (A0 : FVec Ideal (Mxu.STile 128) .bf16)
    (B1 : FVec Ideal (Mxu.STile 256) .bf16) (A1 : FVec Ideal (Mxu.STile 128) .bf16) (s : Mxu Ideal) (h : Idle s)
    (hl : ∀ r : Fin 128, s.live q (Mxu.row fits r) = true) (i : Fin 128) (j : Fin 256) :
    (twoPasses q B0 A0 B1 A1 s).read q 0 fits (ix2 i j)
      = s.read q 0 fits (ix2 i j) + (∑ x : Fin 256, A0 (ix2 i x) * B0 (ix2 x j)) + ∑ x : Fin 256, A1 (ix2 i x) * B1 (ix2 x j) := by
  have e : twoPasses q B0 A0 B1 A1 s = Mxu.pushAcc q 1 false 0 fits (Mxu.pushAcc q 0 false 0 fits s B0 A0) B1 A1 := rfl
  have hr : (Mxu.pushAcc q 0 false 0 fits s B0 A0).reg q 1 = none := by
    unfold Mxu.pushAcc
    rw [Mxu.reg_accLhs_ne (hne := by simp), Mxu.reg_pushed_ne (hne := by simp)]; exact h q 1
  rw [e, Mxu.read_pushAcc_of_live q 1 false 0 fits _ B1 A1 hr (Mxu.live_pushAcc_row q 0 false 0 fits s B0 A0),
    Mxu.read_pushAcc_of_live q 0 false 0 fits s B0 A0 (h q 0) hl]
  exact congrArg₂ (· + ·) (congrArg₂ (· + ·) rfl (passOf_apply B0 A0 i j)) (passOf_apply B1 A1 i j)

theorem live_twoPasses (q : Fin 2) (B0 : FVec Ideal (Mxu.STile 256) .bf16) (A0 : FVec Ideal (Mxu.STile 128) .bf16)
    (B1 : FVec Ideal (Mxu.STile 256) .bf16) (A1 : FVec Ideal (Mxu.STile 128) .bf16) (s : Mxu Ideal) (r : Fin 128) :
    (twoPasses q B0 A0 B1 A1 s).live q (Mxu.row fits r) = true :=
  Mxu.live_accLhs_row ..

/-- The window loop: `N` trips of two passes, each pass over 256 rows, sum the `512 * N` rows. -/
theorem read_trips (q : Fin 2) (i : Fin 128) (j : Fin 256) (N : ℕ) (S : ℕ → Mxu Ideal)
    (B0 : Fin N → FVec Ideal (Mxu.STile 256) .bf16) (A0 : Fin N → FVec Ideal (Mxu.STile 128) .bf16)
    (B1 : Fin N → FVec Ideal (Mxu.STile 256) .bf16) (A1 : Fin N → FVec Ideal (Mxu.STile 128) .bf16)
    (h0 : (S 0).Drained) (hs : ∀ k : Fin N, S (k.val + 1) = twoPasses q (B0 k) (A0 k) (B1 k) (A1 k) (S k.val)) (f : ℕ → EReal)
    (e0 : ∀ (k : Fin N) (x : Fin 256), A0 k (ix2 i x) * B0 k (ix2 x j) = f (512 * k.val + x.val))
    (e1 : ∀ (k : Fin N) (x : Fin 256), A1 k (ix2 i x) * B1 k (ix2 x j) = f (512 * k.val + 256 + x.val)) :
    ∀ n, n + 1 ≤ N → (Idle (S (n + 1)) ∧ ∀ r : Fin 128, (S (n + 1)).live q (Mxu.row fits r) = true) ∧
      (S (n + 1)).read q 0 fits (ix2 i j) = ∑ R ∈ Finset.range (512 * (n + 1)), f R
  | 0, hn => by
    have hk := hs ⟨0, hn⟩
    have hi := idle_of_drained h0
    have hk' : S (0 + 1) = _ := hk
    rw [hk']
    refine ⟨⟨idle_twoPasses _ _ _ _ _ _ hi, live_twoPasses _ _ _ _ _ _⟩, ?_⟩
    refine (read_twoPasses_first q _ _ _ _ _ hi (fun r => h0.2 q _) i j).trans ?_
    rw [show 512 * (0 + 1) = 256 + 256 from rfl, Finset.sum_range_add, Finset.sum_range, Finset.sum_range]
    refine congrArg₂ (· + ·) (Finset.sum_congr rfl fun x _ => ?_) (Finset.sum_congr rfl fun x _ => ?_)
    · exact (e0 ⟨0, hn⟩ x).trans (congrArg f (by simp))
    · exact (e1 ⟨0, hn⟩ x).trans (congrArg f (by simp))
  | n + 1, hn => by
    obtain ⟨⟨hi, hl⟩, hr⟩ := read_trips q i j N S B0 A0 B1 A1 h0 hs f e0 e1 n (Nat.le_of_succ_le hn)
    have hk : S (n + 1 + 1) = _ := hs ⟨n + 1, hn⟩
    rw [hk]
    refine ⟨⟨idle_twoPasses _ _ _ _ _ _ hi, live_twoPasses _ _ _ _ _ _⟩, ?_⟩
    refine (read_twoPasses_next q _ _ _ _ _ hi hl i j).trans ?_
    rw [show 512 * (n + 1 + 1) = 512 * (n + 1) + 256 + 256 by ring, Finset.sum_range_add, Finset.sum_range_add,
      Finset.sum_range (n := 256), Finset.sum_range (n := 256)]
    refine congrArg₂ (· + ·) (congrArg₂ (· + ·) hr (Finset.sum_congr rfl fun x _ => ?_)) (Finset.sum_congr rfl fun x _ => ?_)
    · exact e0 ⟨n + 1, hn⟩ x
    · exact e1 ⟨n + 1, hn⟩ x

/-- All 14 trips of a window loop. -/
theorem read_all (q : Fin 2) (i : Fin 128) (j : Fin 256) (N : ℕ) (hN : N = 14) (S : ℕ → Mxu Ideal)
    (B0 : Fin N → FVec Ideal (Mxu.STile 256) .bf16) (A0 : Fin N → FVec Ideal (Mxu.STile 128) .bf16)
    (B1 : Fin N → FVec Ideal (Mxu.STile 256) .bf16) (A1 : Fin N → FVec Ideal (Mxu.STile 128) .bf16)
    (h0 : (S 0).Drained) (hs : ∀ k : Fin N, S (k.val + 1) = twoPasses q (B0 k) (A0 k) (B1 k) (A1 k) (S k.val)) (f : ℕ → EReal)
    (e0 : ∀ (k : Fin N) (x : Fin 256), A0 k (ix2 i x) * B0 k (ix2 x j) = f (512 * k.val + x.val))
    (e1 : ∀ (k : Fin N) (x : Fin 256), A1 k (ix2 i x) * B1 k (ix2 x j) = f (512 * k.val + 256 + x.val)) :
    (S 14).read q 0 fits (ix2 i j) = ∑ R ∈ Finset.range 7168, f R :=
  (read_trips q i j N S B0 A0 B1 A1 h0 hs f e0 e1 13 (by omega)).2

end Cert.Proof

end
-- ==== Proof.KernelIdealOut.lean ====
/-
  The kernel's output block, over the extended reals: every entry is the sum over the 7168 rows of the products of the
  activation and the weight's cell, plus the addend (untrusted, hand-written).
-/
module

public import proofs.«01_k».proof.Proof.KernelIdealTileValue
public import proofs.«01_k».proof.Proof.KernelIdealScratch
public import proofs.«01_k».proof.Proof.KernelIdealSum

@[expose] public section

set_option maxRecDepth 16384
set_option maxHeartbeats 200000

noncomputable section

namespace Cert.Proof.KernelIdeal

open Cert.KernelIdeal Cert.KernelIdeal.Gen
open Idealize.ShloMosaic Idealize.ShloMosaic.TcCoe

theorem pay5_apply (v : Vec Ideal S128x256 .f32) (w : Vec Ideal S256x128 .f32) (r : Fin 128) (C : Fin 256) :
    k0_pay5 (F := Ideal) v w (ix2 r C) = v (ix2 r C) + w (ix2 C r) := by
  pointwise [k0_pay5]

theorem pay8_apply (v : Vec Ideal S128x256 .f32) (w : Vec Ideal S256x128 .f32) (r : Fin 128) (C : Fin 256) :
    k0_pay8 (F := Ideal) v w (ix2 r C) = v (ix2 r C) + w (ix2 C r) := by
  pointwise [k0_pay8]

/-- The product of row `R` in the sum of entry (`r`, `C`) of the block, zero past the last row. -/
def product (x1 : S128x7168.Idx → EReal) (x2 : S3584x1024.Idx → BitVec 8) (x3 : S448x1024.Idx → EReal) (x4 : S448x1024.Idx → BitVec 8)
    (x5 : S1792x128.Idx → BitVec 32) (x6 : S896x128.Idx → BitVec 32) (r : Fin 128) (C : Fin 1024) (R : ℕ) : EReal :=
  if h : R < 7168 then x1 (ix2 r ⟨R, h⟩) * entry x2 x3 x4 x5 x6 ⟨R, h⟩ C else 0

theorem product_of (x1 : S128x7168.Idx → EReal) (x2 : S3584x1024.Idx → BitVec 8) (x3 : S448x1024.Idx → EReal) (x4 : S448x1024.Idx → BitVec 8)
    (x5 : S1792x128.Idx → BitVec 32) (x6 : S896x128.Idx → BitVec 32) (r : Fin 128) (C : Fin 1024) (R : ℕ) (h : R < 7168) :
    product x1 x2 x3 x4 x5 x6 r C R = x1 (ix2 r ⟨R, h⟩) * entry x2 x3 x4 x5 x6 ⟨R, h⟩ C := dif_pos h

/-- Entry (`r`, `C`) of the block. -/
def total (x1 : S128x7168.Idx → EReal) (x2 : S3584x1024.Idx → BitVec 8) (x3 : S448x1024.Idx → EReal) (x4 : S448x1024.Idx → BitVec 8)
    (x5 : S1792x128.Idx → BitVec 32) (x6 : S896x128.Idx → BitVec 32) (x7 : S1024x128.Idx → EReal) (r : Fin 128) (C : Fin 1024) : EReal :=
  (∑ R : Fin 7168, x1 (ix2 r R) * entry x2 x3 x4 x5 x6 R C) + x7 (ix2 C r)

theorem sum_product (x1 : S128x7168.Idx → EReal) (x2 : S3584x1024.Idx → BitVec 8) (x3 : S448x1024.Idx → EReal) (x4 : S448x1024.Idx → BitVec 8)
    (x5 : S1792x128.Idx → BitVec 32) (x6 : S896x128.Idx → BitVec 32) (r : Fin 128) (C : Fin 1024) :
    ∑ R ∈ Finset.range 7168, product x1 x2 x3 x4 x5 x6 r C R = ∑ R : Fin 7168, x1 (ix2 r R) * entry x2 x3 x4 x5 x6 R C := by
  rw [Finset.sum_range]
  exact Finset.sum_congr rfl fun R _ => product_of x1 x2 x3 x4 x5 x6 r C R.val R.isLt

theorem trips3 : k0_t3_loop.trips = 14 := by decide
theorem trips4 : k0_t4_loop.trips = 14 := by decide

variable (c : Dev nD) (i : grid0.Coords) (arg1 : Memref sig .tc .vmem S128x7168 .bf16) (harg1 : arg1.IsWhole) (arg2 : Memref sig .tc .vmem S3584x1024 .i8) (harg2 : arg2.IsWhole) (arg3 : Memref sig .tc .vmem S448x1024 .bf16) (harg3 : arg3.IsWhole) (arg4 : Memref sig .tc .vmem S448x1024 .i8) (harg4 : arg4.IsWhole) (arg5 : Memref sig .tc .vmem S1792x128 .i32) (harg5 : arg5.IsWhole) (arg6 : Memref sig .tc .vmem S896x128 .i32) (harg6 : arg6.IsWhole) (arg7 : Memref sig .tc .vmem S1024x128 .f32) (harg7 : arg7.IsWhole) (arg8 : Memref sig .tc .vmem S128x1024 .bf16) (harg8 : arg8.IsWhole) (arg9 : Memref sig .tc .vmem S2x224x2x1024 .bf16) (harg9 : arg9.IsWhole) (arg10 : Memref sig .tc .vmem S2x224x2x1024 .bf16) (harg10 : arg10.IsWhole)
variable (x1 : S128x7168.Idx → EReal) (x2 : S3584x1024.Idx → BitVec 8) (x3 : S448x1024.Idx → EReal) (x4 : S448x1024.Idx → BitVec 8)
    (x5 : S1792x128.Idx → BitVec 32) (x6 : S896x128.Idx → BitVec 32) (x7 : S1024x128.Idx → EReal)

section
variable (S9 S10 : S2x224x2x1024.Idx → EReal)
    (h9 : ∀ (a : Fin 2) (b : Fin 224) (q : Fin 2) (d : Fin 1024), S9 (ix4 a b q d) = x3 (ix2 (groupAt a b) d))
    (h10 : ∀ (a : Fin 2) (b : Fin 224) (q : Fin 2) (d : Fin 1024), S10 (ix4 a b q d) = num (x4 (ix2 (groupAt a b) d)))

include h9 h10 in
theorem product30 (t : Fin k0_t2_loop.trips) (w : BitVec 32) (r : Fin 128) (C : Fin 256) (C' : Fin 1024)
    (hC : C'.val = 512 * t.val + 0 + C.val) (k : Fin k0_t3_loop.trips) (x : Fin 256) :
    (trip3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.1 (ix2 r x) * (trip3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).1 (ix2 x C)
      = product x1 x2 x3 x4 x5 x6 r C' (512 * k.val + x.val) := by
  have hk : k.val < 14 := Nat.lt_of_lt_of_le k.isLt (by decide)
  have hR : 512 * k.val + x.val < 7168 := by omega
  rw [trip3_1 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k, trip3_0 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k,
    slab30_apply arg1 harg1 x1 k r x ⟨512 * k.val + x.val, hR⟩ (by simp),
    tile30_apply arg2 harg2 arg5 harg5 arg6 harg6 arg9 harg9 arg10 harg10 x2 x3 x4 x5 x6 S9 S10 h9 h10 t k x C ⟨512 * k.val + x.val, hR⟩ C' (by simp) hC]
  exact (product_of x1 x2 x3 x4 x5 x6 r C' _ hR).symm

include h9 h10 in
theorem product31 (t : Fin k0_t2_loop.trips) (w : BitVec 32) (r : Fin 128) (C : Fin 256) (C' : Fin 1024)
    (hC : C'.val = 512 * t.val + 0 + C.val) (k : Fin k0_t3_loop.trips) (x : Fin 256) :
    (trip3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.2.2.1 (ix2 r x) * (trip3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.2.1 (ix2 x C)
      = product x1 x2 x3 x4 x5 x6 r C' (512 * k.val + 256 + x.val) := by
  have hk : k.val < 14 := Nat.lt_of_lt_of_le k.isLt (by decide)
  have hR : 512 * k.val + 256 + x.val < 7168 := by omega
  rw [trip3_3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k, trip3_2 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k,
    slab31_apply arg1 harg1 x1 k r x ⟨512 * k.val + 256 + x.val, hR⟩ (by simp),
    tile31_apply arg2 harg2 arg5 harg5 arg6 harg6 arg9 harg9 arg10 harg10 x2 x3 x4 x5 x6 S9 S10 h9 h10 t k x C ⟨512 * k.val + 256 + x.val, hR⟩ C' (by simp) hC]
  exact (product_of x1 x2 x3 x4 x5 x6 r C' _ hR).symm

include h9 h10 in
theorem read_st3 (t : Fin k0_t2_loop.trips) (w : BitVec 32) (s : Mxu Ideal) (hs : s.Drained) (r : Fin 128) (C : Fin 256) (C' : Fin 1024)
    (hC : C'.val = 512 * t.val + 0 + C.val) :
    (st3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w s 14).read 0 0 fits (ix2 r C) = ∑ R : Fin 7168, x1 (ix2 r R) * entry x2 x3 x4 x5 x6 R C' := by
  rw [← sum_product]
  refine read_all 0 r C k0_t3_loop.trips trips3 (st3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w s)
    (fun k => (trip3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).1) (fun k => (trip3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.1) (fun k => (trip3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.2.1) (fun k => (trip3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.2.2.1)
    hs (fun k => st3_succ (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w s k) (product x1 x2 x3 x4 x5 x6 r C') (product30 c i arg1 harg1 arg2 harg2 arg3 harg3 arg4 harg4 arg5 harg5 arg6 harg6 arg7 harg7 arg8 harg8 arg9 harg9 arg10 harg10 x1 x2 x3 x4 x5 x6 S9 S10 h9 h10 t w r C C' hC) (product31 c i arg1 harg1 arg2 harg2 arg3 harg3 arg4 harg4 arg5 harg5 arg6 harg6 arg7 harg7 arg8 harg8 arg9 harg9 arg10 harg10 x1 x2 x3 x4 x5 x6 S9 S10 h9 h10 t w r C C' hC)

include h9 h10 in
theorem product40 (t : Fin k0_t2_loop.trips) (w : BitVec 32) (r : Fin 128) (C : Fin 256) (C' : Fin 1024)
    (hC : C'.val = 512 * t.val + 256 + C.val) (k : Fin k0_t4_loop.trips) (x : Fin 256) :
    (trip4 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.1 (ix2 r x) * (trip4 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).1 (ix2 x C)
      = product x1 x2 x3 x4 x5 x6 r C' (512 * k.val + x.val) := by
  have hk : k.val < 14 := Nat.lt_of_lt_of_le k.isLt (by decide)
  have hR : 512 * k.val + x.val < 7168 := by omega
  rw [trip4_1 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k, trip4_0 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k,
    slab40_apply arg1 harg1 x1 k r x ⟨512 * k.val + x.val, hR⟩ (by simp),
    tile40_apply arg2 harg2 arg5 harg5 arg6 harg6 arg9 harg9 arg10 harg10 x2 x3 x4 x5 x6 S9 S10 h9 h10 t k x C ⟨512 * k.val + x.val, hR⟩ C' (by simp) hC]
  exact (product_of x1 x2 x3 x4 x5 x6 r C' _ hR).symm

include h9 h10 in
theorem product41 (t : Fin k0_t2_loop.trips) (w : BitVec 32) (r : Fin 128) (C : Fin 256) (C' : Fin 1024)
    (hC : C'.val = 512 * t.val + 256 + C.val) (k : Fin k0_t4_loop.trips) (x : Fin 256) :
    (trip4 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.2.2.1 (ix2 r x) * (trip4 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.2.1 (ix2 x C)
      = product x1 x2 x3 x4 x5 x6 r C' (512 * k.val + 256 + x.val) := by
  have hk : k.val < 14 := Nat.lt_of_lt_of_le k.isLt (by decide)
  have hR : 512 * k.val + 256 + x.val < 7168 := by omega
  rw [trip4_3 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k, trip4_2 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k,
    slab41_apply arg1 harg1 x1 k r x ⟨512 * k.val + 256 + x.val, hR⟩ (by simp),
    tile41_apply arg2 harg2 arg5 harg5 arg6 harg6 arg9 harg9 arg10 harg10 x2 x3 x4 x5 x6 S9 S10 h9 h10 t k x C ⟨512 * k.val + 256 + x.val, hR⟩ C' (by simp) hC]
  exact (product_of x1 x2 x3 x4 x5 x6 r C' _ hR).symm

include h9 h10 in
theorem read_st4 (t : Fin k0_t2_loop.trips) (w : BitVec 32) (s : Mxu Ideal) (hs : s.Drained) (r : Fin 128) (C : Fin 256) (C' : Fin 1024)
    (hC : C'.val = 512 * t.val + 256 + C.val) :
    (st4 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w s 14).read 1 0 fits (ix2 r C) = ∑ R : Fin 7168, x1 (ix2 r R) * entry x2 x3 x4 x5 x6 R C' := by
  rw [← sum_product]
  refine read_all 1 r C k0_t4_loop.trips trips4 (st4 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w s)
    (fun k => (trip4 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).1) (fun k => (trip4 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.1) (fun k => (trip4 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.2.1) (fun k => (trip4 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w k).2.2.2.1)
    hs (fun k => st4_succ (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t w s k) (product x1 x2 x3 x4 x5 x6 r C') (product40 c i arg1 harg1 arg2 harg2 arg3 harg3 arg4 harg4 arg5 harg5 arg6 harg6 arg7 harg7 arg8 harg8 arg9 harg9 arg10 harg10 x1 x2 x3 x4 x5 x6 S9 S10 h9 h10 t w r C C' hC) (product41 c i arg1 harg1 arg2 harg2 arg3 harg3 arg4 harg4 arg5 harg5 arg6 harg6 arg7 harg7 arg8 harg8 arg9 harg9 arg10 harg10 x1 x2 x3 x4 x5 x6 S9 S10 h9 h10 t w r C C' hC)

include h9 h10 in
theorem read_unit0 (t : Fin k0_t2_loop.trips) (s : Mxu Ideal) (hs : s.Drained) (r : Fin 128) (C : Fin 256) (C' : Fin 1024)
    (hC : C'.val = 512 * t.val + 0 + C.val) :
    (unit0 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t s).read 0 0 fits (ix2 r C) = ∑ R : Fin 7168, x1 (ix2 r R) * entry x2 x3 x4 x5 x6 R C' := by
  unfold unit0
  rw [trips3]
  exact read_st3 c i arg1 harg1 arg2 harg2 arg3 harg3 arg4 harg4 arg5 harg5 arg6 harg6 arg7 harg7 arg8 harg8 arg9 harg9 arg10 harg10 x1 x2 x3 x4 x5 x6 S9 S10 h9 h10 t _ s hs r C C' hC

include h9 h10 in
theorem read_unit1 (t : Fin k0_t2_loop.trips) (s : Mxu Ideal) (hs : s.Drained) (r : Fin 128) (C : Fin 256) (C' : Fin 1024)
    (hC : C'.val = 512 * t.val + 256 + C.val) :
    (unit1 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t s).read 1 0 fits (ix2 r C) = ∑ R : Fin 7168, x1 (ix2 r R) * entry x2 x3 x4 x5 x6 R C' := by
  unfold unit1
  rw [trips4]
  exact read_st4 c i arg1 harg1 arg2 harg2 arg3 harg3 arg4 harg4 arg5 harg5 arg6 harg6 arg7 harg7 arg8 harg8 arg9 harg9 arg10 harg10 x1 x2 x3 x4 x5 x6 S9 S10 h9 h10 t _ _ (drained0 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) t s hs) r C C' hC

/-- A store of 256 columns holds an index of the block at the index's place among the columns. -/
theorem columns_at (off : Fin 2 → Nat) (b : Nat) (ho : off = ![0, b]) (inb : ∀ a, off a + S128x256.size a ≤ S128x1024.size a)
    (r : Fin 128) (C : Fin 1024) (x : S128x256.Idx) (hx : (Rect.unit (s := S128x1024) off S128x256.size inb).emb x = ix2 r C) :
    ∃ Cx : Fin 256, x = ix2 r Cx ∧ C.val = b + Cx.val := by
  subst ho
  have h0 : 0 + 1 * (x 0).val = r.val := congrArg (fun y : S128x1024.Idx => (y 0).val) hx
  have h1 : b + 1 * (x 1).val = C.val := congrArg (fun y : S128x1024.Idx => (y 1).val) hx
  refine ⟨x 1, ?_, by omega⟩
  funext a
  match a with
  | ⟨0, _⟩ => exact Fin.ext (by show (x 0).val = r.val; omega)
  | ⟨1, _⟩ => rfl

include h9 h10 in
theorem all8 (r : Fin 128) (C : Fin 1024) : ∀ n, n ≤ k0_t2_loop.trips →
    View.AllAt (pieces8 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) (harg7.unread x7) n) (ix2 r C) (total x1 x2 x3 x4 x5 x6 x7 r C)
  | 0, _ => View.allAt_nil _ _
  | n + 1, hn => by
    have hn' : n < 2 := Nat.lt_of_lt_of_le hn (by decide)
    have hd := drained_stOuter (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) n
    rw [pieces8_succ (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) (harg7.unread x7) ⟨n, hn⟩]
    refine View.allAt_cons _ _ _ ?_ (View.allAt_cons _ _ _ ?_ (all8 r C n (Nat.le_of_lt hn)))
    · intro x hx
      obtain ⟨Cx, rfl, hC⟩ := columns_at _ _ (k0_off16_eq ⟨n, hn⟩ 1) _ r C x hx
      refine (pay8_apply _ _ r Cx).trans (congrArg₂ (· + ·) ?_ ?_)
      · exact read_unit1 c i arg1 harg1 arg2 harg2 arg3 harg3 arg4 harg4 arg5 harg5 arg6 harg6 arg7 harg7 arg8 harg8 arg9 harg9 arg10 harg10 x1 x2 x3 x4 x5 x6 S9 S10 h9 h10 ⟨n, hn⟩ _ hd r Cx C hC
      · exact read2 harg7 x7 _ _ 0 (k0_off15_eq ⟨n, hn⟩ 1) _ Cx r C r hC (Nat.zero_add _).symm
    · intro x hx
      obtain ⟨Cx, rfl, hC⟩ := columns_at _ _ (k0_off16_eq ⟨n, hn⟩ 0) _ r C x hx
      refine (pay5_apply _ _ r Cx).trans (congrArg₂ (· + ·) ?_ ?_)
      · exact read_unit0 c i arg1 harg1 arg2 harg2 arg3 harg3 arg4 harg4 arg5 harg5 arg6 harg6 arg7 harg7 arg8 harg8 arg9 harg9 arg10 harg10 x1 x2 x3 x4 x5 x6 S9 S10 h9 h10 ⟨n, hn⟩ _ hd r Cx C hC
      · exact read2 harg7 x7 _ _ 0 (k0_off15_eq ⟨n, hn⟩ 0) _ Cx r C r hC (Nat.zero_add _).symm

end

theorem out8_apply (r : Fin 128) (C : Fin 1024) :
    out8 (F := Ideal) c i arg1 harg1 arg2 harg2 arg3 harg3 arg4 harg4 arg5 harg5 arg6 harg6 arg7 harg7 arg8 harg8 arg9 harg9 arg10 harg10 x1 x2 x3 x4 x5 x6 x7 (ix2 r C) = total x1 x2 x3 x4 x5 x6 x7 r C := by
  have h9 := scr9_apply c i arg1 harg1 arg2 harg2 arg3 harg3 arg4 harg4 arg5 harg5 arg6 harg6 arg7 harg7 arg8 harg8 arg9 harg9 arg10 harg10 x3 x4
  have h10 := scr10_apply c i arg1 harg1 arg2 harg2 arg3 harg3 arg4 harg4 arg5 harg5 arg6 harg6 arg7 harg7 arg8 harg8 arg9 harg9 arg10 harg10 x3 x4
  have e : out8 (F := Ideal) c i arg1 harg1 arg2 harg2 arg3 harg3 arg4 harg4 arg5 harg5 arg6 harg6 arg7 harg7 arg8 harg8 arg9 harg9 arg10 harg10 x1 x2 x3 x4 x5 x6 x7 (ix2 r C) = View.canon (pieces8 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread (scr9 (F := Ideal) c i arg1 harg1 arg2 harg2 arg3 harg3 arg4 harg4 arg5 harg5 arg6 harg6 arg7 harg7 arg8 harg8 arg9 harg9 arg10 harg10 (harg3.unread x3) (harg4.unread x4))) (harg10.unread (scr10 (F := Ideal) c i arg1 harg1 arg2 harg2 arg3 harg3 arg4 harg4 arg5 harg5 arg6 harg6 arg7 harg7 arg8 harg8 arg9 harg9 arg10 harg10 (harg3.unread x3) (harg4.unread x4))) (harg7.unread x7) k0_t2_loop.trips) (ix2 r C) := rfl
  refine e.trans ?_
  generalize scr9 (F := Ideal) c i arg1 harg1 arg2 harg2 arg3 harg3 arg4 harg4 arg5 harg5 arg6 harg6 arg7 harg7 arg8 harg8 arg9 harg9 arg10 harg10 (harg3.unread x3) (harg4.unread x4) = S9 at h9 ⊢
  generalize scr10 (F := Ideal) c i arg1 harg1 arg2 harg2 arg3 harg3 arg4 harg4 arg5 harg5 arg6 harg6 arg7 harg7 arg8 harg8 arg9 harg9 arg10 harg10 (harg3.unread x3) (harg4.unread x4) = S10 at h10 ⊢
  exact View.canon_eq_of_allAt (Val := Elt Ideal) (pieces8 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) (harg7.unread x7) k0_t2_loop.trips) (ix2 r C) (total x1 x2 x3 x4 x5 x6 x7 r C)
    (cover8 (F := Ideal) c i arg1 harg1 arg2 harg2 arg3 harg3 arg4 harg4 arg5 harg5 arg6 harg6 arg7 harg7 arg8 harg8 arg9 harg9 arg10 harg10 (harg1.unread x1) (harg2.unread x2) (harg5.unread x5) (harg6.unread x6) (harg9.unread S9) (harg10.unread S10) (harg7.unread x7) (ix2 r C))
    (all8 c i arg1 harg1 arg2 harg2 arg3 harg3 arg4 harg4 arg5 harg5 arg6 harg6 arg7 harg7 arg8 harg8 arg9 harg9 arg10 harg10 x1 x2 x3 x4 x5 x6 x7 S9 S10 h9 h10 r C k0_t2_loop.trips (Nat.le_refl _))

end Cert.Proof.KernelIdeal

end
-- ==== Proof.ReferenceTerm.lean ====
/-
  The reference's result as a term of its arguments, in named parts.
-/
module

public import proofs.«01_k».proof.Proof.Gen.ReferenceIdeal.Run

@[expose] public section

noncomputable section

namespace Cert.Proof.ReferenceIdeal

open Cert.ReferenceIdeal Cert.ReferenceIdeal.Gen
open Idealize.ShloMosaic

variable {F : FTy → Type} [FloatOps F]

/-- The slots' index bytes, by window, slot and column. -/
def index (x5 : Vec F S16128x128 .i32) : Vec F S28x1x16x18432 .i32 :=
  (shapeCast _ (transpose S28x16x144x128 [1, 2, 0, 3] (shapeCast _ (andi (Host.shrsi (broadcastInDim S144x28x4x4x128 ![0, 1, 2, 3, 4] bcast_S144x28x4x1x128_S144x28x4x4x128_0_1_2_3_4 (shapeCast _ x5 shapeCasts_S16128x128_S144x28x4x1x128)) (broadcastInDim S144x28x4x4x128 ![0, 1, 2, 3, 4] bcast_S1x1x1x4x1_S144x28x4x4x128_0_1_2_3_4 (broadcastInDim S1x1x1x4x1 ![3, 4] bcast_S4x1_S1x1x1x4x1_3_4 (broadcastInDim S4x1 ![0] bcast_S4_S4x1_0 (muli (broadcastInDim S4 ![] bcast_S_S4 (constantI S_ 32 8#32)) (iotaInDim S4 32 0)))))) (broadcastInDim S144x28x4x4x128 ![] bcast_S_S144x28x4x4x128 (constantI S_ 32 255#32))) shapeCasts_S144x28x4x4x128_S144x28x16x128) transposes_S144x28x16x128_S28x16x144x128_1_2_0_3) shapeCasts_S28x16x144x128_S28x1x16x18432)

/-- The slots' values, by window, slot and column. -/
def value (x4 : Vec F S32256x128 .i32) : Vec F S28x1x16x18432 .bf16 :=
  (shapeCast _ (transpose S28x16x144x128 [1, 2, 0, 3] (shapeCast _ (transpose S144x28x8x2x128 [0, 1, 2, 4, 3] (bitcastToFloat (F := F) .bf16 (Host.bitcastConvertNarrow S144x28x8x128x2 16 (shapeCast _ x4 shapeCasts_S32256x128_S144x28x8x128) splits_S144x28x8x128_w32_S144x28x8x128x2_w16)) transposes_S144x28x8x128x2_S144x28x8x2x128_0_1_2_4_3) shapeCasts_S144x28x8x2x128_S144x28x16x128) transposes_S144x28x16x128_S28x16x144x128_1_2_0_3) shapeCasts_S28x16x144x128_S28x1x16x18432)

/-- The weights without outliers. -/
def dense (x1 : Vec F S3584x18432 .i8) (x2 : Vec F S448x18432 .bf16) (x3 : Vec F S448x18432 .i8) :
    Vec F S7168x18432 .bf16 :=
  (shapeCast _ (mulf (subf (sitofp .bf16 (shapeCast _ (concatenate S3584x2x18432 1 [⟨S3584x1x18432, (broadcastInDim S3584x1x18432 ![0, 2] bcast_S3584x18432_S3584x1x18432_0_2 (andi (extui 32 x1 natLt_8_32) (broadcastInDim S3584x18432 ![] bcast_S_S3584x18432 (constantI S_ 32 15#32))))⟩, ⟨S3584x1x18432, (broadcastInDim S3584x1x18432 ![0, 2] bcast_S3584x18432_S3584x1x18432_0_2 (andi (Host.shrsi (extui 32 x1 natLt_8_32) (broadcastInDim S3584x18432 ![] bcast_S_S3584x18432 (constantI S_ 32 4#32))) (broadcastInDim S3584x18432 ![] bcast_S_S3584x18432 (constantI S_ 32 15#32))))⟩] concatenates_S3584x1x18432_S3584x1x18432_S3584x2x18432_d1) shapeCasts_S3584x2x18432_S448x16x18432)) (broadcastInDim S448x16x18432 ![0, 1, 2] bcast_S448x1x18432_S448x16x18432_0_1_2 (broadcastInDim S448x1x18432 ![0, 2] bcast_S448x18432_S448x1x18432_0_2 (sitofp .bf16 (extui 32 x3 natLt_8_32))))) (broadcastInDim S448x16x18432 ![0, 1, 2] bcast_S448x1x18432_S448x16x18432_0_1_2 (broadcastInDim S448x1x18432 ![0, 2] bcast_S448x18432_S448x1x18432_0_2 x2))) shapeCasts_S448x16x18432_S7168x18432)

/-- What the tables add to the weights. -/
def outliers (x4 : Vec F S32256x128 .i32) (x5 : Vec F S16128x128 .i32) : Vec F S7168x18432 .bf16 :=
  (shapeCast _ (select (cmpi .eq (broadcastInDim S28x16x16x18432 ![0, 1, 2, 3] bcast_S28x1x16x18432_S28x16x16x18432_0_1_2_3 (index x5)) (broadcastInDim S28x16x16x18432 ![0, 1, 2, 3] bcast_S1x16x1x1_S28x16x16x18432_0_1_2_3 (broadcastInDim S1x16x1x1 ![1, 2, 3] bcast_S16x1x1_S1x16x1x1_1_2_3 (broadcastInDim S16x1x1 ![0] bcast_S16_S16x1x1_0 (addi (broadcastInDim S16 ![] bcast_S_S16 (constantI S_ 32 1#32)) (iotaInDim S16 32 0)))))) (broadcastInDim S28x16x16x18432 ![0, 1, 2, 3] bcast_S28x1x16x18432_S28x16x16x18432_0_1_2_3 (value x4)) (broadcastInDim S28x16x16x18432 ![] bcast_S_S28x16x16x18432 (constant S_ .bf16 0x0000#16))) shapeCasts_S28x16x16x18432_S7168x18432)

/-- The result. -/
def result (x0 : Vec F S128x7168 .bf16) (x1 : Vec F S3584x18432 .i8) (x2 : Vec F S448x18432 .bf16)
    (x3 : Vec F S448x18432 .i8) (x4 : Vec F S32256x128 .i32) (x5 : Vec F S16128x128 .i32)
    (x6 : Vec F S18432x128 .f32) : Vec F S128x18432 .bf16 :=
  truncf .bf16 (addf (Host.dotGeneral dot_S128x7168_S7168x18432_S128x18432_1_0_0_1_n_n none x0 (addf (dense x1 x2 x3) (outliers x4 x5))) (transpose S128x18432 [1, 0] x6 transposes_S18432x128_S128x18432_1_0)) bitsLt_bf16_f32

end Cert.Proof.ReferenceIdeal

end
-- ==== Proof.ReferenceValue.lean ====
/-
  The reference's result at an index, over the extended reals: the sum over the 7168 rows of the products of the activation
  and the weight's cell, plus the addend (untrusted, hand-written).
-/
module

public import proofs.«01_k».proof.Proof.ReferenceTerm
public import proofs.«01_k».proof.Proof.Cell
public import Idealize.ShloMosaic.Lib.BitcastConvert

@[expose] public section

set_option maxRecDepth 16384
set_option maxHeartbeats 1000000

noncomputable section

namespace Cert.Proof.ReferenceIdeal

open Cert.ReferenceIdeal Cert.ReferenceIdeal.Gen
open Idealize.ShloMosaic

theorem index_apply (x5 : S16128x128.Idx → BitVec 32) (k : Fin 28) (p : Fin 16) (n : Fin 18432) :
    index (F := Ideal) x5 (ix4 k 0 p n) = ((x5 (ix2 ⟨n.val / 128 * 112 + k.val * 4 + p.val / 4, by omega⟩ ⟨n.val % 128, by omega⟩)).extractLsb' (8 * (p.val % 4)) 8).setWidth 32 := by
  refine Eq.trans ?_ (mark_word _ (p.val % 4) (by omega))
  pointwise [index]

theorem half_eq (w : BitVec 32) (j : ℕ) : half w j = Ideal.ofBits .bf16 (w.extractLsb' (j * 16) 16) := by
  unfold half; rw [Nat.mul_comm]

theorem value_apply (x4 : S32256x128.Idx → BitVec 32) (k : Fin 28) (p : Fin 16) (n : Fin 18432) :
    value (F := Ideal) x4 (ix4 k 0 p n) = half (x4 (ix2 ⟨n.val / 128 * 224 + k.val * 8 + p.val / 2, by omega⟩ ⟨n.val % 128, by omega⟩)) (p.val % 2) := by
  rw [half_eq]
  pointwise [value]
  refine congrArg (fun l => Ideal.ofBits .bf16 (BitVec.extractLsb' (p.val % 2 * 16) 16 (x4 (ix2 _ l)))) ?_
  exact Fin.ext rfl

/-- The weight's cell at row `R`, column `n` of the whole arrays. -/
def weight (x1 : S3584x18432.Idx → BitVec 8) (x2 : S448x18432.Idx → EReal) (x3 : S448x18432.Idx → BitVec 8)
    (x4 : S32256x128.Idx → BitVec 32) (x5 : S16128x128.Idx → BitVec 32) (R : Fin 7168) (n : Fin 18432) : EReal :=
  cell (x1 (ix2 ⟨R.val / 2, by omega⟩ n)) (R.val % 2) (x3 (ix2 ⟨R.val / 16, by omega⟩ n)) (x2 (ix2 ⟨R.val / 16, by omega⟩ n))
    (x4 (ix2 ⟨n.val / 128 * 224 + R.val / 256 * 8 + R.val % 16 / 2, by omega⟩ ⟨n.val % 128, by omega⟩)) (R.val % 16 % 2)
    (x5 (ix2 ⟨n.val / 128 * 112 + R.val / 256 * 4 + R.val % 16 / 4, by omega⟩ ⟨n.val % 128, by omega⟩)) (R.val % 16 % 4) (R.val / 16 % 16)

theorem dense_apply (x1 : S3584x18432.Idx → BitVec 8) (x2 : S448x18432.Idx → EReal) (x3 : S448x18432.Idx → BitVec 8) (R : Fin 7168) (n : Fin 18432) :
    dense (F := Ideal) x1 x2 x3 (ix2 R n) = (code (x1 (ix2 ⟨R.val / 2, by omega⟩ n)) (R.val % 2) - num (x3 (ix2 ⟨R.val / 16, by omega⟩ n))) * x2 (ix2 ⟨R.val / 16, by omega⟩ n) := by
  have e : (⟨R.val / 16 * 8 + R.val % 16 / 2, by omega⟩ : Fin 3584) = ⟨R.val / 2, by omega⟩ := Fin.ext (by show R.val / 16 * 8 + R.val % 16 / 2 = R.val / 2; omega)
  have hz := num_word (x3 (ix2 ⟨R.val / 16, by omega⟩ n))
  by_cases h : R.val % 16 % 2 < 1
  · have h2 : R.val % 2 = 0 := by omega
    have hc := code_low (x1 (ix2 ⟨R.val / 2, by omega⟩ n))
    rw [h2, ← hc, ← hz, ← e]
    pointwise [dense]
    rw [dif_pos h]
    rfl
  · have h2 : R.val % 2 = 1 := by omega
    have hc := code_high (x1 (ix2 ⟨R.val / 2, by omega⟩ n))
    rw [h2, ← hc, ← hz, ← e]
    pointwise [dense]
    rw [dif_neg h]
    rfl

theorem select_eq (a b : BitVec 32) (u v : EReal) : Scalar.select (IntOp.cmpi .eq a b) u v = if a = b then u else v := by
  by_cases h : a = b
  · simp [Scalar.select, IntOp.cmpi, h]
  · have hb : (a == b) = false := by simpa using h
    simp [Scalar.select, IntOp.cmpi, h, hb]

theorem outliers_apply (x4 : S32256x128.Idx → BitVec 32) (x5 : S16128x128.Idx → BitVec 32) (R : Fin 7168) (n : Fin 18432) :
    outliers (F := Ideal) x4 x5 (ix2 R n) =
      if mark (x5 (ix2 ⟨n.val / 128 * 112 + R.val / 256 * 4 + R.val % 16 / 4, by omega⟩ ⟨n.val % 128, by omega⟩)) (R.val % 16 % 4) = R.val / 16 % 16 + 1
        then half (x4 (ix2 ⟨n.val / 128 * 224 + R.val / 256 * 8 + R.val % 16 / 2, by omega⟩ ⟨n.val % 128, by omega⟩)) (R.val % 16 % 2) else 0 := by
  have e : outliers (F := Ideal) x4 x5 (ix2 R n) = Scalar.select (IntOp.cmpi .eq (index (F := Ideal) x5 (ix4 ⟨R.val / 256, by omega⟩ 0 ⟨R.val % 16, by omega⟩ n)) (IntOp.addi 1#32 (BitVec.ofNat 32 (R.val / 16 % 16))))
      (value (F := Ideal) x4 (ix4 ⟨R.val / 256, by omega⟩ 0 ⟨R.val % 16, by omega⟩ n)) (0 : EReal) := by
    pointwise [outliers]
  rw [e, index_apply, value_apply]
  have hm := mark_eq_word (x5 (ix2 ⟨n.val / 128 * 112 + R.val / 256 * 4 + R.val % 16 / 4, by omega⟩ ⟨n.val % 128, by omega⟩)) (R.val % 16 % 4) (R.val / 16 % 16) (by omega)
  rw [select_eq]
  exact if_congr hm rfl rfl

theorem result_apply (x0 : S128x7168.Idx → EReal) (x1 : S3584x18432.Idx → BitVec 8) (x2 : S448x18432.Idx → EReal) (x3 : S448x18432.Idx → BitVec 8)
    (x4 : S32256x128.Idx → BitVec 32) (x5 : S16128x128.Idx → BitVec 32) (x6 : S18432x128.Idx → EReal) (r : Fin 128) (n : Fin 18432) :
    result (F := Ideal) x0 x1 x2 x3 x4 x5 x6 (ix2 r n) = (∑ R : Fin 7168, x0 (ix2 r R) * weight x1 x2 x3 x4 x5 R n) + x6 (ix2 n r) := by
  have e : result (F := Ideal) x0 x1 x2 x3 x4 x5 x6 (ix2 r n)
      = (∑ R : Fin 7168, x0 (ix2 r R) * (dense (F := Ideal) x1 x2 x3 (ix2 R n) + outliers (F := Ideal) x4 x5 (ix2 R n))) + x6 (ix2 n r) := by
    pointwise [result]
  rw [e]
  refine congrArg (· + x6 (ix2 n r)) (Finset.sum_congr rfl fun R _ => ?_)
  rw [dense_apply, outliers_apply]
  rfl

end Cert.Proof.ReferenceIdeal

end
-- ==== Proof.KernelIdealValue.lean ====
/-
  The kernel's output array, over the extended reals: it ends at the reference's result of the same arguments (untrusted,
  hand-written).
-/
module

public import proofs.«01_k».proof.Proof.KernelIdealRun
public import proofs.«01_k».proof.Proof.KernelIdealOut
public import proofs.«01_k».proof.Proof.ReferenceValue
public import Idealize.ShloMosaic.Lib.Pipeline.ValueKit

@[expose] public section

set_option maxRecDepth 16384
set_option maxHeartbeats 400000

noncomputable section

namespace Cert.Proof.KernelIdeal

open Cert.KernelIdeal Cert.KernelIdeal.Gen
open Idealize.ShloMosaic Idealize.ShloMosaic.TcCoe

/-- Column `C` of block `t` among all the columns. -/
def columnOf (t : Fin 18) (C : Fin 1024) : Fin 18432 := ⟨t.val * 1024 + C.val, by omega⟩

/-- The cell of a block is the cell of the whole arrays, at the block's columns. -/
theorem entry_eq_weight (t : Fin 18)
    (x2 : S3584x1024.Idx → BitVec 8) (x3 : S448x1024.Idx → EReal) (x4 : S448x1024.Idx → BitVec 8)
    (x5 : S1792x128.Idx → BitVec 32) (x6 : S896x128.Idx → BitVec 32)
    (y1 : S3584x18432.Idx → BitVec 8) (y2 : S448x18432.Idx → EReal) (y3 : S448x18432.Idx → BitVec 8)
    (y4 : S32256x128.Idx → BitVec 32) (y5 : S16128x128.Idx → BitVec 32)
    (h2 : ∀ (a : Fin 3584) (C : Fin 1024), x2 (ix2 a C) = y1 (ix2 a (columnOf t C)))
    (h3 : ∀ (a : Fin 448) (C : Fin 1024), x3 (ix2 a C) = y2 (ix2 a (columnOf t C)))
    (h4 : ∀ (a : Fin 448) (C : Fin 1024), x4 (ix2 a C) = y3 (ix2 a (columnOf t C)))
    (h5 : ∀ (a : Fin 1792) (l : Fin 128), x5 (ix2 a l) = y4 (ix2 ⟨t.val * 1792 + a.val, by omega⟩ l))
    (h6 : ∀ (a : Fin 896) (l : Fin 128), x6 (ix2 a l) = y5 (ix2 ⟨t.val * 896 + a.val, by omega⟩ l))
    (R : Fin 7168) (C : Fin 1024) :
    entry x2 x3 x4 x5 x6 R C = ReferenceIdeal.weight y1 y2 y3 y4 y5 R (columnOf t C) := by
  unfold entry ReferenceIdeal.weight
  rw [h2, h3, h4, h5, h6]
  have e5 : y4 (ix2 ⟨t.val * 1792 + (224 * (C.val / 128) + 8 * (R.val / 256) + R.val % 16 / 2), by omega⟩ ⟨C.val % 128, by omega⟩)
      = y4 (ix2 ⟨(columnOf t C).val / 128 * 224 + R.val / 256 * 8 + R.val % 16 / 2, by have := (columnOf t C).isLt; omega⟩ ⟨(columnOf t C).val % 128, by omega⟩) :=
    congrArg y4 (ix2_congr (by show t.val * 1792 + (224 * (C.val / 128) + 8 * (R.val / 256) + R.val % 16 / 2) = (t.val * 1024 + C.val) / 128 * 224 + R.val / 256 * 8 + R.val % 16 / 2; omega)
      (by show C.val % 128 = (t.val * 1024 + C.val) % 128; omega))
  have e6 : y5 (ix2 ⟨t.val * 896 + (112 * (C.val / 128) + 4 * (R.val / 256) + R.val % 16 / 4), by omega⟩ ⟨C.val % 128, by omega⟩)
      = y5 (ix2 ⟨(columnOf t C).val / 128 * 112 + R.val / 256 * 4 + R.val % 16 / 4, by have := (columnOf t C).isLt; omega⟩ ⟨(columnOf t C).val % 128, by omega⟩) :=
    congrArg y5 (ix2_congr (by show t.val * 896 + (112 * (C.val / 128) + 4 * (R.val / 256) + R.val % 16 / 4) = (t.val * 1024 + C.val) / 128 * 112 + R.val / 256 * 4 + R.val % 16 / 4; omega)
      (by show C.val % 128 = (t.val * 1024 + C.val) % 128; omega))
  exact congrArg₂ (fun v w => cell _ _ _ _ v _ w _ _) e5 e6

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, t.val] := (by decide +kernel : ∀ t : Fin grid0.N, _)

theorem points : cfg0.N = 18 := by decide +kernel

/-- A grid point among eighteen. -/
def point (t : Fin cfg0.N) : Fin 18 := t.cast points

theorem blk0 (c : Dev nD) (t : Fin cfg0.N) (r : Fin 128) (R : Fin 7168) :
    iblk m c 0 t (ix2 r R) = m ((c : Thread nD τ).loc main_arg0) (ix2 r R) := by
  blk_ext [iblk, V, idx0 t]
theorem blk1 (c : Dev nD) (t : Fin cfg0.N) (a : Fin 3584) (C : Fin 1024) :
    iblk m c 1 t (ix2 a C) = m ((c : Thread nD τ).loc main_arg1) (ix2 a (columnOf (point t) C)) := by
  blk_ext [iblk, V, idx1 t, columnOf, point]
  rfl
theorem blk2 (c : Dev nD) (t : Fin cfg0.N) (a : Fin 448) (C : Fin 1024) :
    iblk m c 2 t (ix2 a C) = m ((c : Thread nD τ).loc main_arg2) (ix2 a (columnOf (point t) C)) := by
  blk_ext [iblk, V, idx2 t, columnOf, point]
  rfl
theorem blk3 (c : Dev nD) (t : Fin cfg0.N) (a : Fin 448) (C : Fin 1024) :
    iblk m c 3 t (ix2 a C) = m ((c : Thread nD τ).loc main_arg3) (ix2 a (columnOf (point t) C)) := by
  blk_ext [iblk, V, idx3 t, columnOf, point]
  rfl
theorem blk4 (c : Dev nD) (t : Fin cfg0.N) (a : Fin 1792) (l : Fin 128) :
    iblk m c 4 t (ix2 a l) = m ((c : Thread nD τ).loc main_arg4) (ix2 (⟨(point t).val * 1792 + a.val, by omega⟩ : Fin 32256) l) := by
  blk_ext [iblk, V, idx4 t, point]
  rfl
theorem blk5 (c : Dev nD) (t : Fin cfg0.N) (a : Fin 896) (l : Fin 128) :
    iblk m c 5 t (ix2 a l) = m ((c : Thread nD τ).loc main_arg5) (ix2 (⟨(point t).val * 896 + a.val, by omega⟩ : Fin 16128) l) := by
  blk_ext [iblk, V, idx5 t, point]
  rfl
theorem blk6 (c : Dev nD) (t : Fin cfg0.N) (C : Fin 1024) (r : Fin 128) :
    iblk m c 6 t (ix2 C r) = m ((c : Thread nD τ).loc main_arg6) (ix2 (columnOf (point t) C) r) := by
  blk_ext [iblk, V, idx6 t, columnOf, point]
  rfl

/-- The reference's result of the arguments' launch contents. -/
def expected (c : Dev nD) : S128x18432.Idx → EReal :=
  ReferenceIdeal.result (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- What the body leaves at grid point `t`, at an entry of the block. -/
theorem outBlk_apply (c : Dev nD) (t : Fin cfg0.N) (r : Fin 128) (C : Fin 1024) :
    outBlk m c t (ix2 r C) = expected m c (ix2 r (columnOf (point t) C)) := by
  unfold outBlk
  refine (out8_apply c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) r C).trans ?_
  refine Eq.trans ?_ (ReferenceIdeal.result_apply (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) r (columnOf (point t) C)).symm
  refine congrArg₂ (· + ·) (Finset.sum_congr rfl fun R _ => congrArg₂ (· * ·) (blk0 m c t r R) ?_) (blk6 m c t C r)
  exact entry_eq_weight (point t) (iblk m c 1 t) (iblk m c 2 t) (iblk m c 3 t) (iblk m c 4 t) (iblk m c 5 t)
    (m ((c : Thread nD τ).loc main_arg1)) (m ((c : Thread nD τ).loc main_arg2)) (m ((c : Thread nD τ).loc main_arg3)) (m ((c : Thread nD τ).loc main_arg4)) (m ((c : Thread nD τ).loc main_arg5))
    (blk1 m c t) (blk2 m c t) (blk3 m c t) (blk4 m c t) (blk5 m c t) R C

/-- The output array ends at the reference's result. -/
theorem final (c : Dev nD) : (dats m 0 c).arrAt 7 cfg0.N = expected m c := by
  refine (dats m 0 c).arrAt_eq_of_covers 7 _ (by decide +kernel) fun t hf y => ?_
  blk_simp
  rw [after0_7]
  obtain ⟨r, C, rfl⟩ : ∃ (r : Fin 128) (C : Fin 1024), y = ix2 r C := ⟨y 0, y 1, by
    funext a
    match a with
    | ⟨0, _⟩ => rfl
    | ⟨1, _⟩ => rfl⟩
  refine (outBlk_apply m c t r C).trans (congrArg (expected m c) ?_)
  blk_ext [idx7 t, columnOf, point]
  rfl

end Cert.Proof.KernelIdeal

end
-- ==== Proof.lean ====
/-
  The proof of the claims: the programs' facts are the generated ones, the frames of both kernels are in
  `Proof/KernelRun.lean` and `Proof/KernelIdealRun.lean`, the reference's is generated, the kernel's idealization
  rests on the rule for two bf16 values in one word, and the two idealizations end at equal results by
  `Proof/KernelIdealValue.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import Idealize.ShloMosaic.Lib.Bf16Pair
public import Idealize.ShloMosaic.Lib.Bf16PairInverse
public import Idealize.ShloMosaic.Lib.Claim

@[expose] public section

noncomputable section

namespace Cert.Proof

open Idealize.ShloMosaic Idealize.SL.Sem

/-- Two bf16 values in one word, at the shapes the kernel uses. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- The reference is host operations alone; it declares no semaphore. -/
theorem ref_frame [Cert.ReferenceIdeal.Facts] : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's output array holds the reference's result of the same arguments, over the extended reals. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => KernelIdeal.expected m c, ?_, ?_⟩
  · refine (θ_run Cert.KernelIdeal.defs _ _).mono (fun r h c => ?_)
      (θ_run_and (KernelIdeal.run_main (F := Ideal) m g) (KernelIdeal.unchanged (F := Ideal) m g))
    exact ⟨(h.1.out_eq c 7).trans (KernelIdeal.final m c), h.2 c⟩
  · refine (θ_run Cert.ReferenceIdeal.defs _ _).mono (fun r h c => ?_) (Cert.ReferenceIdeal.Value.run (F := Ideal) m' g')
    refine ⟨(h c).1.trans ?_, (h c).2⟩
    obtain ⟨e0, e1, e2, e3, e4, e5, e6⟩ := hm c
    rw [e0, e1, e2, e3, e4, e5, e6]
    rfl

theorem claim : Cert.Claim := ⟨Cert.Kernel.Gen.facts, Cert.KernelIdeal.Gen.facts, Cert.ReferenceIdeal.Gen.facts,
  fun m ρ _ => Kernel.frame m ρ, fun m ρ _ => KernelIdeal.frame m ρ, ref_frame, preserves,
  algebraic⟩

end Cert.Proof

end
